-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxKernelIdeal_finite_gains [hPre_finite_gains : Cert.Pre_finite_gains.Facts] (m : (ℓ : Loc Cert.CtxKernelIdeal.nD Cert.CtxKernelIdeal.τ Cert.CtxKernelIdeal.sig) → Buf (Elt Ideal) ℓ) : Prop :=
  ∀ c : Dev Cert.CtxKernelIdeal.nD,
    (Cert.Pre_finite_gains.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2))).1 = (fun _ => 1#1)
    ∧ (Cert.Pre_finite_gains.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2))).2 = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_gains [hPre_finite_gains : Cert.Pre_finite_gains.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_gains.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2))).1 = (fun _ => 1#1)
    ∧ (Cert.Pre_finite_gains.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2))).2 = (fun _ => 1#1)

def Pre_MoeKernel [hPre_tables_in_range : Cert.Pre_tables_in_range.Facts] (m : (ℓ : Loc Cert.MoeKernel.nD Cert.MoeKernel.τ Cert.MoeKernel.sig) → Buf (Elt Bits) ℓ) : Prop :=
  ∀ c : Dev Cert.MoeKernel.nD,
    (Cert.Pre_tables_in_range.fn (F := Bits) (m ((c.tc : Thread Cert.MoeKernel.nD Cert.MoeKernel.τ).loc Cert.MoeKernel.main_arg0)) (m ((c.tc : Thread Cert.MoeKernel.nD Cert.MoeKernel.τ).loc Cert.MoeKernel.main_arg1)) (m ((c.tc : Thread Cert.MoeKernel.nD Cert.MoeKernel.τ).loc Cert.MoeKernel.main_arg2)) (m ((c.tc : Thread Cert.MoeKernel.nD Cert.MoeKernel.τ).loc Cert.MoeKernel.main_arg3)) (m ((c.tc : Thread Cert.MoeKernel.nD Cert.MoeKernel.τ).loc Cert.MoeKernel.main_arg4)) (m ((c.tc : Thread Cert.MoeKernel.nD Cert.MoeKernel.τ).loc Cert.MoeKernel.main_arg5))).1 = (fun _ => 1#1)
    ∧ (Cert.Pre_tables_in_range.fn (F := Bits) (m ((c.tc : Thread Cert.MoeKernel.nD Cert.MoeKernel.τ).loc Cert.MoeKernel.main_arg0)) (m ((c.tc : Thread Cert.MoeKernel.nD Cert.MoeKernel.τ).loc Cert.MoeKernel.main_arg1)) (m ((c.tc : Thread Cert.MoeKernel.nD Cert.MoeKernel.τ).loc Cert.MoeKernel.main_arg2)) (m ((c.tc : Thread Cert.MoeKernel.nD Cert.MoeKernel.τ).loc Cert.MoeKernel.main_arg3)) (m ((c.tc : Thread Cert.MoeKernel.nD Cert.MoeKernel.τ).loc Cert.MoeKernel.main_arg4)) (m ((c.tc : Thread Cert.MoeKernel.nD Cert.MoeKernel.τ).loc Cert.MoeKernel.main_arg5))).2.1 = (fun _ => 1#1)
    ∧ (Cert.Pre_tables_in_range.fn (F := Bits) (m ((c.tc : Thread Cert.MoeKernel.nD Cert.MoeKernel.τ).loc Cert.MoeKernel.main_arg0)) (m ((c.tc : Thread Cert.MoeKernel.nD Cert.MoeKernel.τ).loc Cert.MoeKernel.main_arg1)) (m ((c.tc : Thread Cert.MoeKernel.nD Cert.MoeKernel.τ).loc Cert.MoeKernel.main_arg2)) (m ((c.tc : Thread Cert.MoeKernel.nD Cert.MoeKernel.τ).loc Cert.MoeKernel.main_arg3)) (m ((c.tc : Thread Cert.MoeKernel.nD Cert.MoeKernel.τ).loc Cert.MoeKernel.main_arg4)) (m ((c.tc : Thread Cert.MoeKernel.nD Cert.MoeKernel.τ).loc Cert.MoeKernel.main_arg5))).2.2 = (fun _ => 1#1)

def Pre_MoeKernelIdeal [hPre_tables_in_range : Cert.Pre_tables_in_range.Facts] (m : (ℓ : Loc Cert.MoeKernelIdeal.nD Cert.MoeKernelIdeal.τ Cert.MoeKernelIdeal.sig) → Buf (Elt Ideal) ℓ) : Prop :=
  ∀ c : Dev Cert.MoeKernelIdeal.nD,
    (Cert.Pre_tables_in_range.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5))).1 = (fun _ => 1#1)
    ∧ (Cert.Pre_tables_in_range.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5))).2.1 = (fun _ => 1#1)
    ∧ (Cert.Pre_tables_in_range.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5))).2.2 = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_tables_in_range [hPre_tables_in_range : Cert.Pre_tables_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_tables_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))).1 = (fun _ => 1#1)
    ∧ (Cert.Pre_tables_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))).2.1 = (fun _ => 1#1)
    ∧ (Cert.Pre_tables_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))).2.2 = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_LateProjKernel (m : (ℓ : Loc Cert.LateProjKernel.nD Cert.LateProjKernel.τ Cert.LateProjKernel.sig) → Buf (Elt Bits) ℓ) : Prop :=
  True

def Pre_LateProjKernelIdeal (m : (ℓ : Loc Cert.LateProjKernelIdeal.nD Cert.LateProjKernelIdeal.τ Cert.LateProjKernelIdeal.sig) → Buf (Elt Ideal) ℓ) : Prop :=
  True

def Pre_LateProjReferenceIdeal (m : (ℓ : Loc Cert.LateProjReferenceIdeal.nD Cert.LateProjReferenceIdeal.τ Cert.LateProjReferenceIdeal.sig) → Buf (Elt Ideal) ℓ) : Prop :=
  True

def Pre_LateMergeKernel (m : (ℓ : Loc Cert.LateMergeKernel.nD Cert.LateMergeKernel.τ Cert.LateMergeKernel.sig) → Buf (Elt Bits) ℓ) : Prop :=
  True

def Pre_LateMergeKernelIdeal (m : (ℓ : Loc Cert.LateMergeKernelIdeal.nD Cert.LateMergeKernelIdeal.τ Cert.LateMergeKernelIdeal.sig) → Buf (Elt Ideal) ℓ) : Prop :=
  True

def Pre_LateMergeReferenceIdeal (m : (ℓ : Loc Cert.LateMergeReferenceIdeal.nD Cert.LateMergeReferenceIdeal.τ Cert.LateMergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1)
      ∧ r.2.mem ((c.tc : Thread Cert.CtxKernel.nD Cert.CtxKernel.τ).loc Cert.CtxKernel.main_arg2) = m ((c.tc : Thread Cert.CtxKernel.nD Cert.CtxKernel.τ).loc Cert.CtxKernel.main_arg2))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2))
      ∧ r.2.sem = fun _ => 0)

def quiescent_CtxKernelIdeal_pre_finite_gains [hCtxKernelIdeal : Cert.CtxKernelIdeal.Facts] [hPre_finite_gains : Cert.Pre_finite_gains.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal_finite_gains m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_CtxReferenceIdeal_pre_finite_gains [hCtxReferenceIdeal : Cert.CtxReferenceIdeal.Facts] [hPre_finite_gains : Cert.Pre_finite_gains.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_gains m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_MoeKernel [hMoeKernel : Cert.MoeKernel.Facts] [hPre_tables_in_range : Cert.Pre_tables_in_range.Facts] : Prop :=
  ∀ (m : (ℓ : Loc Cert.MoeKernel.nD Cert.MoeKernel.τ Cert.MoeKernel.sig) → Buf (Elt Bits) ℓ) (g : Dev Cert.MoeKernel.nD → PrngReg), Pre_MoeKernel m →
    θ_run (Cert.MoeKernel.defs (F := Bits)) (onTc (τ := Cert.MoeKernel.τ) (Cert.MoeKernel.main (F := Bits))) ⟨m, fun _ => 0, g⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4)
      ∧ r.2.mem ((c.tc : Thread Cert.MoeKernel.nD Cert.MoeKernel.τ).loc Cert.MoeKernel.main_arg5) = m ((c.tc : Thread Cert.MoeKernel.nD Cert.MoeKernel.τ).loc Cert.MoeKernel.main_arg5))
      ∧ r.2.sem = fun _ => 0)

def quiescent_MoeKernelIdeal [hMoeKernelIdeal : Cert.MoeKernelIdeal.Facts] [hPre_tables_in_range : Cert.Pre_tables_in_range.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg), Pre_MoeKernelIdeal m →
    θ_run (Cert.MoeKernelIdeal.defs (F := Ideal)) (onTc (τ := Cert.MoeKernelIdeal.τ) (Cert.MoeKernelIdeal.main (F := Ideal))) ⟨m, fun _ => 0, g⟩ (fun r => (∀ c : Dev Cert.MoeKernelIdeal.nD,
      r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
      ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
      ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
      ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
      ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
      ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_MoeReferenceIdeal_pre_tables_in_range [hMoeReferenceIdeal : Cert.MoeReferenceIdeal.Facts] [hPre_tables_in_range : Cert.Pre_tables_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_tables_in_range m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_LateProjKernel [hLateProjKernel : Cert.LateProjKernel.Facts] : Prop :=
  ∀ (m : (ℓ : Loc Cert.LateProjKernel.nD Cert.LateProjKernel.τ Cert.LateProjKernel.sig) → Buf (Elt Bits) ℓ) (g : Dev Cert.LateProjKernel.nD → PrngReg), Pre_LateProjKernel m →
    θ_run (Cert.LateProjKernel.defs (F := Bits)) (onTc (τ := Cert.LateProjKernel.τ) (Cert.LateProjKernel.main (F := Bits))) ⟨m, fun _ => 0, g⟩ (fun r => (∀ c : Dev Cert.LateProjKernel.nD,
      r.2.mem ((c.tc : Thread Cert.LateProjKernel.nD Cert.LateProjKernel.τ).loc Cert.LateProjKernel.main_arg0) = m ((c.tc : Thread Cert.LateProjKernel.nD Cert.LateProjKernel.τ).loc Cert.LateProjKernel.main_arg0)
      ∧ r.2.mem ((c.tc : Thread Cert.LateProjKernel.nD Cert.LateProjKernel.τ).loc Cert.LateProjKernel.main_arg1) = m ((c.tc : Thread Cert.LateProjKernel.nD Cert.LateProjKernel.τ).loc Cert.LateProjKernel.main_arg1)
      ∧ r.2.mem ((c.tc : Thread Cert.LateProjKernel.nD Cert.LateProjKernel.τ).loc Cert.LateProjKernel.main_arg2) = m ((c.tc : Thread Cert.LateProjKernel.nD Cert.LateProjKernel.τ).loc Cert.LateProjKernel.main_arg2))
      ∧ r.2.sem = fun _ => 0)

def quiescent_LateProjKernelIdeal [hLateProjKernelIdeal : Cert.LateProjKernelIdeal.Facts] : Prop :=
  ∀ (m : (ℓ : Loc Cert.LateProjKernelIdeal.nD Cert.LateProjKernelIdeal.τ Cert.LateProjKernelIdeal.sig) → Buf (Elt Ideal) ℓ) (g : Dev Cert.LateProjKernelIdeal.nD → PrngReg), Pre_LateProjKernelIdeal m →
    θ_run (Cert.LateProjKernelIdeal.defs (F := Ideal)) (onTc (τ := Cert.LateProjKernelIdeal.τ) (Cert.LateProjKernelIdeal.main (F := Ideal))) ⟨m, fun _ => 0, g⟩ (fun r => (∀ c : Dev Cert.LateProjKernelIdeal.nD,
      r.2.mem ((c.tc : Thread Cert.LateProjKernelIdeal.nD Cert.LateProjKernelIdeal.τ).loc Cert.LateProjKernelIdeal.main_arg0) = m ((c.tc : Thread Cert.LateProjKernelIdeal.nD Cert.LateProjKernelIdeal.τ).loc Cert.LateProjKernelIdeal.main_arg0)
      ∧ r.2.mem ((c.tc : Thread Cert.LateProjKernelIdeal.nD Cert.LateProjKernelIdeal.τ).loc Cert.LateProjKernelIdeal.main_arg1) = m ((c.tc : Thread Cert.LateProjKernelIdeal.nD Cert.LateProjKernelIdeal.τ).loc Cert.LateProjKernelIdeal.main_arg1)
      ∧ r.2.mem ((c.tc : Thread Cert.LateProjKernelIdeal.nD Cert.LateProjKernelIdeal.τ).loc Cert.LateProjKernelIdeal.main_arg2) = m ((c.tc : Thread Cert.LateProjKernelIdeal.nD Cert.LateProjKernelIdeal.τ).loc Cert.LateProjKernelIdeal.main_arg2))
      ∧ r.2.sem = fun _ => 0)

def quiescent_LateProjReferenceIdeal [hLateProjReferenceIdeal : Cert.LateProjReferenceIdeal.Facts] : Prop :=
  ∀ (m : (ℓ : Loc Cert.LateProjReferenceIdeal.nD Cert.LateProjReferenceIdeal.τ Cert.LateProjReferenceIdeal.sig) → Buf (Elt Ideal) ℓ) (g : Dev Cert.LateProjReferenceIdeal.nD → PrngReg), Pre_LateProjReferenceIdeal m →
    θ_run (Cert.LateProjReferenceIdeal.defs (F := Ideal)) (onTc (τ := Cert.LateProjReferenceIdeal.τ) (Cert.LateProjReferenceIdeal.main (F := Ideal))) ⟨m, fun _ => 0, g⟩ (fun r => (∀ c : Dev Cert.LateProjReferenceIdeal.nD,
      r.2.mem ((c.tc : Thread Cert.LateProjReferenceIdeal.nD Cert.LateProjReferenceIdeal.τ).loc Cert.LateProjReferenceIdeal.main_arg0) = m ((c.tc : Thread Cert.LateProjReferenceIdeal.nD Cert.LateProjReferenceIdeal.τ).loc Cert.LateProjReferenceIdeal.main_arg0)
      ∧ r.2.mem ((c.tc : Thread Cert.LateProjReferenceIdeal.nD Cert.LateProjReferenceIdeal.τ).loc Cert.LateProjReferenceIdeal.main_arg1) = m ((c.tc : Thread Cert.LateProjReferenceIdeal.nD Cert.LateProjReferenceIdeal.τ).loc Cert.LateProjReferenceIdeal.main_arg1)
      ∧ r.2.mem ((c.tc : Thread Cert.LateProjReferenceIdeal.nD Cert.LateProjReferenceIdeal.τ).loc Cert.LateProjReferenceIdeal.main_arg2) = m ((c.tc : Thread Cert.LateProjReferenceIdeal.nD Cert.LateProjReferenceIdeal.τ).loc Cert.LateProjReferenceIdeal.main_arg2))
      ∧ r.2.sem = fun _ => 0)

def quiescent_LateMergeKernel [hLateMergeKernel : Cert.LateMergeKernel.Facts] : Prop :=
  ∀ (m : (ℓ : Loc Cert.LateMergeKernel.nD Cert.LateMergeKernel.τ Cert.LateMergeKernel.sig) → Buf (Elt Bits) ℓ) (g : Dev Cert.LateMergeKernel.nD → PrngReg), Pre_LateMergeKernel m →
    θ_run (Cert.LateMergeKernel.defs (F := Bits)) (onTc (τ := Cert.LateMergeKernel.τ) (Cert.LateMergeKernel.main (F := Bits))) ⟨m, fun _ => 0, g⟩ (fun r => (∀ c : Dev Cert.LateMergeKernel.nD,
      r.2.mem ((c.tc : Thread Cert.LateMergeKernel.nD Cert.LateMergeKernel.τ).loc Cert.LateMergeKernel.main_arg0) = m ((c.tc : Thread Cert.LateMergeKernel.nD Cert.LateMergeKernel.τ).loc Cert.LateMergeKernel.main_arg0)
      ∧ r.2.mem ((c.tc : Thread Cert.LateMergeKernel.nD Cert.LateMergeKernel.τ).loc Cert.LateMergeKernel.main_arg1) = m ((c.tc : Thread Cert.LateMergeKernel.nD Cert.LateMergeKernel.τ).loc Cert.LateMergeKernel.main_arg1)
      ∧ r.2.mem ((c.tc : Thread Cert.LateMergeKernel.nD Cert.LateMergeKernel.τ).loc Cert.LateMergeKernel.main_arg2) = m ((c.tc : Thread Cert.LateMergeKernel.nD Cert.LateMergeKernel.τ).loc Cert.LateMergeKernel.main_arg2)
      ∧ r.2.mem ((c.tc : Thread Cert.LateMergeKernel.nD Cert.LateMergeKernel.τ).loc Cert.LateMergeKernel.main_arg3) = m ((c.tc : Thread Cert.LateMergeKernel.nD Cert.LateMergeKernel.τ).loc Cert.LateMergeKernel.main_arg3)
      ∧ r.2.mem ((c.tc : Thread Cert.LateMergeKernel.nD Cert.LateMergeKernel.τ).loc Cert.LateMergeKernel.main_arg4) = m ((c.tc : Thread Cert.LateMergeKernel.nD Cert.LateMergeKernel.τ).loc Cert.LateMergeKernel.main_arg4)
      ∧ r.2.mem ((c.tc : Thread Cert.LateMergeKernel.nD Cert.LateMergeKernel.τ).loc Cert.LateMergeKernel.main_arg5) = m ((c.tc : Thread Cert.LateMergeKernel.nD Cert.LateMergeKernel.τ).loc Cert.LateMergeKernel.main_arg5)
      ∧ r.2.mem ((c.tc : Thread Cert.LateMergeKernel.nD Cert.LateMergeKernel.τ).loc Cert.LateMergeKernel.main_arg6) = m ((c.tc : Thread Cert.LateMergeKernel.nD Cert.LateMergeKernel.τ).loc Cert.LateMergeKernel.main_arg6))
      ∧ r.2.sem = fun _ => 0)

def quiescent_LateMergeKernelIdeal [hLateMergeKernelIdeal : Cert.LateMergeKernelIdeal.Facts] : Prop :=
  ∀ (m : (ℓ : Loc Cert.LateMergeKernelIdeal.nD Cert.LateMergeKernelIdeal.τ Cert.LateMergeKernelIdeal.sig) → Buf (Elt Ideal) ℓ) (g : Dev Cert.LateMergeKernelIdeal.nD → PrngReg), Pre_LateMergeKernelIdeal m →
    θ_run (Cert.LateMergeKernelIdeal.defs (F := Ideal)) (onTc (τ := Cert.LateMergeKernelIdeal.τ) (Cert.LateMergeKernelIdeal.main (F := Ideal))) ⟨m, fun _ => 0, g⟩ (fun r => (∀ c : Dev Cert.LateMergeKernelIdeal.nD,
      r.2.mem ((c.tc : Thread Cert.LateMergeKernelIdeal.nD Cert.LateMergeKernelIdeal.τ).loc Cert.LateMergeKernelIdeal.main_arg0) = m ((c.tc : Thread Cert.LateMergeKernelIdeal.nD Cert.LateMergeKernelIdeal.τ).loc Cert.LateMergeKernelIdeal.main_arg0)
      ∧ r.2.mem ((c.tc : Thread Cert.LateMergeKernelIdeal.nD Cert.LateMergeKernelIdeal.τ).loc Cert.LateMergeKernelIdeal.main_arg1) = m ((c.tc : Thread Cert.LateMergeKernelIdeal.nD Cert.LateMergeKernelIdeal.τ).loc Cert.LateMergeKernelIdeal.main_arg1)
      ∧ r.2.mem ((c.tc : Thread Cert.LateMergeKernelIdeal.nD Cert.LateMergeKernelIdeal.τ).loc Cert.LateMergeKernelIdeal.main_arg2) = m ((c.tc : Thread Cert.LateMergeKernelIdeal.nD Cert.LateMergeKernelIdeal.τ).loc Cert.LateMergeKernelIdeal.main_arg2)
      ∧ r.2.mem ((c.tc : Thread Cert.LateMergeKernelIdeal.nD Cert.LateMergeKernelIdeal.τ).loc Cert.LateMergeKernelIdeal.main_arg3) = m ((c.tc : Thread Cert.LateMergeKernelIdeal.nD Cert.LateMergeKernelIdeal.τ).loc Cert.LateMergeKernelIdeal.main_arg3)
      ∧ r.2.mem ((c.tc : Thread Cert.LateMergeKernelIdeal.nD Cert.LateMergeKernelIdeal.τ).loc Cert.LateMergeKernelIdeal.main_arg4) = m ((c.tc : Thread Cert.LateMergeKernelIdeal.nD Cert.LateMergeKernelIdeal.τ).loc Cert.LateMergeKernelIdeal.main_arg4)
      ∧ r.2.mem ((c.tc : Thread Cert.LateMergeKernelIdeal.nD Cert.LateMergeKernelIdeal.τ).loc Cert.LateMergeKernelIdeal.main_arg5) = m ((c.tc : Thread Cert.LateMergeKernelIdeal.nD Cert.LateMergeKernelIdeal.τ).loc Cert.LateMergeKernelIdeal.main_arg5)
      ∧ r.2.mem ((c.tc : Thread Cert.LateMergeKernelIdeal.nD Cert.LateMergeKernelIdeal.τ).loc Cert.LateMergeKernelIdeal.main_arg6) = m ((c.tc : Thread Cert.LateMergeKernelIdeal.nD Cert.LateMergeKernelIdeal.τ).loc Cert.LateMergeKernelIdeal.main_arg6))
      ∧ r.2.sem = fun _ => 0)

def quiescent_LateMergeReferenceIdeal [hLateMergeReferenceIdeal : Cert.LateMergeReferenceIdeal.Facts] : Prop :=
  ∀ (m : (ℓ : Loc Cert.LateMergeReferenceIdeal.nD Cert.LateMergeReferenceIdeal.τ Cert.LateMergeReferenceIdeal.sig) → Buf (Elt Ideal) ℓ) (g : Dev Cert.LateMergeReferenceIdeal.nD → PrngReg), Pre_LateMergeReferenceIdeal m →
    θ_run (Cert.LateMergeReferenceIdeal.defs (F := Ideal)) (onTc (τ := Cert.LateMergeReferenceIdeal.τ) (Cert.LateMergeReferenceIdeal.main (F := Ideal))) ⟨m, fun _ => 0, g⟩ (fun r => (∀ c : Dev Cert.LateMergeReferenceIdeal.nD,
      r.2.mem ((c.tc : Thread Cert.LateMergeReferenceIdeal.nD Cert.LateMergeReferenceIdeal.τ).loc Cert.LateMergeReferenceIdeal.main_arg0) = m ((c.tc : Thread Cert.LateMergeReferenceIdeal.nD Cert.LateMergeReferenceIdeal.τ).loc Cert.LateMergeReferenceIdeal.main_arg0)
      ∧ r.2.mem ((c.tc : Thread Cert.LateMergeReferenceIdeal.nD Cert.LateMergeReferenceIdeal.τ).loc Cert.LateMergeReferenceIdeal.main_arg1) = m ((c.tc : Thread Cert.LateMergeReferenceIdeal.nD Cert.LateMergeReferenceIdeal.τ).loc Cert.LateMergeReferenceIdeal.main_arg1)
      ∧ r.2.mem ((c.tc : Thread Cert.LateMergeReferenceIdeal.nD Cert.LateMergeReferenceIdeal.τ).loc Cert.LateMergeReferenceIdeal.main_arg2) = m ((c.tc : Thread Cert.LateMergeReferenceIdeal.nD Cert.LateMergeReferenceIdeal.τ).loc Cert.LateMergeReferenceIdeal.main_arg2)
      ∧ r.2.mem ((c.tc : Thread Cert.LateMergeReferenceIdeal.nD Cert.LateMergeReferenceIdeal.τ).loc Cert.LateMergeReferenceIdeal.main_arg3) = m ((c.tc : Thread Cert.LateMergeReferenceIdeal.nD Cert.LateMergeReferenceIdeal.τ).loc Cert.LateMergeReferenceIdeal.main_arg3)
      ∧ r.2.mem ((c.tc : Thread Cert.LateMergeReferenceIdeal.nD Cert.LateMergeReferenceIdeal.τ).loc Cert.LateMergeReferenceIdeal.main_arg4) = m ((c.tc : Thread Cert.LateMergeReferenceIdeal.nD Cert.LateMergeReferenceIdeal.τ).loc Cert.LateMergeReferenceIdeal.main_arg4)
      ∧ r.2.mem ((c.tc : Thread Cert.LateMergeReferenceIdeal.nD Cert.LateMergeReferenceIdeal.τ).loc Cert.LateMergeReferenceIdeal.main_arg5) = m ((c.tc : Thread Cert.LateMergeReferenceIdeal.nD Cert.LateMergeReferenceIdeal.τ).loc Cert.LateMergeReferenceIdeal.main_arg5)
      ∧ r.2.mem ((c.tc : Thread Cert.LateMergeReferenceIdeal.nD Cert.LateMergeReferenceIdeal.τ).loc Cert.LateMergeReferenceIdeal.main_arg6) = m ((c.tc : Thread Cert.LateMergeReferenceIdeal.nD Cert.LateMergeReferenceIdeal.τ).loc Cert.LateMergeReferenceIdeal.main_arg6))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_CtxKernel_CtxKernelIdeal : Prop :=
  True

def algebraic_CtxKernelIdeal_CtxReferenceIdeal_pre_finite_gains [hCtxKernelIdeal : Cert.CtxKernelIdeal.Facts] [hCtxReferenceIdeal : Cert.CtxReferenceIdeal.Facts] [hPre_finite_gains : Cert.Pre_finite_gains.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal_finite_gains m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
      ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)) →
    ∃ (v0 : (c : Dev Cert.CtxKernelIdeal.nD) → Buf (Elt Ideal) ((c.tc : Thread Cert.CtxKernelIdeal.nD Cert.CtxKernelIdeal.τ).loc Cert.CtxKernelIdeal.main_v2_0)) (v1 : (c : Dev Cert.CtxKernelIdeal.nD) → Buf (Elt Ideal) ((c.tc : Thread Cert.CtxKernelIdeal.nD Cert.CtxKernelIdeal.τ).loc Cert.CtxKernelIdeal.main_v2_1)) (v2 : (c : Dev Cert.CtxKernelIdeal.nD) → Buf (Elt Ideal) ((c.tc : Thread Cert.CtxKernelIdeal.nD Cert.CtxKernelIdeal.τ).loc Cert.CtxKernelIdeal.main_v2_2)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v2_0) = v0 c
          ∧ r.2.mem ((c.tc : Thread Cert.CtxKernelIdeal.nD Cert.CtxKernelIdeal.τ).loc Cert.CtxKernelIdeal.main_v2_1) = v1 c
          ∧ r.2.mem ((c.tc : Thread Cert.CtxKernelIdeal.nD Cert.CtxKernelIdeal.τ).loc Cert.CtxKernelIdeal.main_v2_2) = v2 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
          ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v55) = v0 c
          ∧ r.2.mem ((c.tc : Thread Cert.CtxReferenceIdeal.nD Cert.CtxReferenceIdeal.τ).loc Cert.CtxReferenceIdeal.main_v56) = v1 c
          ∧ r.2.mem ((c.tc : Thread Cert.CtxReferenceIdeal.nD Cert.CtxReferenceIdeal.τ).loc Cert.CtxReferenceIdeal.main_v57) = v2 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2))

def preserves_MoeKernel_MoeKernelIdeal : Prop :=
  True

def algebraic_MoeKernelIdeal_MoeReferenceIdeal [hMoeKernelIdeal : Cert.MoeKernelIdeal.Facts] [hMoeReferenceIdeal : Cert.MoeReferenceIdeal.Facts] [hPre_tables_in_range : Cert.Pre_tables_in_range.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeKernelIdeal m →
    (∀ c : Dev Cert.MoeKernelIdeal.nD,
      m' ((c.tc : Thread Cert.MoeReferenceIdeal.nD Cert.MoeReferenceIdeal.τ).loc Cert.MoeReferenceIdeal.main_arg0) = m ((c.tc : Thread Cert.MoeKernelIdeal.nD Cert.MoeKernelIdeal.τ).loc Cert.MoeKernelIdeal.main_arg0)
      ∧ m' ((c.tc : Thread Cert.MoeReferenceIdeal.nD Cert.MoeReferenceIdeal.τ).loc Cert.MoeReferenceIdeal.main_arg1) = m ((c.tc : Thread Cert.MoeKernelIdeal.nD Cert.MoeKernelIdeal.τ).loc Cert.MoeKernelIdeal.main_arg1)
      ∧ m' ((c.tc : Thread Cert.MoeReferenceIdeal.nD Cert.MoeReferenceIdeal.τ).loc Cert.MoeReferenceIdeal.main_arg2) = m ((c.tc : Thread Cert.MoeKernelIdeal.nD Cert.MoeKernelIdeal.τ).loc Cert.MoeKernelIdeal.main_arg2)
      ∧ m' ((c.tc : Thread Cert.MoeReferenceIdeal.nD Cert.MoeReferenceIdeal.τ).loc Cert.MoeReferenceIdeal.main_arg3) = m ((c.tc : Thread Cert.MoeKernelIdeal.nD Cert.MoeKernelIdeal.τ).loc Cert.MoeKernelIdeal.main_arg3)
      ∧ m' ((c.tc : Thread Cert.MoeReferenceIdeal.nD Cert.MoeReferenceIdeal.τ).loc Cert.MoeReferenceIdeal.main_arg4) = m ((c.tc : Thread Cert.MoeKernelIdeal.nD Cert.MoeKernelIdeal.τ).loc Cert.MoeKernelIdeal.main_arg4)
      ∧ m' ((c.tc : Thread Cert.MoeReferenceIdeal.nD Cert.MoeReferenceIdeal.τ).loc Cert.MoeReferenceIdeal.main_arg5) = m ((c.tc : Thread Cert.MoeKernelIdeal.nD Cert.MoeKernelIdeal.τ).loc Cert.MoeKernelIdeal.main_arg5)) →
    ∃ (v0 : (c : Dev Cert.MoeKernelIdeal.nD) → Buf (Elt Ideal) ((c.tc : Thread Cert.MoeKernelIdeal.nD Cert.MoeKernelIdeal.τ).loc Cert.MoeKernelIdeal.main_v12)),
      θ_run (Cert.MoeKernelIdeal.defs (F := Ideal)) (onTc (τ := Cert.MoeKernelIdeal.τ) (Cert.MoeKernelIdeal.main (F := Ideal))) ⟨m, fun _ => 0, g⟩ (fun r => ∀ c : Dev Cert.MoeKernelIdeal.nD,
          r.2.mem ((c.tc : Thread Cert.MoeKernelIdeal.nD Cert.MoeKernelIdeal.τ).loc Cert.MoeKernelIdeal.main_v12) = v0 c
          ∧ r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
          ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
          ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
          ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
          ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
          ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v18) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v5_0)) (v1 : (c : Dev Cert.ProjKernelIdeal.nD) → Buf (Elt Ideal) ((c.tc : Thread Cert.ProjKernelIdeal.nD Cert.ProjKernelIdeal.τ).loc Cert.ProjKernelIdeal.main_v5_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v5_0) = v0 c
          ∧ r.2.mem ((c.tc : Thread Cert.ProjKernelIdeal.nD Cert.ProjKernelIdeal.τ).loc Cert.ProjKernelIdeal.main_v5_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_v6) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v6)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v6) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v28) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_LateProjKernel_LateProjKernelIdeal : Prop :=
  True

def algebraic_LateProjKernelIdeal_LateProjReferenceIdeal [hLateProjKernelIdeal : Cert.LateProjKernelIdeal.Facts] [hLateProjReferenceIdeal : Cert.LateProjReferenceIdeal.Facts] : Prop :=
  ∀ (m : (ℓ : Loc Cert.LateProjKernelIdeal.nD Cert.LateProjKernelIdeal.τ Cert.LateProjKernelIdeal.sig) → Buf (Elt Ideal) ℓ) (g : Dev Cert.LateProjKernelIdeal.nD → PrngReg)
    (m' : (ℓ : Loc Cert.LateProjReferenceIdeal.nD Cert.LateProjReferenceIdeal.τ Cert.LateProjReferenceIdeal.sig) → Buf (Elt Ideal) ℓ) (g' : Dev Cert.LateProjReferenceIdeal.nD → PrngReg), Pre_LateProjKernelIdeal m →
    (∀ c : Dev Cert.LateProjKernelIdeal.nD,
      m' ((c.tc : Thread Cert.LateProjReferenceIdeal.nD Cert.LateProjReferenceIdeal.τ).loc Cert.LateProjReferenceIdeal.main_arg0) = m ((c.tc : Thread Cert.LateProjKernelIdeal.nD Cert.LateProjKernelIdeal.τ).loc Cert.LateProjKernelIdeal.main_arg0)
      ∧ m' ((c.tc : Thread Cert.LateProjReferenceIdeal.nD Cert.LateProjReferenceIdeal.τ).loc Cert.LateProjReferenceIdeal.main_arg1) = m ((c.tc : Thread Cert.LateProjKernelIdeal.nD Cert.LateProjKernelIdeal.τ).loc Cert.LateProjKernelIdeal.main_arg1)
      ∧ m' ((c.tc : Thread Cert.LateProjReferenceIdeal.nD Cert.LateProjReferenceIdeal.τ).loc Cert.LateProjReferenceIdeal.main_arg2) = m ((c.tc : Thread Cert.LateProjKernelIdeal.nD Cert.LateProjKernelIdeal.τ).loc Cert.LateProjKernelIdeal.main_arg2)) →
    ∃ (v0 : (c : Dev Cert.LateProjKernelIdeal.nD) → Buf (Elt Ideal) ((c.tc : Thread Cert.LateProjKernelIdeal.nD Cert.LateProjKernelIdeal.τ).loc Cert.LateProjKernelIdeal.main_v5_0)) (v1 : (c : Dev Cert.LateProjKernelIdeal.nD) → Buf (Elt Ideal) ((c.tc : Thread Cert.LateProjKernelIdeal.nD Cert.LateProjKernelIdeal.τ).loc Cert.LateProjKernelIdeal.main_v5_1)),
      θ_run (Cert.LateProjKernelIdeal.defs (F := Ideal)) (onTc (τ := Cert.LateProjKernelIdeal.τ) (Cert.LateProjKernelIdeal.main (F := Ideal))) ⟨m, fun _ => 0, g⟩ (fun r => ∀ c : Dev Cert.LateProjKernelIdeal.nD,
          r.2.mem ((c.tc : Thread Cert.LateProjKernelIdeal.nD Cert.LateProjKernelIdeal.τ).loc Cert.LateProjKernelIdeal.main_v5_0) = v0 c
          ∧ r.2.mem ((c.tc : Thread Cert.LateProjKernelIdeal.nD Cert.LateProjKernelIdeal.τ).loc Cert.LateProjKernelIdeal.main_v5_1) = v1 c
          ∧ r.2.mem ((c.tc : Thread Cert.LateProjKernelIdeal.nD Cert.LateProjKernelIdeal.τ).loc Cert.LateProjKernelIdeal.main_arg0) = m ((c.tc : Thread Cert.LateProjKernelIdeal.nD Cert.LateProjKernelIdeal.τ).loc Cert.LateProjKernelIdeal.main_arg0)
          ∧ r.2.mem ((c.tc : Thread Cert.LateProjKernelIdeal.nD Cert.LateProjKernelIdeal.τ).loc Cert.LateProjKernelIdeal.main_arg1) = m ((c.tc : Thread Cert.LateProjKernelIdeal.nD Cert.LateProjKernelIdeal.τ).loc Cert.LateProjKernelIdeal.main_arg1)
          ∧ r.2.mem ((c.tc : Thread Cert.LateProjKernelIdeal.nD Cert.LateProjKernelIdeal.τ).loc Cert.LateProjKernelIdeal.main_arg2) = m ((c.tc : Thread Cert.LateProjKernelIdeal.nD Cert.LateProjKernelIdeal.τ).loc Cert.LateProjKernelIdeal.main_arg2))
      ∧ θ_run (Cert.LateProjReferenceIdeal.defs (F := Ideal)) (onTc (τ := Cert.LateProjReferenceIdeal.τ) (Cert.LateProjReferenceIdeal.main (F := Ideal))) ⟨m', fun _ => 0, g'⟩ (fun r => ∀ c : Dev Cert.LateProjReferenceIdeal.nD,
          r.2.mem ((c.tc : Thread Cert.LateProjReferenceIdeal.nD Cert.LateProjReferenceIdeal.τ).loc Cert.LateProjReferenceIdeal.main_v3) = v0 c
          ∧ r.2.mem ((c.tc : Thread Cert.LateProjReferenceIdeal.nD Cert.LateProjReferenceIdeal.τ).loc Cert.LateProjReferenceIdeal.main_v6) = v1 c
          ∧ r.2.mem ((c.tc : Thread Cert.LateProjReferenceIdeal.nD Cert.LateProjReferenceIdeal.τ).loc Cert.LateProjReferenceIdeal.main_arg0) = m' ((c.tc : Thread Cert.LateProjReferenceIdeal.nD Cert.LateProjReferenceIdeal.τ).loc Cert.LateProjReferenceIdeal.main_arg0)
          ∧ r.2.mem ((c.tc : Thread Cert.LateProjReferenceIdeal.nD Cert.LateProjReferenceIdeal.τ).loc Cert.LateProjReferenceIdeal.main_arg1) = m' ((c.tc : Thread Cert.LateProjReferenceIdeal.nD Cert.LateProjReferenceIdeal.τ).loc Cert.LateProjReferenceIdeal.main_arg1)
          ∧ r.2.mem ((c.tc : Thread Cert.LateProjReferenceIdeal.nD Cert.LateProjReferenceIdeal.τ).loc Cert.LateProjReferenceIdeal.main_arg2) = m' ((c.tc : Thread Cert.LateProjReferenceIdeal.nD Cert.LateProjReferenceIdeal.τ).loc Cert.LateProjReferenceIdeal.main_arg2))

def preserves_LateMergeKernel_LateMergeKernelIdeal : Prop :=
  True

def algebraic_LateMergeKernelIdeal_LateMergeReferenceIdeal [hLateMergeKernelIdeal : Cert.LateMergeKernelIdeal.Facts] [hLateMergeReferenceIdeal : Cert.LateMergeReferenceIdeal.Facts] : Prop :=
  ∀ (m : (ℓ : Loc Cert.LateMergeKernelIdeal.nD Cert.LateMergeKernelIdeal.τ Cert.LateMergeKernelIdeal.sig) → Buf (Elt Ideal) ℓ) (g : Dev Cert.LateMergeKernelIdeal.nD → PrngReg)
    (m' : (ℓ : Loc Cert.LateMergeReferenceIdeal.nD Cert.LateMergeReferenceIdeal.τ Cert.LateMergeReferenceIdeal.sig) → Buf (Elt Ideal) ℓ) (g' : Dev Cert.LateMergeReferenceIdeal.nD → PrngReg), Pre_LateMergeKernelIdeal m →
    (∀ c : Dev Cert.LateMergeKernelIdeal.nD,
      m' ((c.tc : Thread Cert.LateMergeReferenceIdeal.nD Cert.LateMergeReferenceIdeal.τ).loc Cert.LateMergeReferenceIdeal.main_arg0) = m ((c.tc : Thread Cert.LateMergeKernelIdeal.nD Cert.LateMergeKernelIdeal.τ).loc Cert.LateMergeKernelIdeal.main_arg0)
      ∧ m' ((c.tc : Thread Cert.LateMergeReferenceIdeal.nD Cert.LateMergeReferenceIdeal.τ).loc Cert.LateMergeReferenceIdeal.main_arg1) = m ((c.tc : Thread Cert.LateMergeKernelIdeal.nD Cert.LateMergeKernelIdeal.τ).loc Cert.LateMergeKernelIdeal.main_arg1)
      ∧ m' ((c.tc : Thread Cert.LateMergeReferenceIdeal.nD Cert.LateMergeReferenceIdeal.τ).loc Cert.LateMergeReferenceIdeal.main_arg2) = m ((c.tc : Thread Cert.LateMergeKernelIdeal.nD Cert.LateMergeKernelIdeal.τ).loc Cert.LateMergeKernelIdeal.main_arg2)
      ∧ m' ((c.tc : Thread Cert.LateMergeReferenceIdeal.nD Cert.LateMergeReferenceIdeal.τ).loc Cert.LateMergeReferenceIdeal.main_arg3) = m ((c.tc : Thread Cert.LateMergeKernelIdeal.nD Cert.LateMergeKernelIdeal.τ).loc Cert.LateMergeKernelIdeal.main_arg3)
      ∧ m' ((c.tc : Thread Cert.LateMergeReferenceIdeal.nD Cert.LateMergeReferenceIdeal.τ).loc Cert.LateMergeReferenceIdeal.main_arg4) = m ((c.tc : Thread Cert.LateMergeKernelIdeal.nD Cert.LateMergeKernelIdeal.τ).loc Cert.LateMergeKernelIdeal.main_arg4)
      ∧ m' ((c.tc : Thread Cert.LateMergeReferenceIdeal.nD Cert.LateMergeReferenceIdeal.τ).loc Cert.LateMergeReferenceIdeal.main_arg5) = m ((c.tc : Thread Cert.LateMergeKernelIdeal.nD Cert.LateMergeKernelIdeal.τ).loc Cert.LateMergeKernelIdeal.main_arg5)
      ∧ m' ((c.tc : Thread Cert.LateMergeReferenceIdeal.nD Cert.LateMergeReferenceIdeal.τ).loc Cert.LateMergeReferenceIdeal.main_arg6) = m ((c.tc : Thread Cert.LateMergeKernelIdeal.nD Cert.LateMergeKernelIdeal.τ).loc Cert.LateMergeKernelIdeal.main_arg6)) →
    ∃ (v0 : (c : Dev Cert.LateMergeKernelIdeal.nD) → Buf (Elt Ideal) ((c.tc : Thread Cert.LateMergeKernelIdeal.nD Cert.LateMergeKernelIdeal.τ).loc Cert.LateMergeKernelIdeal.main_v6)),
      θ_run (Cert.LateMergeKernelIdeal.defs (F := Ideal)) (onTc (τ := Cert.LateMergeKernelIdeal.τ) (Cert.LateMergeKernelIdeal.main (F := Ideal))) ⟨m, fun _ => 0, g⟩ (fun r => ∀ c : Dev Cert.LateMergeKernelIdeal.nD,
          r.2.mem ((c.tc : Thread Cert.LateMergeKernelIdeal.nD Cert.LateMergeKernelIdeal.τ).loc Cert.LateMergeKernelIdeal.main_v6) = v0 c
          ∧ r.2.mem ((c.tc : Thread Cert.LateMergeKernelIdeal.nD Cert.LateMergeKernelIdeal.τ).loc Cert.LateMergeKernelIdeal.main_arg0) = m ((c.tc : Thread Cert.LateMergeKernelIdeal.nD Cert.LateMergeKernelIdeal.τ).loc Cert.LateMergeKernelIdeal.main_arg0)
          ∧ r.2.mem ((c.tc : Thread Cert.LateMergeKernelIdeal.nD Cert.LateMergeKernelIdeal.τ).loc Cert.LateMergeKernelIdeal.main_arg1) = m ((c.tc : Thread Cert.LateMergeKernelIdeal.nD Cert.LateMergeKernelIdeal.τ).loc Cert.LateMergeKernelIdeal.main_arg1)
          ∧ r.2.mem ((c.tc : Thread Cert.LateMergeKernelIdeal.nD Cert.LateMergeKernelIdeal.τ).loc Cert.LateMergeKernelIdeal.main_arg2) = m ((c.tc : Thread Cert.LateMergeKernelIdeal.nD Cert.LateMergeKernelIdeal.τ).loc Cert.LateMergeKernelIdeal.main_arg2)
          ∧ r.2.mem ((c.tc : Thread Cert.LateMergeKernelIdeal.nD Cert.LateMergeKernelIdeal.τ).loc Cert.LateMergeKernelIdeal.main_arg3) = m ((c.tc : Thread Cert.LateMergeKernelIdeal.nD Cert.LateMergeKernelIdeal.τ).loc Cert.LateMergeKernelIdeal.main_arg3)
          ∧ r.2.mem ((c.tc : Thread Cert.LateMergeKernelIdeal.nD Cert.LateMergeKernelIdeal.τ).loc Cert.LateMergeKernelIdeal.main_arg4) = m ((c.tc : Thread Cert.LateMergeKernelIdeal.nD Cert.LateMergeKernelIdeal.τ).loc Cert.LateMergeKernelIdeal.main_arg4)
          ∧ r.2.mem ((c.tc : Thread Cert.LateMergeKernelIdeal.nD Cert.LateMergeKernelIdeal.τ).loc Cert.LateMergeKernelIdeal.main_arg5) = m ((c.tc : Thread Cert.LateMergeKernelIdeal.nD Cert.LateMergeKernelIdeal.τ).loc Cert.LateMergeKernelIdeal.main_arg5)
          ∧ r.2.mem ((c.tc : Thread Cert.LateMergeKernelIdeal.nD Cert.LateMergeKernelIdeal.τ).loc Cert.LateMergeKernelIdeal.main_arg6) = m ((c.tc : Thread Cert.LateMergeKernelIdeal.nD Cert.LateMergeKernelIdeal.τ).loc Cert.LateMergeKernelIdeal.main_arg6))
      ∧ θ_run (Cert.LateMergeReferenceIdeal.defs (F := Ideal)) (onTc (τ := Cert.LateMergeReferenceIdeal.τ) (Cert.LateMergeReferenceIdeal.main (F := Ideal))) ⟨m', fun _ => 0, g'⟩ (fun r => ∀ c : Dev Cert.LateMergeReferenceIdeal.nD,
          r.2.mem ((c.tc : Thread Cert.LateMergeReferenceIdeal.nD Cert.LateMergeReferenceIdeal.τ).loc Cert.LateMergeReferenceIdeal.main_v28) = v0 c
          ∧ r.2.mem ((c.tc : Thread Cert.LateMergeReferenceIdeal.nD Cert.LateMergeReferenceIdeal.τ).loc Cert.LateMergeReferenceIdeal.main_arg0) = m' ((c.tc : Thread Cert.LateMergeReferenceIdeal.nD Cert.LateMergeReferenceIdeal.τ).loc Cert.LateMergeReferenceIdeal.main_arg0)
          ∧ r.2.mem ((c.tc : Thread Cert.LateMergeReferenceIdeal.nD Cert.LateMergeReferenceIdeal.τ).loc Cert.LateMergeReferenceIdeal.main_arg1) = m' ((c.tc : Thread Cert.LateMergeReferenceIdeal.nD Cert.LateMergeReferenceIdeal.τ).loc Cert.LateMergeReferenceIdeal.main_arg1)
          ∧ r.2.mem ((c.tc : Thread Cert.LateMergeReferenceIdeal.nD Cert.LateMergeReferenceIdeal.τ).loc Cert.LateMergeReferenceIdeal.main_arg2) = m' ((c.tc : Thread Cert.LateMergeReferenceIdeal.nD Cert.LateMergeReferenceIdeal.τ).loc Cert.LateMergeReferenceIdeal.main_arg2)
          ∧ r.2.mem ((c.tc : Thread Cert.LateMergeReferenceIdeal.nD Cert.LateMergeReferenceIdeal.τ).loc Cert.LateMergeReferenceIdeal.main_arg3) = m' ((c.tc : Thread Cert.LateMergeReferenceIdeal.nD Cert.LateMergeReferenceIdeal.τ).loc Cert.LateMergeReferenceIdeal.main_arg3)
          ∧ r.2.mem ((c.tc : Thread Cert.LateMergeReferenceIdeal.nD Cert.LateMergeReferenceIdeal.τ).loc Cert.LateMergeReferenceIdeal.main_arg4) = m' ((c.tc : Thread Cert.LateMergeReferenceIdeal.nD Cert.LateMergeReferenceIdeal.τ).loc Cert.LateMergeReferenceIdeal.main_arg4)
          ∧ r.2.mem ((c.tc : Thread Cert.LateMergeReferenceIdeal.nD Cert.LateMergeReferenceIdeal.τ).loc Cert.LateMergeReferenceIdeal.main_arg5) = m' ((c.tc : Thread Cert.LateMergeReferenceIdeal.nD Cert.LateMergeReferenceIdeal.τ).loc Cert.LateMergeReferenceIdeal.main_arg5)
          ∧ r.2.mem ((c.tc : Thread Cert.LateMergeReferenceIdeal.nD Cert.LateMergeReferenceIdeal.τ).loc Cert.LateMergeReferenceIdeal.main_arg6) = m' ((c.tc : Thread Cert.LateMergeReferenceIdeal.nD Cert.LateMergeReferenceIdeal.τ).loc Cert.LateMergeReferenceIdeal.main_arg6))

def Claim : Prop :=
  ∃ (hKernel : Cert.Kernel.Facts) (hKernelIdeal : Cert.KernelIdeal.Facts) (hReferenceIdeal : Cert.ReferenceIdeal.Facts) (hCtxKernel : Cert.CtxKernel.Facts) (hCtxKernelIdeal : Cert.CtxKernelIdeal.Facts) (hCtxReferenceIdeal : Cert.CtxReferenceIdeal.Facts) (hMoeKernel : Cert.MoeKernel.Facts) (hMoeKernelIdeal : Cert.MoeKernelIdeal.Facts) (hMoeReferenceIdeal : Cert.MoeReferenceIdeal.Facts) (hProjKernel : Cert.ProjKernel.Facts) (hProjKernelIdeal : Cert.ProjKernelIdeal.Facts) (hProjReferenceIdeal : Cert.ProjReferenceIdeal.Facts) (hMergeKernel : Cert.MergeKernel.Facts) (hMergeKernelIdeal : Cert.MergeKernelIdeal.Facts) (hMergeReferenceIdeal : Cert.MergeReferenceIdeal.Facts) (hLateProjKernel : Cert.LateProjKernel.Facts) (hLateProjKernelIdeal : Cert.LateProjKernelIdeal.Facts) (hLateProjReferenceIdeal : Cert.LateProjReferenceIdeal.Facts) (hLateMergeKernel : Cert.LateMergeKernel.Facts) (hLateMergeKernelIdeal : Cert.LateMergeKernelIdeal.Facts) (hLateMergeReferenceIdeal : Cert.LateMergeReferenceIdeal.Facts) (hPre_finite_keys : Cert.Pre_finite_keys.Facts) (hPre_finite_gains : Cert.Pre_finite_gains.Facts) (hPre_tables_in_range : Cert.Pre_tables_in_range.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_CtxKernel (hCtxKernel := hCtxKernel)
    ∧ quiescent_CtxKernelIdeal (hCtxKernelIdeal := hCtxKernelIdeal)
    ∧ quiescent_CtxKernelIdeal_pre_finite_gains (hCtxKernelIdeal := hCtxKernelIdeal) (hPre_finite_gains := hPre_finite_gains)
    ∧ quiescent_CtxReferenceIdeal (hCtxReferenceIdeal := hCtxReferenceIdeal)
    ∧ quiescent_CtxReferenceIdeal_pre_finite_gains (hCtxReferenceIdeal := hCtxReferenceIdeal) (hPre_finite_gains := hPre_finite_gains)
    ∧ quiescent_MoeKernel (hMoeKernel := hMoeKernel) (hPre_tables_in_range := hPre_tables_in_range)
    ∧ quiescent_MoeKernelIdeal (hMoeKernelIdeal := hMoeKernelIdeal) (hPre_tables_in_range := hPre_tables_in_range)
    ∧ quiescent_MoeReferenceIdeal (hMoeReferenceIdeal := hMoeReferenceIdeal)
    ∧ quiescent_MoeReferenceIdeal_pre_tables_in_range (hMoeReferenceIdeal := hMoeReferenceIdeal) (hPre_tables_in_range := hPre_tables_in_range)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_LateProjKernel (hLateProjKernel := hLateProjKernel)
    ∧ quiescent_LateProjKernelIdeal (hLateProjKernelIdeal := hLateProjKernelIdeal)
    ∧ quiescent_LateProjReferenceIdeal (hLateProjReferenceIdeal := hLateProjReferenceIdeal)
    ∧ quiescent_LateMergeKernel (hLateMergeKernel := hLateMergeKernel)
    ∧ quiescent_LateMergeKernelIdeal (hLateMergeKernelIdeal := hLateMergeKernelIdeal)
    ∧ quiescent_LateMergeReferenceIdeal (hLateMergeReferenceIdeal := hLateMergeReferenceIdeal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_CtxKernel_CtxKernelIdeal
    ∧ algebraic_CtxKernelIdeal_CtxReferenceIdeal_pre_finite_gains (hCtxKernelIdeal := hCtxKernelIdeal) (hCtxReferenceIdeal := hCtxReferenceIdeal) (hPre_finite_gains := hPre_finite_gains)
    ∧ preserves_MoeKernel_MoeKernelIdeal
    ∧ algebraic_MoeKernelIdeal_MoeReferenceIdeal (hMoeKernelIdeal := hMoeKernelIdeal) (hMoeReferenceIdeal := hMoeReferenceIdeal) (hPre_tables_in_range := hPre_tables_in_range)
    ∧ preserves_ProjKernel_ProjKernelIdeal
    ∧ algebraic_ProjKernelIdeal_ProjReferenceIdeal (hProjKernelIdeal := hProjKernelIdeal) (hProjReferenceIdeal := hProjReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_LateProjKernel_LateProjKernelIdeal
    ∧ algebraic_LateProjKernelIdeal_LateProjReferenceIdeal (hLateProjKernelIdeal := hLateProjKernelIdeal) (hLateProjReferenceIdeal := hLateProjReferenceIdeal)
    ∧ preserves_LateMergeKernel_LateMergeKernelIdeal
    ∧ algebraic_LateMergeKernelIdeal_LateMergeReferenceIdeal (hLateMergeKernelIdeal := hLateMergeKernelIdeal) (hLateMergeReferenceIdeal := hLateMergeReferenceIdeal)
-- ==== Pre_finite_gains.lean ====
abbrev S16384x12288 : Shape := ⟨2, ![16384, 12288]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S16384x12288 .f32) (main_arg1 : FVec F S128 .f32) (main_arg2 : FVec F S128 .f32) : IVec S128 1 × IVec S128 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  (main_v2, main_v5)
-- ==== Pre_finite_keys.lean ====
abbrev S16384x12288 : Shape := ⟨2, ![16384, 12288]⟩
abbrev S8x2x8x256x128 : Shape := ⟨5, ![8, 2, 8, 256, 128]⟩
abbrev S2x8x15x31 : Shape := ⟨4, ![2, 8, 15, 31]⟩
abbrev S128 : Shape := ⟨1, ![128]⟩
abbrev S_ : Shape := ⟨0, ![]⟩

class Facts : Prop where
  bcast_S_S8x2x8x256x128 : S_.BroadcastsInDim S8x2x8x256x128 (![] : Fin 0 → Fin S8x2x8x256x128.rank)
  bcast_S_S2x8x15x31 : S_.BroadcastsInDim S2x8x15x31 (![] : Fin 0 → Fin S2x8x15x31.rank)
  bcast_S_S128 : S_.BroadcastsInDim S128 (![] : Fin 0 → Fin S128.rank)

variable [Facts]

def fn {F : FTy → Type} [FloatOps F] (main_arg0 : FVec F S16384x12288 .f32) (main_arg1 : FVec F S8x2x8x256x128 .f32) (main_arg2 : FVec F S8x2x8x256x128 .f32) (main_arg3 : FVec F S2x8x15x31 .f32) (main_arg4 : FVec F S128 .f32) (main_arg5 : FVec F S128 .f32) : IVec S8x2x8x256x128 1 × IVec S2x8x15x31 1 × IVec S128 1 × IVec S128 1 :=
  let main_v0 : FVec F S8x2x8x256x128 .f32 := Host.absf main_arg1
  let main_cst : FVec F S_ .f32 := constant S_ .f32 0x7F800000#32
  let main_v1 : FVec F S8x2x8x256x128 .f32 := broadcastInDim S8x2x8x256x128 ![] bcast_S_S8x2x8x256x128 main_cst
  let main_v2 : IVec S8x2x8x256x128 1 := cmpf .olt main_v0 main_v1
  let main_v3 : FVec F S2x8x15x31 .f32 := Host.absf main_arg3
  let main_cst_0 : FVec F S_ .f32 := constant S_ .f32 0x7F800000#32
  let main_v4 : FVec F S2x8x15x31 .f32 := broadcastInDim S2x8x15x31 ![] bcast_S_S2x8x15x31 main_cst_0
  let main_v5 : IVec S2x8x15x31 1 := cmpf .olt main_v3 main_v4
  let main_v6 : FVec F S128 .f32 := Host.absf main_arg4
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  (main_v2, main_v5, main_v8, main_v11)
-- ==== Pre_tables_in_range.lean ====
abbrev S36864x2048 : Shape := ⟨2, ![36864, 2048]⟩
abbrev S8x2048x7168 : Shape := ⟨3, ![8, 2048, 7168]⟩
abbrev S8x7168x2048 : Shape := ⟨3, ![8, 7168, 2048]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)
  bcast_S_S1 : S_.BroadcastsInDim S1 (![] : Fin 0 → Fin S1.rank)

variable [Facts]

def fn {F : FTy → Type} [FloatOps F] (main_arg0 : FVec F S36864x2048 .f32) (main_arg1 : FVec F S8x2048x7168 .bf16) (main_arg2 : FVec F S8x2048x7168 .bf16) (main_arg3 : FVec F S8x7168x2048 .bf16) (main_arg4 : IVec S72 32) (main_arg5 : IVec S1 32) : IVec S72 1 × IVec S72 1 × IVec S1 1 :=
  let main_c : IVec S_ 32 := constantI S_ 32 0#32
  let main_v0 : IVec S72 32 := broadcastInDim S72 ![] bcast_S_S72 main_c
  let main_v1 : IVec S72 1 := cmpi .sge main_arg4 main_v0
  let main_c_0 : IVec S_ 32 := constantI S_ 32 8#32
  let main_v2 : IVec S72 32 := broadcastInDim S72 ![] bcast_S_S72 main_c_0
  let main_v3 : IVec S72 1 := cmpi .slt main_arg4 main_v2
  let main_c_1 : IVec S_ 32 := constantI S_ 32 1#32
  let main_v4 : IVec S1 32 := broadcastInDim S1 ![] bcast_S_S1 main_c_1
  let main_v5 : IVec S1 1 := cmpi .sge main_arg5 main_v4
  (main_v1, main_v3, main_v5)
-- ==== Kernel.lean ====
abbrev S16384x12288 : Shape := ⟨2, ![16384, 12288]⟩
abbrev S8x2x8x256x128 : Shape := ⟨5, ![8, 2, 8, 256, 128]⟩
abbrev S2x8x15x31 : Shape := ⟨4, ![2, 8, 15, 31]⟩
abbrev S128 : Shape := ⟨1, ![128]⟩
abbrev S16 : Shape := ⟨1, ![16]⟩
abbrev S64 : Shape := ⟨1, ![64]⟩
abbrev S_ : Shape := ⟨0, ![]⟩
abbrev S1x16 : Shape := ⟨2, ![1, 16]⟩
abbrev S16x1 : Shape := ⟨2, ![16, 1]⟩
abbrev S16x16 : Shape := ⟨2, ![16, 16]⟩
abbrev S1x64 : Shape := ⟨2, ![1, 64]⟩
abbrev S64x1 : Shape := ⟨2, ![64, 1]⟩
abbrev S64x64 : Shape := ⟨2, ![64, 64]⟩
abbrev S16x1x16x1 : Shape := ⟨4, ![16, 1, 16, 1]⟩
abbrev S1x64x1x64 : Shape := ⟨4, ![1, 64, 1, 64]⟩
abbrev S16x64x16x64 : Shape := ⟨4, ![16, 64, 16, 64]⟩
abbrev S1024x1024 : Shape := ⟨2, ![1024, 1024]⟩
abbrev S1x16x1 : Shape := ⟨3, ![1, 16, 1]⟩
abbrev S16x1x1 : Shape := ⟨3, ![16, 1, 1]⟩
abbrev S16x16x1 : Shape := ⟨3, ![16, 16, 1]⟩
abbrev S15 : Shape := ⟨1, ![15]⟩
abbrev S1x1x15 : Shape := ⟨3, ![1, 1, 15]⟩
abbrev S16x16x15 : Shape := ⟨3, ![16, 16, 15]⟩
abbrev S1x64x1 : Shape := ⟨3, ![1, 64, 1]⟩
abbrev S64x1x1 : Shape := ⟨3, ![64, 1, 1]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S16x15x31 : Shape := ⟨3, ![16, 15, 31]⟩
abbrev S1x256x15x1 : Shape := ⟨4, ![1, 256, 15, 1]⟩
abbrev S16x1x15x31 : Shape := ⟨4, ![16, 1, 15, 31]⟩
abbrev S16x256x15x31 : Shape := ⟨4, ![16, 256, 15, 31]⟩
abbrev S16x256x31 : Shape := ⟨3, ![16, 256, 31]⟩
abbrev S1x1x4096x31 : Shape := ⟨4, ![1, 1, 4096, 31]⟩
abbrev S16x256x1x31 : Shape := ⟨4, ![16, 256, 1, 31]⟩
abbrev S16x256x4096x31 : Shape := ⟨4, ![16, 256, 4096, 31]⟩
abbrev S16x256x4096 : Shape := ⟨3, ![16, 256, 4096]⟩
abbrev S2x8x16x16x64x64 : Shape := ⟨6, ![2, 8, 16, 16, 64, 64]⟩
abbrev S2x8x16x64x16x64 : Shape := ⟨6, ![2, 8, 16, 64, 16, 64]⟩
abbrev S2x8x1024x1024 : Shape := ⟨4, ![2, 8, 1024, 1024]⟩
abbrev S1x1x1024x1024 : Shape := ⟨4, ![1, 1, 1024, 1024]⟩
abbrev S1x8x1024x1024 : Shape := ⟨4, ![1, 8, 1024, 1024]⟩
abbrev S8x1024x1024 : Shape := ⟨3, ![8, 1024, 1024]⟩
abbrev S1x128 : Shape := ⟨2, ![1, 128]⟩
abbrev S8192x1024 : Shape := ⟨2, ![8192, 1024]⟩
abbrev S1024x128 : Shape := ⟨2, ![1024, 128]⟩
abbrev S1x1x1x256x128 : Shape := ⟨5, ![1, 1, 1, 256, 128]⟩
abbrev S1x1024x1024 : Shape := ⟨3, ![1, 1024, 1024]⟩
abbrev S1024 : Shape := ⟨1, ![1024]⟩
abbrev S1024x1 : Shape := ⟨2, ![1024, 1]⟩
abbrev S256x128 : Shape := ⟨2, ![256, 128]⟩
abbrev S256x1024 : Shape := ⟨2, ![256, 1024]⟩
abbrev S1x256x1024 : Shape := ⟨3, ![1, 256, 1024]⟩
abbrev S256x256 : Shape := ⟨2, ![256, 256]⟩
abbrev S256 : Shape := ⟨1, ![256]⟩
abbrev S256x1 : Shape := ⟨2, ![256, 1]⟩

abbrev nBuf : Space → Nat
  | .hbm => 127
  | .vmem => 16
  | .smem => 0
  | _ => 0

abbrev bufTy : (tb : Table) → Fin (tcTables nBuf tb) → BufTy
  | .hbm, ⟨0, _⟩ => ⟨S16384x12288, .f32⟩
  | .hbm, ⟨1, _⟩ => ⟨S8x2x8x256x128, .f32⟩
  | .hbm, ⟨2, _⟩ => ⟨S8x2x8x256x128, .f32⟩
  | .hbm, ⟨3, _⟩ => ⟨S2x8x15x31, .f32⟩
  | .hbm, ⟨4, _⟩ => ⟨S128, .f32⟩
  | .hbm, ⟨5, _⟩ => ⟨S128, .f32⟩
  | .hbm, ⟨6, _⟩ => ⟨S16, .i32⟩
  | .hbm, ⟨7, _⟩ => ⟨S64, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S1x16, .i32⟩
  | .hbm, ⟨31, _⟩ => ⟨S16x1, .i32⟩
  | .hbm, ⟨32, _⟩ => ⟨S16x16, .i32⟩
  | .hbm, ⟨33, _⟩ => ⟨S16x16, .i32⟩
  | .hbm, ⟨34, _⟩ => ⟨S16x16, .i1⟩
  | .hbm, ⟨35, _⟩ => ⟨S1x16, .i32⟩
  | .hbm, ⟨36, _⟩ => ⟨S16x1, .i32⟩
  | .hbm, ⟨37, _⟩ => ⟨S_, .i32⟩
  | .hbm, ⟨38, _⟩ => ⟨S16x1, .i32⟩
  | .hbm, ⟨39, _⟩ => ⟨S16x1, .i32⟩
  | .hbm, ⟨40, _⟩ => ⟨S16x16, .i32⟩
  | .hbm, ⟨41, _⟩ => ⟨S16x16, .i32⟩
  | .hbm, ⟨42, _⟩ => ⟨S16x16, .i1⟩
  | .hbm, ⟨43, _⟩ => ⟨S16x16, .i1⟩
  | .hbm, ⟨44, _⟩ => ⟨S1x64, .i32⟩
  | .hbm, ⟨45, _⟩ => ⟨S64x1, .i32⟩
  | .hbm, ⟨46, _⟩ => ⟨S64x64, .i32⟩
  | .hbm, ⟨47, _⟩ => ⟨S64x64, .i32⟩
  | .hbm, ⟨48, _⟩ => ⟨S64x64, .i1⟩
  | .hbm, ⟨49, _⟩ => ⟨S1x64, .i32⟩
  | .hbm, ⟨50, _⟩ => ⟨S64x1, .i32⟩
  | .hbm, ⟨51, _⟩ => ⟨S_, .i32⟩
  | .hbm, ⟨52, _⟩ => ⟨S64x1, .i32⟩
  | .hbm, ⟨53, _⟩ => ⟨S64x1, .i32⟩
  | .hbm, ⟨54, _⟩ => ⟨S64x64, .i32⟩
  | .hbm, ⟨55, _⟩ => ⟨S64x64, .i32⟩
  | .hbm, ⟨56, _⟩ => ⟨S64x64, .i1⟩
  | .hbm, ⟨57, _⟩ => ⟨S64x64, .i1⟩
  | .hbm, ⟨58, _⟩ => ⟨S16x1x16x1, .i1⟩
  | .hbm, ⟨59, _⟩ => ⟨S1x64x1x64, .i1⟩
  | .hbm, ⟨60, _⟩ => ⟨S16x64x16x64, .i1⟩
  | .hbm, ⟨61, _⟩ => ⟨S16x64x16x64, .i1⟩
  | .hbm, ⟨62, _⟩ => ⟨S16x64x16x64, .i1⟩
  | .hbm, ⟨63, _⟩ => ⟨S1024x1024, .i1⟩
  | .hbm, ⟨64, _⟩ => ⟨S1x16x1, .i32⟩
  | .hbm, ⟨65, _⟩ => ⟨S16x1x1, .i32⟩
  | .hbm, ⟨66, _⟩ => ⟨S16x16x1, .i32⟩
  | .hbm, ⟨67, _⟩ => ⟨S16x16x1, .i32⟩
  | .hbm, ⟨68, _⟩ => ⟨S16x16x1, .i32⟩
  | .hbm, ⟨69, _⟩ => ⟨S_, .i32⟩
  | .hbm, ⟨70, _⟩ => ⟨S16x16x1, .i32⟩
  | .hbm, ⟨71, _⟩ => ⟨S16x16x1, .i32⟩
  | .hbm, ⟨72, _⟩ => ⟨S_, .i32⟩
  | .hbm, ⟨73, _⟩ => ⟨S16x16x1, .i32⟩
  | .hbm, ⟨74, _⟩ => ⟨S16x16x1, .i32⟩
  | .hbm, ⟨75, _⟩ => ⟨S15, .i32⟩
  | .hbm, ⟨76, _⟩ => ⟨S1x1x15, .i32⟩
  | .hbm, ⟨77, _⟩ => ⟨S16x16x15, .i32⟩
  | .hbm, ⟨78, _⟩ => ⟨S16x16x15, .i32⟩
  | .hbm, ⟨79, _⟩ => ⟨S16x16x15, .i1⟩
  | .hbm, ⟨80, _⟩ => ⟨S16x16x15, .f32⟩
  | .hbm, ⟨81, _⟩ => ⟨S1x64x1, .i32⟩
  | .hbm, ⟨82, _⟩ => ⟨S64x1x1, .i32⟩
  | .hbm, ⟨83, _⟩ => ⟨S64x64x1, .i32⟩
  | .hbm, ⟨84, _⟩ => ⟨S64x64x1, .i32⟩
  | .hbm, ⟨85, _⟩ => ⟨S64x64x1, .i32⟩
  | .hbm, ⟨86, _⟩ => ⟨S_, .i32⟩
  | .hbm, ⟨87, _⟩ => ⟨S64x64x1, .i32⟩
  | .hbm, ⟨88, _⟩ => ⟨S64x64x1, .i32⟩
  | .hbm, ⟨89, _⟩ => ⟨S_, .i32⟩
  | .hbm, ⟨90, _⟩ => ⟨S64x64x1, .i32⟩
  | .hbm, ⟨91, _⟩ => ⟨S64x64x1, .i32⟩
  | .hbm, ⟨92, _⟩ => ⟨S31, .i32⟩
  | .hbm, ⟨93, _⟩ => ⟨S1x1x31, .i32⟩
  | .hbm, ⟨94, _⟩ => ⟨S64x64x31, .i32⟩
  | .hbm, ⟨95, _⟩ => ⟨S64x64x31, .i32⟩
  | .hbm, ⟨96, _⟩ => ⟨S64x64x31, .i1⟩
  | .hbm, ⟨97, _⟩ => ⟨S64x64x31, .f32⟩
  | .hbm, ⟨98, _⟩ => ⟨S16x15x31, .f32⟩
  | .hbm, ⟨99, _⟩ => ⟨S1x256x15x1, .f32⟩
  | .hbm, ⟨100, _⟩ => ⟨S16x1x15x31, .f32⟩
  | .hbm, ⟨101, _⟩ => ⟨S16x256x15x31, .f32⟩
  | .hbm, ⟨102, _⟩ => ⟨S16x256x15x31, .f32⟩
  | .hbm, ⟨103, _⟩ => ⟨S16x256x15x31, .f32⟩
  | .hbm, ⟨104, _⟩ => ⟨S_, .f32⟩
  | .hbm, ⟨105, _⟩ => ⟨S16x256x31, .f32⟩
  | .hbm, ⟨106, _⟩ => ⟨S1x1x4096x31, .f32⟩
  | .hbm, ⟨107, _⟩ => ⟨S16x256x1x31, .f32⟩
  | .hbm, ⟨108, _⟩ => ⟨S16x256x4096x31, .f32⟩
  | .hbm, ⟨109, _⟩ => ⟨S16x256x4096x31, .f32⟩
  | .hbm, ⟨110, _⟩ => ⟨S16x256x4096x31, .f32⟩
  | .hbm, ⟨111, _⟩ => ⟨S_, .f32⟩
  | .hbm, ⟨112, _⟩ => ⟨S16x256x4096, .f32⟩
  | .hbm, ⟨113, _⟩ => ⟨S2x8x16x16x64x64, .f32⟩
  | .hbm, ⟨114, _⟩ => ⟨S2x8x16x64x16x64, .f32⟩
  | .hbm, ⟨115, _⟩ => ⟨S2x8x1024x1024, .f32⟩
  | .hbm, ⟨116, _⟩ => ⟨S1x1x1024x1024, .i1⟩
  | .hbm, ⟨117, _⟩ => ⟨S_, .f32⟩
  | .hbm, ⟨118, _⟩ => ⟨S_, .f32⟩
  | .hbm, ⟨119, _⟩ => ⟨S2x8x1024x1024, .i1⟩
  | .hbm, ⟨120, _⟩ => ⟨S2x8x1024x1024, .f32⟩
  | .hbm, ⟨121, _⟩ => ⟨S2x8x1024x1024, .f32⟩
  | .hbm, ⟨122, _⟩ => ⟨S1x8x1024x1024, .f32⟩
  | .hbm, ⟨123, _⟩ => ⟨S8x1024x1024, .f32⟩
  | .hbm, ⟨124, _⟩ => ⟨S1x128, .f32⟩
  | .hbm, ⟨125, _⟩ => ⟨S1x128, .f32⟩
  | .hbm, ⟨126, _⟩ => ⟨S8192x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1x1x256x128, .f32⟩
  | .local _ .vmem, ⟨7, _⟩ => ⟨S1x1x1x256x128, .f32⟩
  | .local _ .vmem, ⟨8, _⟩ => ⟨S1x1x1x256x128, .f32⟩
  | .local _ .vmem, ⟨9, _⟩ => ⟨S1x1x1x256x128, .f32⟩
  | .local _ .vmem, ⟨10, _⟩ => ⟨S1x1024x1024, .f32⟩
  | .local _ .vmem, ⟨11, _⟩ => ⟨S1x1024x1024, .f32⟩
  | .local _ .vmem, ⟨12, _⟩ => ⟨S1x128, .f32⟩
  | .local _ .vmem, ⟨13, _⟩ => ⟨S1x128, .f32⟩
  | .local _ .vmem, ⟨14, _⟩ => ⟨S1024x128, .bf16⟩
  | .local _ .vmem, ⟨15, _⟩ => ⟨S1024x128, .bf16⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_c_2 : Ref sig .tc := ⟨.hbm, 19, rfl⟩
abbrev main_v5 : Ref sig .tc := ⟨.hbm, 20, rfl⟩
abbrev main_v6 : Ref sig .tc := ⟨.hbm, 21, rfl⟩
abbrev main_c_3 : Ref sig .tc := ⟨.hbm, 22, rfl⟩
abbrev main_c_4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_9 : Ref sig .tc := ⟨.hbm, 86, rfl⟩
abbrev main_v60 : Ref sig .tc := ⟨.hbm, 87, rfl⟩
abbrev main_v61 : Ref sig .tc := ⟨.hbm, 88, rfl⟩
abbrev main_c_10 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_11 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_12 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c40_i32 : BitVec 32 := 40#32
  let v1 : BitVec 32 := Scalar.addi c40_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c48_i32 : BitVec 32 := 48#32
  let v1 : BitVec 32 := Scalar.addi c48_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c56_i32 : BitVec 32 := 56#32
  let v1 : BitVec 32 := Scalar.addi c56_i32 arg0
  let c0_i32 : BitVec 32 := 0#32
  ![v0.toNat, v1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x12288 : Shape := ⟨2, ![16384, 12288]⟩
abbrev S8x2x8x256x128 : Shape := ⟨5, ![8, 2, 8, 256, 128]⟩
abbrev S2x8x15x31 : Shape := ⟨4, ![2, 8, 15, 31]⟩
abbrev S128 : Shape := ⟨1, ![128]⟩
abbrev S8192x12288 : Shape := ⟨2, ![8192, 12288]⟩
abbrev S8x1024x12288 : Shape := ⟨3, ![8, 1024, 12288]⟩
abbrev S8x1024x1024 : Shape := ⟨3, ![8, 1024, 1024]⟩
abbrev S8x1024x8x128 : Shape := ⟨4, ![8, 1024, 8, 128]⟩
abbrev S8x8x1024x128 : Shape := ⟨4, ![8, 8, 1024, 128]⟩
abbrev S_ : Shape := ⟨0, ![]⟩
abbrev S8x8x1024 : Shape := ⟨3, ![8, 8, 1024]⟩
abbrev S8x8x1024x1 : Shape := ⟨4, ![8, 8, 1024, 1]⟩
abbrev S1x1x1x128 : Shape := ⟨4, ![1, 1, 1, 128]⟩
abbrev S8x1x8x256x128 : Shape := ⟨5, ![8, 1, 8, 256, 128]⟩
abbrev S8x8x256x128 : Shape := ⟨4, ![8, 8, 256, 128]⟩
abbrev S1x8x15x31 : Shape := ⟨4, ![1, 8, 15, 31]⟩
abbrev S8x15x31 : Shape := ⟨3, ![8, 15, 31]⟩
abbrev S16 : Shape := ⟨1, ![16]⟩
abbrev S64 : Shape := ⟨1, ![64]⟩
abbrev S16x1 : Shape := ⟨2, ![16, 1]⟩
abbrev S8 : Shape := ⟨1, ![8]⟩
abbrev S1x8 : Shape := ⟨2, ![1, 8]⟩
abbrev S16x8 : Shape := ⟨2, ![16, 8]⟩
abbrev S64x1 : Shape := ⟨2, ![64, 1]⟩
abbrev S1x16 : Shape := ⟨2, ![1, 16]⟩
abbrev S64x16 : Shape := ⟨2, ![64, 16]⟩
abbrev S16x1x8x1 : Shape := ⟨4, ![16, 1, 8, 1]⟩
abbrev S1x64x1x16 : Shape := ⟨4, ![1, 64, 1, 16]⟩
abbrev S16x64x8x16 : Shape := ⟨4, ![16, 64, 8, 16]⟩
abbrev S1024x128 : Shape := ⟨2, ![1024, 128]⟩
abbrev S1024x128x1 : Shape := ⟨3, ![1024, 128, 1]⟩
abbrev S8x8x1024x128x128 : Shape := ⟨5, ![8, 8, 1024, 128, 128]⟩
abbrev S8x465 : Shape := ⟨2, ![8, 465]⟩
abbrev S8x1024x128 : Shape := ⟨3, ![8, 1024, 128]⟩
abbrev S1x8x1024x128 : Shape := ⟨4, ![1, 8, 1024, 128]⟩
abbrev S8x8x1024x256 : Shape := ⟨4, ![8, 8, 1024, 256]⟩
abbrev S8x8x1024x384 : Shape := ⟨4, ![8, 8, 1024, 384]⟩
abbrev S8192x1024 : Shape := ⟨2, ![8192, 1024]⟩

abbrev nBuf : Space → Nat
  | .hbm => 169
  | .vmem => 0
  | .smem => 0
  | _ => 0

abbrev hbmTy0_0 (i : Nat) : BufTy := match i % 128 with
  | 0 => ⟨S16384x12288, .f32⟩
  | 1 => ⟨S8x2x8x256x128, .f32⟩
  | 2 => ⟨S8x2x8x256x128, .f32⟩
  | 3 => ⟨S2x8x15x31, .f32⟩
  | 4 => ⟨S128, .f32⟩
  | 5 => ⟨S128, .f32⟩
  | 6 => ⟨S8192x12288, .f32⟩
  | 7 => ⟨S8x1024x12288, .f32⟩
  | 8 => ⟨S8x1024x1024, .f32⟩
  | 9 => ⟨S8x1024x1024, .f32⟩
  | 10 => ⟨S8x1024x1024, .f32⟩
  | 11 => ⟨S8x1024x8x128, .f32⟩
  | 12 => ⟨S8x8x1024x128, .f32⟩
  | 13 => ⟨S8x8x1024x128, .f32⟩
  | 14 => ⟨S_, .f32⟩
  | 15 => ⟨S8x8x1024, .f32⟩
  | 16 => ⟨S8x8x1024x1, .f32⟩
  | 17 => ⟨S_, .f32⟩
  | 18 => ⟨S8x8x1024x1, .f32⟩
  | 19 => ⟨S8x8x1024x1, .f32⟩
  | 20 => ⟨S_, .f32⟩
  | 21 => ⟨S8x8x1024x1, .f32⟩
  | 22 => ⟨S8x8x1024x1, .f32⟩
  | 23 => ⟨S8x8x1024x1, .f32⟩
  | 24 => ⟨S8x8x1024x128, .f32⟩
  | 25 => ⟨S8x8x1024x128, .f32⟩
  | 26 => ⟨S1x1x1x128, .f32⟩
  | 27 => ⟨S8x8x1024x128, .f32⟩
  | 28 => ⟨S8x8x1024x128, .f32⟩
  | 29 => ⟨S8x1024x8x128, .f32⟩
  | 30 => ⟨S8x8x1024x128, .f32⟩
  | 31 => ⟨S8x8x1024x128, .f32⟩
  | 32 => ⟨S_, .f32⟩
  | 33 => ⟨S8x8x1024, .f32⟩
  | 34 => ⟨S8x8x1024x1, .f32⟩
  | 35 => ⟨S_, .f32⟩
  | 36 => ⟨S8x8x1024x1, .f32⟩
  | 37 => ⟨S8x8x1024x1, .f32⟩
  | 38 => ⟨S_, .f32⟩
  | 39 => ⟨S8x8x1024x1, .f32⟩
  | 40 => ⟨S8x8x1024x1, .f32⟩
  | 41 => ⟨S8x8x1024x1, .f32⟩
  | 42 => ⟨S8x8x1024x128, .f32⟩
  | 43 => ⟨S8x8x1024x128, .f32⟩
  | 44 => ⟨S1x1x1x128, .f32⟩
  | 45 => ⟨S8x8x1024x128, .f32⟩
  | 46 => ⟨S8x8x1024x128, .f32⟩
  | 47 => ⟨S8x1024x8x128, .f32⟩
  | 48 => ⟨S8x8x1024x128, .f32⟩
  | 49 => ⟨S8x1x8x256x128, .f32⟩
  | 50 => ⟨S8x8x256x128, .f32⟩
  | 51 => ⟨S8x1x8x256x128, .f32⟩
  | 52 => ⟨S8x8x256x128, .f32⟩
  | 53 => ⟨S1x8x15x31, .f32⟩
  | 54 => ⟨S8x15x31, .f32⟩
  | 55 => ⟨S16, .i32⟩
  | 56 => ⟨S64, .i32⟩
  | 57 => ⟨S_, .i32⟩
  | 58 => ⟨S16, .i32⟩
  | 59 => ⟨S16, .i32⟩
  | 60 => ⟨S_, .i32⟩
  | 61 => ⟨S_, .i32⟩
  | 62 => ⟨S_, .i32⟩
  | 63 => ⟨S16, .i32⟩
  | 64 => ⟨S16, .i32⟩
  | 65 => ⟨S_, .i32⟩
  | 66 => ⟨S16, .i32⟩
  | 67 => ⟨S16, .i32⟩
  | 68 => ⟨S16x1, .i32⟩
  | 69 => ⟨S8, .i32⟩
  | 70 => ⟨S1x8, .i32⟩
  | 71 => ⟨S16x8, .i32⟩
  | 72 => ⟨S16x8, .i32⟩
  | 73 => ⟨S16x8, .i32⟩
  | 74 => ⟨S_, .i32⟩
  | 75 => ⟨S64, .i32⟩
  | 76 => ⟨S64, .i32⟩
  | 77 => ⟨S_, .i32⟩
  | 78 => ⟨S_, .i32⟩
  | 79 => ⟨S_, .i32⟩
  | 80 => ⟨S64, .i32⟩
  | 81 => ⟨S64, .i32⟩
  | 82 => ⟨S_, .i32⟩
  | 83 => ⟨S64, .i32⟩
  | 84 => ⟨S64, .i32⟩
  | 85 => ⟨S64x1, .i32⟩
  | 86 => ⟨S16, .i32⟩
  | 87 => ⟨S1x16, .i32⟩
  | 88 => ⟨S64x16, .i32⟩
  | 89 => ⟨S64x16, .i32⟩
  | 90 => ⟨S64x16, .i32⟩
  | 91 => ⟨S16x1, .i32⟩
  | 92 => ⟨S16x8, .i32⟩
  | 93 => ⟨S16x8, .i32⟩
  | 94 => ⟨S_, .i32⟩
  | 95 => ⟨S16x8, .i32⟩
  | 96 => ⟨S16x8, .i32⟩
  | 97 => ⟨S_, .i32⟩
  | 98 => ⟨S16x8, .i32⟩
  | 99 => ⟨S16x8, .i32⟩
  | 100 => ⟨S64x1, .i32⟩
  | 101 => ⟨S64x16, .i32⟩
  | 102 => ⟨S64x16, .i32⟩
  | 103 => ⟨S_, .i32⟩
  | 104 => ⟨S64x16, .i32⟩
  | 105 => ⟨S64x16, .i32⟩
  | 106 => ⟨S_, .i32⟩
  | 107 => ⟨S64x16, .i32⟩
  | 108 => ⟨S64x16, .i32⟩
  | 109 => ⟨S16x1x8x1, .i32⟩
  | 110 => ⟨S_, .i32⟩
  | 111 => ⟨S16x1x8x1, .i32⟩
  | 112 => ⟨S16x1x8x1, .i32⟩
  | 113 => ⟨S1x64x1x16, .i32⟩
  | 114 => ⟨S16x64x8x16, .i32⟩
  | 115 => ⟨S16x64x8x16, .i32⟩
  | 116 => ⟨S16x64x8x16, .i32⟩
  | 117 => ⟨S1024x128, .i32⟩
  | 118 => ⟨S16x1x8x1, .i32⟩
  | 119 => ⟨S_, .i32⟩
  | 120 => ⟨S16x1x8x1, .i32⟩
  | 121 => ⟨S16x1x8x1, .i32⟩
  | 122 => ⟨S1x64x1x16, .i32⟩
  | 123 => ⟨S16x64x8x16, .i32⟩
  | 124 => ⟨S16x64x8x16, .i32⟩
  | 125 => ⟨S16x64x8x16, .i32⟩
  | 126 => ⟨S1024x128, .i32⟩
  | 127 => ⟨S1024x128x1, .i32⟩
  | _ => ⟨S16384x12288, .f32⟩

abbrev hbmTy0_1 (i : Nat) : BufTy := match i % 128 with
  | 0 => ⟨S8x8x1024x128x128, .f32⟩
  | 1 => ⟨S1024x128x1, .i32⟩
  | 2 => ⟨S8x8x1024x128x128, .f32⟩
  | 3 => ⟨S8x465, .f32⟩
  | 4 => ⟨S1024x128x1, .i32⟩
  | 5 => ⟨S8x1024x128, .f32⟩
  | 6 => ⟨S8x8x1024x128, .f32⟩
  | 7 => ⟨S_, .f32⟩
  | 8 => ⟨S8x8x1024x128, .f32⟩
  | 9 => ⟨S8x8x1024x128, .f32⟩
  | 10 => ⟨S1x8x1024x128, .f32⟩
  | 11 => ⟨S8x8x1024x128, .f32⟩
  | 12 => ⟨S8x8x1024x128, .f32⟩
  | 13 => ⟨S8x8x1024x256, .f32⟩
  | 14 => ⟨S_, .f32⟩
  | 15 => ⟨S8x8x1024x256, .f32⟩
  | 16 => ⟨S8x8x1024x256, .f32⟩
  | 17 => ⟨S8x8x1024x384, .f32⟩
  | 18 => ⟨S_, .f32⟩
  | 19 => ⟨S8x8x1024, .f32⟩
  | 20 => ⟨S_, .f32⟩
  | 21 => ⟨S8x8x1024, .f32⟩
  | 22 => ⟨S8x8x1024, .f32⟩
  | 23 => ⟨S8x8x1024x1, .f32⟩
  | 24 => ⟨S8x8x1024x384, .f32⟩
  | 25 => ⟨S8x8x1024x384, .f32⟩
  | 26 => ⟨S8x8x1024x384, .f32⟩
  | 27 => ⟨S_, .f32⟩
  | 28 => ⟨S8x8x1024, .f32⟩
  | 29 => ⟨S8x8x1024x1, .f32⟩
  | 30 => ⟨S8x8x1024x384, .f32⟩
  | 31 => ⟨S8x8x1024x384, .f32⟩
  | 32 => ⟨S8x8x1024x128, .f32⟩
  | 33 => ⟨S8x8x1024x128, .f32⟩
  | 34 => ⟨S8x8x1024x256, .f32⟩
  | 35 => ⟨S8x8x1024x128, .f32⟩
  | 36 => ⟨S8x8x1024x128, .f32⟩
  | 37 => ⟨S8x1024x8x128, .f32⟩
  | 38 => ⟨S8x1024x1024, .f32⟩
  | 39 => ⟨S8192x1024, .f32⟩
  | 40 => ⟨S8192x1024, .bf16⟩
  | _ => ⟨S16384x12288, .f32⟩

abbrev hbmTy (i : Nat) : BufTy := match i / 128 with
  | 0 => hbmTy0_0 i
  | 1 => hbmTy0_1 i
  | _ => ⟨S16384x12288, .f32⟩

abbrev bufTy : (tb : Table) → Fin (tcTables nBuf tb) → BufTy
  | .hbm, ⟨i, _⟩ => hbmTy i
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_c_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_7 : Ref sig .tc := ⟨.hbm, 74, rfl⟩
abbrev main_v54 : Ref sig .tc := ⟨.hbm, 75, rfl⟩
abbrev main_v55 : Ref sig .tc := ⟨.hbm, 76, rfl⟩
abbrev main_c_8 : Ref sig .tc := ⟨.hbm, 77, rfl⟩
abbrev main_c_9 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_10 : Ref sig .tc := ⟨.hbm, 94, rfl⟩
abbrev main_v66 : Ref sig .tc := ⟨.hbm, 95, rfl⟩
abbrev main_v67 : Ref sig .tc := ⟨.hbm, 96, rfl⟩
abbrev main_c_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_12 : Ref sig .tc := ⟨.hbm, 103, rfl⟩
abbrev main_v73 : Ref sig .tc := ⟨.hbm, 104, rfl⟩
abbrev main_v74 : Ref sig .tc := ⟨.hbm, 105, rfl⟩
abbrev main_c_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_15 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call2_v0 : Ref sig .tc := ⟨.hbm, 127, rfl⟩
abbrev main_v93 : Ref sig .tc := ⟨.hbm, 128, rfl⟩
abbrev main_call3_v0 : Ref sig .tc := ⟨.hbm, 129, rfl⟩
abbrev main_v94 : Ref sig .tc := ⟨.hbm, 130, rfl⟩
abbrev main_v95 : Ref sig .tc := ⟨.hbm, 131, rfl⟩
abbrev main_call4_v0 : Ref sig .tc := ⟨.hbm, 132, rfl⟩
abbrev main_v96 : Ref sig .tc := ⟨.hbm, 133, rfl⟩
abbrev main_v97 : Ref sig .tc := ⟨.hbm, 134, rfl⟩
abbrev main_cst_16 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_17 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_18 : Ref sig .tc := ⟨.hbm, 146, rfl⟩
abbrev main_v107 : Ref sig .tc := ⟨.hbm, 147, rfl⟩
abbrev main_cst_19 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_20 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩

abbrev nD : Nat := 1
abbrev τ : Topo := Topo.v7x

variable {F : FTy → Type} [FloatOps F]
-- ==== CtxKernel.lean ====
abbrev S16384x12288 : Shape := ⟨2, ![16384, 12288]⟩
abbrev S128 : Shape := ⟨1, ![128]⟩
abbrev S1x128 : Shape := ⟨2, ![1, 128]⟩
abbrev S8192x1024 : Shape := ⟨2, ![8192, 1024]⟩
abbrev S32x1x8x256x128 : Shape := ⟨5, ![32, 1, 8, 256, 128]⟩
abbrev S256x256 : Shape := ⟨2, ![256, 256]⟩
abbrev S1x1x2x256x128 : Shape := ⟨5, ![1, 1, 2, 256, 128]⟩
abbrev S256x128 : Shape := ⟨2, ![256, 128]⟩
abbrev S256 : Shape := ⟨1, ![256]⟩
abbrev S256x1 : Shape := ⟨2, ![256, 1]⟩
abbrev S1x1x1x256x128 : Shape := ⟨5, ![1, 1, 1, 256, 128]⟩

abbrev nBuf : Space → Nat
  | .hbm => 8
  | .vmem => 14
  | .smem => 0
  | _ => 0

abbrev bufTy : (tb : Table) → Fin (tcTables nBuf tb) → BufTy
  | .hbm, ⟨0, _⟩ => ⟨S16384x12288, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8192x1024, .bf16⟩
  | .hbm, ⟨6, _⟩ => ⟨S32x1x8x256x128, .f32⟩
  | .hbm, ⟨7, _⟩ => ⟨S32x1x8x256x128, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x128, .f32⟩
  | .local _ .vmem, ⟨7, _⟩ => ⟨S1x128, .f32⟩
  | .local _ .vmem, ⟨8, _⟩ => ⟨S256x256, .bf16⟩
  | .local _ .vmem, ⟨9, _⟩ => ⟨S256x256, .bf16⟩
  | .local _ .vmem, ⟨10, _⟩ => ⟨S1x1x2x256x128, .f32⟩
  | .local _ .vmem, ⟨11, _⟩ => ⟨S1x1x2x256x128, .f32⟩
  | .local _ .vmem, ⟨12, _⟩ => ⟨S1x1x2x256x128, .f32⟩
  | .local _ .vmem, ⟨13, _⟩ => ⟨S1x1x2x256x128, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== CtxReferenceIdeal.lean ====
abbrev S16384x12288 : Shape := ⟨2, ![16384, 12288]⟩
abbrev S128 : Shape := ⟨1, ![128]⟩
abbrev S8192x12288 : Shape := ⟨2, ![8192, 12288]⟩
abbrev S32x256x12288 : Shape := ⟨3, ![32, 256, 12288]⟩
abbrev S32x256x1024 : Shape := ⟨3, ![32, 256, 1024]⟩
abbrev S32x256x8x128 : Shape := ⟨4, ![32, 256, 8, 128]⟩
abbrev S32x8x256x128 : Shape := ⟨4, ![32, 8, 256, 128]⟩
abbrev S_ : Shape := ⟨0, ![]⟩
abbrev S32x8x256 : Shape := ⟨3, ![32, 8, 256]⟩
abbrev S32x8x256x1 : Shape := ⟨4, ![32, 8, 256, 1]⟩
abbrev S1x1x1x128 : Shape := ⟨4, ![1, 1, 1, 128]⟩
abbrev S32x8x256x256 : Shape := ⟨4, ![32, 8, 256, 256]⟩
abbrev S8192x1024 : Shape := ⟨2, ![8192, 1024]⟩
abbrev S32x1x8x256x128 : Shape := ⟨5, ![32, 1, 8, 256, 128]⟩

abbrev nBuf : Space → Nat
  | .hbm => 71
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S128, .f32⟩
  | .hbm, ⟨2, _⟩ => ⟨S128, .f32⟩
  | .hbm, ⟨3, _⟩ => ⟨S8192x12288, .f32⟩
  | .hbm, ⟨4, _⟩ => ⟨S32x256x12288, .f32⟩
  | .hbm, ⟨5, _⟩ => ⟨S32x256x1024, .f32⟩
  | .hbm, ⟨6, _⟩ => ⟨S32x256x1024, .f32⟩
  | .hbm, ⟨7, _⟩ => ⟨S32x256x1024, .f32⟩
  | .hbm, ⟨8, _⟩ => ⟨S32x256x8x128, .f32⟩
  | .hbm, ⟨9, _⟩ => ⟨S32x8x256x128, .f32⟩
  | .hbm, ⟨10, _⟩ => ⟨S32x8x256x128, .f32⟩
  | .hbm, ⟨11, _⟩ => ⟨S_, .f32⟩
  | .hbm, ⟨12, _⟩ => ⟨S32x8x256, .f32⟩
  | .hbm, ⟨13, _⟩ => ⟨S32x8x256x1, .f32⟩
  | .hbm, ⟨14, _⟩ => ⟨S_, .f32⟩
  | .hbm, ⟨15, _⟩ => ⟨S32x8x256x1, .f32⟩
  | .hbm, ⟨16, _⟩ => ⟨S32x8x256x1, .f32⟩
  | .hbm, ⟨17, _⟩ => ⟨S_, .f32⟩
  | .hbm, ⟨18, _⟩ => ⟨S32x8x256x1, .f32⟩
  | .hbm, ⟨19, _⟩ => ⟨S32x8x256x1, .f32⟩
  | .hbm, ⟨20, _⟩ => ⟨S32x8x256x1, .f32⟩
  | .hbm, ⟨21, _⟩ => ⟨S32x8x256x128, .f32⟩
  | .hbm, ⟨22, _⟩ => ⟨S32x8x256x128, .f32⟩
  | .hbm, ⟨23, _⟩ => ⟨S1x1x1x128, .f32⟩
  | .hbm, ⟨24, _⟩ => ⟨S32x8x256x128, .f32⟩
  | .hbm, ⟨25, _⟩ => ⟨S32x8x256x128, .f32⟩
  | .hbm, ⟨26, _⟩ => ⟨S32x256x8x128, .f32⟩
  | .hbm, ⟨27, _⟩ => ⟨S32x8x256x128, .f32⟩
  | .hbm, ⟨28, _⟩ => ⟨S32x8x256x128, .f32⟩
  | .hbm, ⟨29, _⟩ => ⟨S_, .f32⟩
  | .hbm, ⟨30, _⟩ => ⟨S32x8x256, .f32⟩
  | .hbm, ⟨31, _⟩ => ⟨S32x8x256x1, .f32⟩
  | .hbm, ⟨32, _⟩ => ⟨S_, .f32⟩
  | .hbm, ⟨33, _⟩ => ⟨S32x8x256x1, .f32⟩
  | .hbm, ⟨34, _⟩ => ⟨S32x8x256x1, .f32⟩
  | .hbm, ⟨35, _⟩ => ⟨S_, .f32⟩
  | .hbm, ⟨36, _⟩ => ⟨S32x8x256x1, .f32⟩
  | .hbm, ⟨37, _⟩ => ⟨S32x8x256x1, .f32⟩
  | .hbm, ⟨38, _⟩ => ⟨S32x8x256x1, .f32⟩
  | .hbm, ⟨39, _⟩ => ⟨S32x8x256x128, .f32⟩
  | .hbm, ⟨40, _⟩ => ⟨S32x8x256x128, .f32⟩
  | .hbm, ⟨41, _⟩ => ⟨S1x1x1x128, .f32⟩
  | .hbm, ⟨42, _⟩ => ⟨S32x8x256x128, .f32⟩
  | .hbm, ⟨43, _⟩ => ⟨S32x8x256x128, .f32⟩
  | .hbm, ⟨44, _⟩ => ⟨S32x256x8x128, .f32⟩
  | .hbm, ⟨45, _⟩ => ⟨S32x8x256x128, .f32⟩
  | .hbm, ⟨46, _⟩ => ⟨S32x8x256x256, .f32⟩
  | .hbm, ⟨47, _⟩ => ⟨S_, .f32⟩
  | .hbm, ⟨48, _⟩ => ⟨S32x8x256x256, .f32⟩
  | .hbm, ⟨49, _⟩ => ⟨S32x8x256x256, .f32⟩
  | .hbm, ⟨50, _⟩ => ⟨S_, .f32⟩
  | .hbm, ⟨51, _⟩ => ⟨S32x8x256, .f32⟩
  | .hbm, ⟨52, _⟩ => ⟨S_, .f32⟩
  | .hbm, ⟨53, _⟩ => ⟨S32x8x256, .f32⟩
  | .hbm, ⟨54, _⟩ => ⟨S32x8x256, .f32⟩
  | .hbm, ⟨55, _⟩ => ⟨S32x8x256x1, .f32⟩
  | .hbm, ⟨56, _⟩ => ⟨S32x8x256x256, .f32⟩
  | .hbm, ⟨57, _⟩ => ⟨S32x8x256x256, .f32⟩
  | .hbm, ⟨58, _⟩ => ⟨S32x8x256x256, .f32⟩
  | .hbm, ⟨59, _⟩ => ⟨S_, .f32⟩
  | .hbm, ⟨60, _⟩ => ⟨S32x8x256, .f32⟩
  | .hbm, ⟨61, _⟩ => ⟨S32x8x256x1, .f32⟩
  | .hbm, ⟨62, _⟩ => ⟨S32x8x256x256, .f32⟩
  | .hbm, ⟨63, _⟩ => ⟨S32x8x256x256, .f32⟩
  | .hbm, ⟨64, _⟩ => ⟨S32x8x256x128, .f32⟩
  | .hbm, ⟨65, _⟩ => ⟨S32x256x8x128, .f32⟩
  | .hbm, ⟨66, _⟩ => ⟨S32x256x1024, .f32⟩
  | .hbm, ⟨67, _⟩ => ⟨S8192x1024, .f32⟩
  | .hbm, ⟨68, _⟩ => ⟨S8192x1024, .bf16⟩
  | .hbm, ⟨69, _⟩ => ⟨S32x1x8x256x128, .f32⟩
  | .hbm, ⟨70, _⟩ => ⟨S32x1x8x256x128, .f32⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== MoeKernel.lean ====
abbrev S36864x2048 : Shape := ⟨2, ![36864, 2048]⟩
abbrev S8x2048x7168 : Shape := ⟨3, ![8, 2048, 7168]⟩
abbrev S8x7168x2048 : Shape := ⟨3, ![8, 7168, 2048]⟩
abbrev S72 : Shape := ⟨1, ![72]⟩
abbrev S1 : Shape := ⟨1, ![1]⟩
abbrev S_ : Shape := ⟨0, ![]⟩
abbrev S72x1 : Shape := ⟨2, ![72, 1]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 20
  | .vmem => 10
  | .smem => 2
  | _ => 0

abbrev bufTy : (tb : Table) → Fin (tcTables nBuf tb) → BufTy
  | .hbm, ⟨0, _⟩ => ⟨S36864x2048, .f32⟩
  | .hbm, ⟨1, _⟩ => ⟨S8x2048x7168, .bf16⟩
  | .hbm, ⟨2, _⟩ => ⟨S8x2048x7168, .bf16⟩
  | .hbm, ⟨3, _⟩ => ⟨S8x7168x2048, .bf16⟩
  | .hbm, ⟨4, _⟩ => ⟨S72, .i32⟩
  | .hbm, ⟨5, _⟩ => ⟨S72, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S72, .i32⟩
  | .hbm, ⟨10, _⟩ => ⟨S72, .i32⟩
  | .hbm, ⟨11, _⟩ => ⟨S_, .i32⟩
  | .hbm, ⟨12, _⟩ => ⟨S72, .i32⟩
  | .hbm, ⟨13, _⟩ => ⟨S72, .i1⟩
  | .hbm, ⟨14, _⟩ => ⟨S_, .i32⟩
  | .hbm, ⟨15, _⟩ => ⟨S72, .i32⟩
  | .hbm, ⟨16, _⟩ => ⟨S72, .i32⟩
  | .hbm, ⟨17, _⟩ => ⟨S72, .i32⟩
  | .hbm, ⟨18, _⟩ => ⟨S72x1, .i32⟩
  | .hbm, ⟨19, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .smem, ⟨0, _⟩ => ⟨S72, .i32⟩
  | .local _ .smem, ⟨1, _⟩ => ⟨S1, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v11 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_v11.idx, main_arg5.idx], fun | 0 => main_v11.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_16 : BitVec 32 := 0#32
  let v25 : BitVec 1 := Scalar.cmpi .eq arg1 c0_i32_16
  let v26 : BitVec 32 := Scalar.extui v25
  let c0_i32_17 : BitVec 32 := 0#32
  let v27 : BitVec 1 := Scalar.cmpi .ne v26 c0_i32_17
  v27

def k0_cond3 (i : grid0.Coords) : BitVec 1 :=
  let arg1 : BitVec 32 := BitVec.ofNat 32 (i 1).val
  let c0_i32_18 : BitVec 32 := 0#32
  let v28 : BitVec 1 := Scalar.cmpi .sgt arg1 c0_i32_18
  let v29 : BitVec 32 := Scalar.extui v28
  let c0_i32_19 : BitVec 32 := 0#32
  let v30 : BitVec 1 := Scalar.cmpi .ne v29 c0_i32_19
  v30

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeReferenceIdeal.lean ====
abbrev S36864x2048 : Shape := ⟨2, ![36864, 2048]⟩
abbrev S8x2048x7168 : Shape := ⟨3, ![8, 2048, 7168]⟩
abbrev S8x7168x2048 : Shape := ⟨3, ![8, 7168, 2048]⟩
abbrev S72 : Shape := ⟨1, ![72]⟩
abbrev S1 : Shape := ⟨1, ![1]⟩
abbrev S72x512x2048 : Shape := ⟨3, ![72, 512, 2048]⟩
abbrev S72x1 : Shape := ⟨2, ![72, 1]⟩
abbrev S72x2048x7168 : Shape := ⟨3, ![72, 2048, 7168]⟩
abbrev S72x7168x2048 : Shape := ⟨3, ![72, 7168, 2048]⟩
abbrev S72x512x7168 : Shape := ⟨3, ![72, 512, 7168]⟩
abbrev S_ : Shape := ⟨0, ![]⟩
abbrev S72x1x1 : Shape := ⟨3, ![72, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S8x2048x7168, .bf16⟩
  | .hbm, ⟨2, _⟩ => ⟨S8x2048x7168, .bf16⟩
  | .hbm, ⟨3, _⟩ => ⟨S8x7168x2048, .bf16⟩
  | .hbm, ⟨4, _⟩ => ⟨S72, .i32⟩
  | .hbm, ⟨5, _⟩ => ⟨S1, .i32⟩
  | .hbm, ⟨6, _⟩ => ⟨S72x512x2048, .f32⟩
  | .hbm, ⟨7, _⟩ => ⟨S8x2048x7168, .f32⟩
  | .hbm, ⟨8, _⟩ => ⟨S72x1, .i32⟩
  | .hbm, ⟨9, _⟩ => ⟨S72x2048x7168, .f32⟩
  | .hbm, ⟨10, _⟩ => ⟨S8x2048x7168, .f32⟩
  | .hbm, ⟨11, _⟩ => ⟨S72x1, .i32⟩
  | .hbm, ⟨12, _⟩ => ⟨S72x2048x7168, .f32⟩
  | .hbm, ⟨13, _⟩ => ⟨S8x7168x2048, .f32⟩
  | .hbm, ⟨14, _⟩ => ⟨S72x1, .i32⟩
  | .hbm, ⟨15, _⟩ => ⟨S72x7168x2048, .f32⟩
  | .hbm, ⟨16, _⟩ => ⟨S72x512x7168, .f32⟩
  | .hbm, ⟨17, _⟩ => ⟨S72x512x7168, .f32⟩
  | .hbm, ⟨18, _⟩ => ⟨S72x512x7168, .f32⟩
  | .hbm, ⟨19, _⟩ => ⟨S_, .f32⟩
  | .hbm, ⟨20, _⟩ => ⟨S72x512x7168, .f32⟩
  | .hbm, ⟨21, _⟩ => ⟨S72x512x7168, .f32⟩
  | .hbm, ⟨22, _⟩ => ⟨S_, .f32⟩
  | .hbm, ⟨23, _⟩ => ⟨S72x512x7168, .f32⟩
  | .hbm, ⟨24, _⟩ => ⟨S72x512x7168, .f32⟩
  | .hbm, ⟨25, _⟩ => ⟨S72x512x7168, .f32⟩
  | .hbm, ⟨26, _⟩ => ⟨S72x512x7168, .f32⟩
  | .hbm, ⟨27, _⟩ => ⟨S72x512x7168, .f32⟩
  | .hbm, ⟨28, _⟩ => ⟨S72x512x2048, .f32⟩
  | .hbm, ⟨29, _⟩ => ⟨S72, .i32⟩
  | .hbm, ⟨30, _⟩ => ⟨S_, .i32⟩
  | .hbm, ⟨31, _⟩ => ⟨S72, .i32⟩
  | .hbm, ⟨32, _⟩ => ⟨S72, .i1⟩
  | .hbm, ⟨33, _⟩ => ⟨S72x1x1, .i1⟩
  | .hbm, ⟨34, _⟩ => ⟨S_, .f32⟩
  | .hbm, ⟨35, _⟩ => ⟨S_, .f32⟩
  | .hbm, ⟨36, _⟩ => ⟨S72x512x2048, .i1⟩
  | .hbm, ⟨37, _⟩ => ⟨S72x512x2048, .f32⟩
  | .hbm, ⟨38, _⟩ => ⟨S72x512x2048, .f32⟩
  | .hbm, ⟨39, _⟩ => ⟨S36864x2048, .f32⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_call3_v0 : Ref sig .tc := ⟨.hbm, 17, rfl⟩
abbrev main_call3_v1 : Ref sig .tc := ⟨.hbm, 18, rfl⟩
abbrev main_call3_cst : Ref sig .tc := ⟨.hbm, 19, rfl⟩
abbrev main_call3_v2 : Ref sig .tc := ⟨.hbm, 20, rfl⟩
abbrev main_call3_v3 : Ref sig .tc := ⟨.hbm, 21, rfl⟩
abbrev main_call3_cst_0 : Ref sig .tc := ⟨.hbm, 22, rfl⟩
abbrev main_call3_v4 : Ref sig .tc := ⟨.hbm, 23, rfl⟩
abbrev main_call3_v5 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== ProjKernel.lean ====
abbrev S16384x2048 : Shape := ⟨2, ![16384, 2048]⟩
abbrev S2x2048x12288 : Shape := ⟨3, ![2, 2048, 12288]⟩
abbrev S1x8x2048x7168 : Shape := ⟨4, ![1, 8, 2048, 7168]⟩
abbrev S1x2048x12288 : Shape := ⟨3, ![1, 2048, 12288]⟩
abbrev S2048x12288 : Shape := ⟨2, ![2048, 12288]⟩
abbrev S8x2048x7168 : Shape := ⟨3, ![8, 2048, 7168]⟩
abbrev S16384x7168 : Shape := ⟨2, ![16384, 7168]⟩
abbrev S16384x12288 : Shape := ⟨2, ![16384, 12288]⟩
abbrev S1024x2048 : Shape := ⟨2, ![1024, 2048]⟩
abbrev S2048x1536 : Shape := ⟨2, ![2048, 1536]⟩
abbrev S128x7168 : Shape := ⟨2, ![128, 7168]⟩
abbrev S1024x1536 : Shape := ⟨2, ![1024, 1536]⟩

abbrev nBuf : Space → Nat
  | .hbm => 10
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2x2048x12288, .f32⟩
  | .hbm, ⟨2, _⟩ => ⟨S1x8x2048x7168, .f32⟩
  | .hbm, ⟨3, _⟩ => ⟨S1x2048x12288, .f32⟩
  | .hbm, ⟨4, _⟩ => ⟨S2048x12288, .f32⟩
  | .hbm, ⟨5, _⟩ => ⟨S2048x12288, .bf16⟩
  | .hbm, ⟨6, _⟩ => ⟨S8x2048x7168, .f32⟩
  | .hbm, ⟨7, _⟩ => ⟨S16384x7168, .f32⟩
  | .hbm, ⟨8, _⟩ => ⟨S16384x12288, .f32⟩
  | .hbm, ⟨9, _⟩ => ⟨S16384x7168, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S128x7168, .f32⟩
  | .local _ .vmem, ⟨5, _⟩ => ⟨S128x7168, .f32⟩
  | .local _ .vmem, ⟨6, _⟩ => ⟨S1024x1536, .f32⟩
  | .local _ .vmem, ⟨7, _⟩ => ⟨S1024x1536, .f32⟩
  | .local _ .vmem, ⟨8, _⟩ => ⟨S128x7168, .bf16⟩
  | .local _ .vmem, ⟨9, _⟩ => ⟨S128x7168, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x7168 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjReferenceIdeal.lean ====
abbrev S16384x2048 : Shape := ⟨2, ![16384, 2048]⟩
abbrev S2x2048x12288 : Shape := ⟨3, ![2, 2048, 12288]⟩
abbrev S1x8x2048x7168 : Shape := ⟨4, ![1, 8, 2048, 7168]⟩
abbrev S1x2048x12288 : Shape := ⟨3, ![1, 2048, 12288]⟩
abbrev S2048x12288 : Shape := ⟨2, ![2048, 12288]⟩
abbrev S16384x12288 : Shape := ⟨2, ![16384, 12288]⟩
abbrev S8x2048x7168 : Shape := ⟨3, ![8, 2048, 7168]⟩
abbrev S16384x7168 : Shape := ⟨2, ![16384, 7168]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x12288, .f32⟩
  | .hbm, ⟨2, _⟩ => ⟨S1x8x2048x7168, .f32⟩
  | .hbm, ⟨3, _⟩ => ⟨S16384x2048, .f32⟩
  | .hbm, ⟨4, _⟩ => ⟨S1x2048x12288, .f32⟩
  | .hbm, ⟨5, _⟩ => ⟨S2048x12288, .f32⟩
  | .hbm, ⟨6, _⟩ => ⟨S16384x12288, .f32⟩
  | .hbm, ⟨7, _⟩ => ⟨S8x2048x7168, .f32⟩
  | .hbm, ⟨8, _⟩ => ⟨S16384x7168, .f32⟩
  | .hbm, ⟨9, _⟩ => ⟨S16384x7168, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MergeKernel.lean ====
abbrev S8192x1024 : Shape := ⟨2, ![8192, 1024]⟩
abbrev S2x1024x2048 : Shape := ⟨3, ![2, 1024, 2048]⟩
abbrev S16384x12288 : Shape := ⟨2, ![16384, 12288]⟩
abbrev S1x1024x2048 : Shape := ⟨3, ![1, 1024, 2048]⟩
abbrev S1024x2048 : Shape := ⟨2, ![1024, 2048]⟩
abbrev S16384x2048 : Shape := ⟨2, ![16384, 2048]⟩
abbrev S512x1024 : Shape := ⟨2, ![512, 1024]⟩
abbrev S1024x1024 : Shape := ⟨2, ![1024, 1024]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x1024x2048, .f32⟩
  | .hbm, ⟨5, _⟩ => ⟨S2x1024x2048, .f32⟩
  | .hbm, ⟨6, _⟩ => ⟨S16384x12288, .f32⟩
  | .hbm, ⟨7, _⟩ => ⟨S1x1024x2048, .f32⟩
  | .hbm, ⟨8, _⟩ => ⟨S1024x2048, .f32⟩
  | .hbm, ⟨9, _⟩ => ⟨S1024x2048, .bf16⟩
  | .hbm, ⟨10, _⟩ => ⟨S1x1024x2048, .f32⟩
  | .hbm, ⟨11, _⟩ => ⟨S1024x2048, .f32⟩
  | .hbm, ⟨12, _⟩ => ⟨S1024x2048, .bf16⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeReferenceIdeal.lean ====
abbrev S8192x1024 : Shape := ⟨2, ![8192, 1024]⟩
abbrev S2x1024x2048 : Shape := ⟨3, ![2, 1024, 2048]⟩
abbrev S16384x12288 : Shape := ⟨2, ![16384, 12288]⟩
abbrev S16384x1024 : Shape := ⟨2, ![16384, 1024]⟩
abbrev S16384x4096 : Shape := ⟨2, ![16384, 4096]⟩
abbrev S16384x2048 : Shape := ⟨2, ![16384, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x1024x2048, .f32⟩
  | .hbm, ⟨5, _⟩ => ⟨S2x1024x2048, .f32⟩
  | .hbm, ⟨6, _⟩ => ⟨S16384x12288, .f32⟩
  | .hbm, ⟨7, _⟩ => ⟨S16384x1024, .bf16⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x4096, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S1x1024x2048, .f32⟩
  | .hbm, ⟨23, _⟩ => ⟨S1024x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S1x1024x2048, .f32⟩
  | .hbm, ⟨35, _⟩ => ⟨S1024x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== LateProjKernel.lean ====
abbrev S16384x2048 : Shape := ⟨2, ![16384, 2048]⟩
abbrev S2x2048x12288 : Shape := ⟨3, ![2, 2048, 12288]⟩
abbrev S1x8x2048x7168 : Shape := ⟨4, ![1, 8, 2048, 7168]⟩
abbrev S1x2048x12288 : Shape := ⟨3, ![1, 2048, 12288]⟩
abbrev S2048x12288 : Shape := ⟨2, ![2048, 12288]⟩
abbrev S8x2048x7168 : Shape := ⟨3, ![8, 2048, 7168]⟩
abbrev S16384x7168 : Shape := ⟨2, ![16384, 7168]⟩
abbrev S16384x12288 : Shape := ⟨2, ![16384, 12288]⟩
abbrev S1024x2048 : Shape := ⟨2, ![1024, 2048]⟩
abbrev S2048x1536 : Shape := ⟨2, ![2048, 1536]⟩
abbrev S128x7168 : Shape := ⟨2, ![128, 7168]⟩
abbrev S1024x1536 : Shape := ⟨2, ![1024, 1536]⟩

abbrev nBuf : Space → Nat
  | .hbm => 10
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2x2048x12288, .f32⟩
  | .hbm, ⟨2, _⟩ => ⟨S1x8x2048x7168, .f32⟩
  | .hbm, ⟨3, _⟩ => ⟨S1x2048x12288, .f32⟩
  | .hbm, ⟨4, _⟩ => ⟨S2048x12288, .f32⟩
  | .hbm, ⟨5, _⟩ => ⟨S2048x12288, .bf16⟩
  | .hbm, ⟨6, _⟩ => ⟨S8x2048x7168, .f32⟩
  | .hbm, ⟨7, _⟩ => ⟨S16384x7168, .f32⟩
  | .hbm, ⟨8, _⟩ => ⟨S16384x12288, .f32⟩
  | .hbm, ⟨9, _⟩ => ⟨S16384x7168, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S128x7168, .f32⟩
  | .local _ .vmem, ⟨5, _⟩ => ⟨S128x7168, .f32⟩
  | .local _ .vmem, ⟨6, _⟩ => ⟨S1024x1536, .f32⟩
  | .local _ .vmem, ⟨7, _⟩ => ⟨S1024x1536, .f32⟩
  | .local _ .vmem, ⟨8, _⟩ => ⟨S128x7168, .bf16⟩
  | .local _ .vmem, ⟨9, _⟩ => ⟨S128x7168, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x7168 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LateProjReferenceIdeal.lean ====
abbrev S16384x2048 : Shape := ⟨2, ![16384, 2048]⟩
abbrev S2x2048x12288 : Shape := ⟨3, ![2, 2048, 12288]⟩
abbrev S1x8x2048x7168 : Shape := ⟨4, ![1, 8, 2048, 7168]⟩
abbrev S1x2048x12288 : Shape := ⟨3, ![1, 2048, 12288]⟩
abbrev S2048x12288 : Shape := ⟨2, ![2048, 12288]⟩
abbrev S16384x12288 : Shape := ⟨2, ![16384, 12288]⟩
abbrev S8x2048x7168 : Shape := ⟨3, ![8, 2048, 7168]⟩
abbrev S16384x7168 : Shape := ⟨2, ![16384, 7168]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x12288, .f32⟩
  | .hbm, ⟨2, _⟩ => ⟨S1x8x2048x7168, .f32⟩
  | .hbm, ⟨3, _⟩ => ⟨S16384x2048, .f32⟩
  | .hbm, ⟨4, _⟩ => ⟨S1x2048x12288, .f32⟩
  | .hbm, ⟨5, _⟩ => ⟨S2048x12288, .f32⟩
  | .hbm, ⟨6, _⟩ => ⟨S16384x12288, .f32⟩
  | .hbm, ⟨7, _⟩ => ⟨S8x2048x7168, .f32⟩
  | .hbm, ⟨8, _⟩ => ⟨S16384x7168, .f32⟩
  | .hbm, ⟨9, _⟩ => ⟨S16384x7168, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LateMergeKernel.lean ====
abbrev S8192x1024 : Shape := ⟨2, ![8192, 1024]⟩
abbrev S2x1024x2048 : Shape := ⟨3, ![2, 1024, 2048]⟩
abbrev S16384x12288 : Shape := ⟨2, ![16384, 12288]⟩
abbrev S1x1024x2048 : Shape := ⟨3, ![1, 1024, 2048]⟩
abbrev S1024x2048 : Shape := ⟨2, ![1024, 2048]⟩
abbrev S16384x2048 : Shape := ⟨2, ![16384, 2048]⟩
abbrev S512x1024 : Shape := ⟨2, ![512, 1024]⟩
abbrev S1024x1024 : Shape := ⟨2, ![1024, 1024]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x1024x2048, .f32⟩
  | .hbm, ⟨5, _⟩ => ⟨S2x1024x2048, .f32⟩
  | .hbm, ⟨6, _⟩ => ⟨S16384x12288, .f32⟩
  | .hbm, ⟨7, _⟩ => ⟨S1x1024x2048, .f32⟩
  | .hbm, ⟨8, _⟩ => ⟨S1024x2048, .f32⟩
  | .hbm, ⟨9, _⟩ => ⟨S1024x2048, .bf16⟩
  | .hbm, ⟨10, _⟩ => ⟨S1x1024x2048, .f32⟩
  | .hbm, ⟨11, _⟩ => ⟨S1024x2048, .f32⟩
  | .hbm, ⟨12, _⟩ => ⟨S1024x2048, .bf16⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LateMergeReferenceIdeal.lean ====
abbrev S8192x1024 : Shape := ⟨2, ![8192, 1024]⟩
abbrev S2x1024x2048 : Shape := ⟨3, ![2, 1024, 2048]⟩
abbrev S16384x12288 : Shape := ⟨2, ![16384, 12288]⟩
abbrev S16384x1024 : Shape := ⟨2, ![16384, 1024]⟩
abbrev S16384x4096 : Shape := ⟨2, ![16384, 4096]⟩
abbrev S16384x2048 : Shape := ⟨2, ![16384, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x1024x2048, .f32⟩
  | .hbm, ⟨5, _⟩ => ⟨S2x1024x2048, .f32⟩
  | .hbm, ⟨6, _⟩ => ⟨S16384x12288, .f32⟩
  | .hbm, ⟨7, _⟩ => ⟨S16384x1024, .bf16⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x4096, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S1x1024x2048, .f32⟩
  | .hbm, ⟨23, _⟩ => ⟨S1024x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S1x1024x2048, .f32⟩
  | .hbm, ⟨35, _⟩ => ⟨S1024x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.Attention.lean ====
/- The mathematics both attention kernels share, over the extended reals: what root-mean-square scaling makes real,
   and that dividing a weighted sum by the total weight is the same as weighting by the divided weights. -/
module

public import Idealize.ShloMosaic.PureOps.Ideal.Laws

@[expose] public section

noncomputable section

open Idealize.ShloMosaic

namespace Cert.Attention

/-- An extended real that is a real number. -/
def IsReal (x : EReal) : Prop := ∃ r : ℝ, x = (r : EReal)

/-- A real number is real. -/
theorem isReal_coe (r : ℝ) : IsReal (r : EReal) := ⟨r, rfl⟩

/-- Being real is being neither infinity. -/
theorem isReal_of_ne {x : EReal} (h : x ≠ ⊥) (h' : x ≠ ⊤) : IsReal x := by
  induction x with
  | bot => exact absurd rfl h
  | top => exact absurd rfl h'
  | coe r => exact ⟨r, rfl⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

/-- Products of reals are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Sums of reals are real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Finite sums of reals are real. -/
theorem isReal_sum {ι : Type} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- An absolute value below infinity belongs to a real number. -/
theorem isReal_of_abs {x : EReal} (h : max x (-x) < ⊤) : IsReal x := by
  refine isReal_of_ne (fun e => ?_) (fun e => ?_) <;> subst e <;> simp at h

/-! ## The literals -/

/-- The pattern 0x43000000 is 128. -/
theorem lit_128 : Ideal.ofBits .f32 0x43000000#32 = ((128 : ℝ) : EReal) := by
  simp [Ideal.ofBits, Ideal.ieee, -EReal.coe_mul]; norm_num

/-- The pattern 0x358637BD (the norms' 1e-6) is a positive real. -/
theorem lit_eps : ∃ r : ℝ, 0 < r ∧ Ideal.ofBits .f32 0x358637BD#32 = (r : EReal) := by
  refine ⟨_, ?_, by simp [Ideal.ofBits, Ideal.ieee, -EReal.coe_mul]; rfl⟩
  positivity

/-- The pattern 0x3DB504F3 (128 to the power −1/2) is real. -/
theorem lit_scale : IsReal (Ideal.ofBits .f32 0x3DB504F3#32) :=
  ⟨_, by simp [Ideal.ofBits, Ideal.ieee, -EReal.coe_mul]; rfl⟩

/-- The pattern 0xFF800000 is −∞. -/
theorem lit_ninf : Ideal.ofBits .f32 0xFF800000#32 = ⊥ := by
  simp [Ideal.ofBits, Ideal.ieee]

/-- The pattern 0x7F800000 is +∞. -/
theorem lit_inf : Ideal.ofBits .f32 0x7F800000#32 = ⊤ := by
  simp [Ideal.ofBits, Ideal.ieee]

/-! ## Root-mean-square scaling -/

/-- A square is not negative. -/
theorem mul_self_nonneg' (x : EReal) : 0 ≤ x * x := by
  induction x with
  | bot => simp
  | top => simp
  | coe r => rw [← EReal.coe_mul]; exact_mod_cast mul_self_nonneg r

/-- A real square comes from a real number. -/
theorem isReal_of_mul_self {x : EReal} (h : x * x ≠ ⊤) : IsReal x := by
  refine isReal_of_ne (fun e => ?_) (fun e => ?_) <;> subst e <;> simp at h

/-- A value whose magnitude compares below infinity is real. -/
theorem isReal_of_lt_inf {x : EReal}
    (h : BitVec.ofBool (decide ((FloatOps.absf (F := Ideal) (φ := .f32) x : EReal) < Ideal.ofBits .f32 0x7F800000#32)) = 1#1) : IsReal x := by
  rw [lit_inf] at h
  refine isReal_of_abs ?_
  by_contra hn
  rw [decide_eq_false (show ¬ (FloatOps.absf (F := Ideal) (φ := .f32) x : EReal) < ⊤ from hn)] at h
  exact absurd h (by decide)

/-- One entry times the reciprocal root of the mean square plus a positive number is real, whatever the entries:
    where the sum of squares is infinite the reciprocal root is zero. -/
theorem isReal_rms {n : ℕ} (x : Fin n → EReal) {c e : ℝ} (hc : 0 < c) (he : 0 < e) (k : Fin n) :
    IsReal (x k * Ideal.rsqrt (Ideal.div (∑ j, x j * x j) (c : EReal) + (e : EReal))) := by
  have hnn : (0 : EReal) ≤ ∑ j, x j * x j := Finset.sum_nonneg fun j _ => mul_self_nonneg' (x j)
  rw [Ideal.div_coe hc.ne']
  by_cases ht : (∑ j, x j * x j) = ⊤
  · rw [ht, EReal.top_mul_coe_of_pos (by positivity), EReal.top_add_coe]
    exact ⟨0, by rw [Ideal.rsqrt_top, mul_zero, EReal.coe_zero]⟩
  · have hk : IsReal (x k) := by
      refine isReal_of_mul_self fun h => ht (top_le_iff.1 ?_)
      rw [← h]
      exact Finset.single_le_sum (f := fun j => x j * x j) (fun j _ => mul_self_nonneg' (x j)) (Finset.mem_univ k)
    obtain ⟨S, hS⟩ := isReal_of_ne (ne_of_gt (lt_of_lt_of_le EReal.bot_lt_zero hnn)) ht
    rw [hS] at hnn ⊢
    have hS0 : 0 ≤ S := by exact_mod_cast hnn
    have hpos : 0 < S * (1 / c) + e := by positivity
    rw [← EReal.coe_mul, ← EReal.coe_add]
    refine hk.mul ⟨(Real.sqrt (S * (1 / c) + e))⁻¹, ?_⟩
    rw [Ideal.rsqrt_coe, if_neg (not_lt.2 hpos.le), if_neg hpos.ne']

/-- The head norm both programs apply to queries and keys, at one entry. -/
def headNorm (x g : Fin 128 → EReal) (k : Fin 128) : EReal :=
  x k * Ideal.rsqrt (Ideal.div (∑ j, x j * x j) (Ideal.ofBits .f32 0x43000000#32) + Ideal.ofBits .f32 0x358637BD#32) * g k

/-- A normed head is real when the gains are. -/
theorem isReal_headNorm (x : Fin 128 → EReal) {g : Fin 128 → EReal} (hg : ∀ k, IsReal (g k)) (k : Fin 128) :
    IsReal (headNorm x g k) := by
  obtain ⟨e, he, hl⟩ := lit_eps
  unfold headNorm
  rw [lit_128, hl]
  exact (isReal_rms x (by norm_num) he k).mul (hg k)

/-- The scaled product of two real rows is real. -/
theorem isReal_logit {q k : Fin 128 → EReal} (hq : ∀ d, IsReal (q d)) (hk : ∀ d, IsReal (k d)) :
    IsReal ((∑ d, q d * k d) * Ideal.ofBits .f32 0x3DB504F3#32) :=
  (isReal_sum _ fun d _ => (hq d).mul (hk d)).mul lit_scale

/-! ## The softmax -/

/-- The exponential of a number below ∞ is a non-negative real. -/
theorem exp_nonneg {x : EReal} (h : x ≠ ⊤) : ∃ r : ℝ, 0 ≤ r ∧ Ideal.exp x = (r : EReal) := by
  induction x with
  | bot => exact ⟨0, le_refl _, by simp⟩
  | top => exact absurd rfl h
  | coe r => exact ⟨Real.exp r, (Real.exp_pos r).le, by simp⟩

/-- A number below ∞ less a real number is below ∞. -/
theorem sub_real_ne_top {x m : EReal} (h : x ≠ ⊤) (hm : IsReal m) : x - m ≠ ⊤ := by
  obtain ⟨r, rfl⟩ := hm
  induction x with
  | bot => simp
  | top => exact absurd rfl h
  | coe s => rw [← EReal.coe_sub]; exact EReal.coe_ne_top _

variable {ι : Type} [Fintype ι]

/-- The largest entry. -/
def top (s : ι → EReal) : EReal := Finset.univ.fold max ⊥ s

/-- The largest of finitely many entries below ∞, one of them real, is a real number that is attained. -/
theorem isReal_top {s : ι → EReal} (h : ∀ i, s i ≠ ⊤) {i₀ : ι} (h₀ : IsReal (s i₀)) :
    IsReal (top s) ∧ ∃ i, s i = top s := by
  have hsup : top s = Finset.univ.sup s := rfl
  obtain ⟨i, -, hi⟩ := Finset.exists_mem_eq_sup Finset.univ ⟨i₀, Finset.mem_univ i₀⟩ s
  have hle : s i₀ ≤ top s := by rw [hsup]; exact Finset.le_sup (Finset.mem_univ i₀)
  have hr : IsReal (top s) := by
    refine isReal_of_ne (fun e => h₀.ne_bot ?_) ?_
    · rw [e] at hle; exact le_bot_iff.1 hle
    · rw [hsup, hi]; exact h i
  exact ⟨hr, i, hi.symm⟩

/-- The total weight is a positive real number. -/
theorem total_pos {s : ι → EReal} (h : ∀ i, s i ≠ ⊤) {i₀ : ι} (h₀ : IsReal (s i₀)) :
    ∃ r : ℝ, 0 < r ∧ ∑ i, Ideal.exp (s i - top s) = (r : EReal) := by
  obtain ⟨hm, i₁, hi₁⟩ := isReal_top h h₀
  choose f hf0 hf using fun i => exp_nonneg (sub_real_ne_top (h i) hm)
  refine ⟨∑ i, f i, ?_, ?_⟩
  · refine Finset.sum_pos' (fun i _ => hf0 i) ⟨i₁, Finset.mem_univ _, ?_⟩
    have h1 := hf i₁
    obtain ⟨r, hr⟩ := hm
    rw [hi₁, hr, ← EReal.coe_sub, sub_self] at h1
    have h2 : ((Real.exp 0 : ℝ) : EReal) = (f i₁ : EReal) := by rw [← h1, Ideal.exp_coe]
    have h3 : Real.exp 0 = f i₁ := by exact_mod_cast h2
    rw [← h3]; exact Real.exp_pos 0
  · rw [Finset.sum_congr rfl fun i _ => hf i]
    exact (map_sum (⟨⟨Real.toEReal, rfl⟩, fun a b => EReal.coe_add a b⟩ : ℝ →+ EReal) f Finset.univ).symm

/-- A non-negative real number distributes over a sum of extended reals. -/
theorem sum_mul_real (f : ι → EReal) {r : ℝ} (hr : 0 ≤ r) : (∑ i, f i) * (r : EReal) = ∑ i, f i * (r : EReal) := by
  classical
  induction (Finset.univ : Finset ι) using Finset.induction_on with
  | empty => simp
  | insert a s ha ih =>
    rw [Finset.sum_insert ha, Finset.sum_insert ha,
      EReal.right_distrib_of_nonneg_of_ne_top (by exact_mod_cast hr) (EReal.coe_ne_top r), ih]

/-- Attention with the division done once, after the weighted sum. -/
def attendAfter (s v : ι → EReal) : EReal :=
  Ideal.div (∑ i, Ideal.exp (s i - top s) * v i) (∑ i, Ideal.exp (s i - top s))

/-- Attention with every weight divided by the total weight. -/
def attend (s v : ι → EReal) : EReal :=
  ∑ i, Ideal.div (Ideal.exp (s i - top s)) (∑ i, Ideal.exp (s i - top s)) * v i

/-- The two agree when no logit is ∞ and one is real, whatever the values. -/
theorem attendAfter_eq {s : ι → EReal} (v : ι → EReal) (h : ∀ i, s i ≠ ⊤) {i₀ : ι} (h₀ : IsReal (s i₀)) :
    attendAfter s v = attend s v := by
  obtain ⟨r, hr, hsum⟩ := total_pos h h₀
  unfold attendAfter attend
  rw [hsum, Ideal.div_coe hr.ne', sum_mul_real _ (by positivity)]
  refine Finset.sum_congr rfl fun i _ => ?_
  rw [Ideal.div_coe hr.ne', mul_right_comm]

end Cert.Attention

end
-- ==== Proof.TwoPart.lean ====
/- Attention over keys of two kinds, and what is left of it where keys are masked. -/
module

public import proofs.«01_k».proof.Proof.Attention

@[expose] public section

noncomputable section

open Idealize.ShloMosaic

namespace Cert.Attention

variable {ι ι' κ : Type} [Fintype ι] [Fintype ι'] [Fintype κ]

/-- The largest of no logits is `⊥`, and a logit is at most the largest. -/
theorem le_top (s : ι → EReal) (i : ι) : s i ≤ top s :=
  (Finset.le_fold_max (s i)).2 (Or.inr ⟨i, Finset.mem_univ i, le_rfl⟩)

/-- A bound of every logit bounds the largest. -/
theorem top_le {s : ι → EReal} {b : EReal} (h : ∀ i, s i ≤ b) : top s ≤ b :=
  (Finset.fold_max_le b).2 ⟨bot_le, fun i _ => h i⟩

/-- The largest logit of two families is the larger of the two largest. -/
theorem top_sum (s : ι ⊕ κ → EReal) : top s = max (top fun i => s (.inl i)) (top fun k => s (.inr k)) :=
  le_antisymm
    (top_le fun i => match i with
      | .inl i => (le_top (fun i => s (.inl i)) i).trans (le_max_left _ _)
      | .inr k => (le_top (fun k => s (.inr k)) k).trans (le_max_right _ _))
    (max_le (top_le fun i => le_top s (.inl i)) (top_le fun k => le_top s (.inr k)))

/-- Attention over two families of keys, written with the two families apart. -/
def attendTwo (s : ι → EReal) (v : ι → EReal) (s' : κ → EReal) (v' : κ → EReal) : EReal :=
  Ideal.div
    ((∑ i, Ideal.exp (s i - max (top s) (top s')) * v i) + ∑ k, Ideal.exp (s' k - max (top s) (top s')) * v' k)
    ((∑ i, Ideal.exp (s i - max (top s) (top s'))) + ∑ k, Ideal.exp (s' k - max (top s) (top s')))

/-- It is the attention over all the keys. -/
theorem attendTwo_eq (s v : ι → EReal) (s' v' : κ → EReal) :
    attendTwo s v s' v' = attendAfter (Sum.elim s s') (Sum.elim v v') := by
  unfold attendTwo attendAfter
  simp only [Fintype.sum_sum_type, top_sum, Sum.elim_inl, Sum.elim_inr]

/-- A masked key's weight is zero. -/
theorem exp_masked (m : EReal) : Ideal.exp (⊥ - m) = 0 := by
  rw [sub_eq_add_neg, EReal.bot_add]; exact Ideal.exp_bot

/-- Keys whose logit is `⊥` can be left out: `e` names the others, each once. -/
theorem attendAfter_restrict (s v : ι → EReal) (e : ι' → ι) (he : Function.Injective e)
    (hs : ∀ i, i ∉ Set.range e → s i = ⊥) : attendAfter s v = attendAfter (fun j => s (e j)) (fun j => v (e j)) := by
  have ht : top s = top fun j => s (e j) := by
    refine le_antisymm (top_le fun i => ?_) (top_le fun j => le_top s (e j))
    by_cases hi : i ∈ Set.range e
    · obtain ⟨j, rfl⟩ := hi
      exact le_top (fun j => s (e j)) j
    · rw [hs i hi]; exact bot_le
  have key (f : ι → EReal) (hf : ∀ i, i ∉ Set.range e → f i = 0) : ∑ i, f i = ∑ j, f (e j) := by
    classical
    rw [← Finset.sum_image (s := Finset.univ) (f := f) (g := e) fun a _ b _ h => he h]
    refine (Finset.sum_subset (Finset.subset_univ _) fun i _ hi => hf i ?_).symm
    rintro ⟨j, rfl⟩
    exact hi (Finset.mem_image_of_mem e (Finset.mem_univ j))
  unfold attendAfter
  rw [ht]
  congr 1
  · exact key _ fun i hi => by rw [hs i hi, exp_masked, zero_mul]
  · exact key _ fun i hi => by rw [hs i hi, exp_masked]

/-- Attention does not depend on how the keys are named. -/
theorem attend_equiv (e : ι' ≃ ι) (s v : ι → EReal) : attend s v = attend (fun j => s (e j)) (fun j => v (e j)) := by
  have ht : top s = top fun j => s (e j) :=
    le_antisymm (top_le fun i => by simpa using le_top (fun j => s (e j)) (e.symm i)) (top_le fun j => le_top s (e j))
  unfold attend
  rw [ht, ← Equiv.sum_comp e, ← Equiv.sum_comp e fun i => Ideal.exp (s i - top fun j => s (e j))]

end Cert.Attention

end
-- ==== Proof.NaKernelBlock.lean ====
/- What one grid point of the neighbourhood attention kernel leaves in its output block. -/
module

public import proofs.«01_k».proof.Proof.TwoPart
public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.NaAttention

open Cert.KernelIdeal Cert.KernelIdeal.Gen Cert.Attention

/-- The gains, lane by lane. -/
def gains (g : FVec Ideal S1x128 .f32) (d : Fin 128) : EReal := g (ix2 (0 : Fin 1) d)

/-- A query `q` against window keys `k`, `v` with biases `b` and cached keys `kc`, `vc`. -/
def tile (q : Fin 128 → EReal) (k v : FVec Ideal S1024x128 .bf16) (kc vc : FVec Ideal S256x128 .bf16)
    (b : Fin 1024 → EReal) (d : Fin 128) : EReal :=
  attendTwo
    (fun y : Fin 1024 => (∑ e : Fin 128, q e * k (ix2 y e)) * Ideal.ofBits .f32 0x3DB504F3#32 + b y)
    (fun y => v (ix2 y d))
    (fun y : Fin 256 => (∑ e : Fin 128, q e * kc (ix2 y e)) * Ideal.ofBits .f32 0x3DB504F3#32)
    (fun y => vc (ix2 y d))

section Payloads

variable (x : FVec Ideal S1024x128 .f32) (g : FVec Ideal S1x128 .f32) (c : FVec Ideal S1x1x1x256x128 .f32)
variable (q k v : FVec Ideal S1024x128 .bf16) (kc vc : FVec Ideal S256x128 .bf16) (b : FVec Ideal S1x256x1024 .f32)

/-- The head norm of the queries. -/
theorem pay2_at (r : Fin 1024) (d : Fin 128) :
    (k0_pay2 (F := Ideal) x g (ix2 r d) : EReal) = headNorm (fun d => x (ix2 r d)) (gains g) d := by
  pointwise [k0_pay2]; rfl

/-- The head norm of the keys. -/
theorem pay3_at (r : Fin 1024) (d : Fin 128) :
    (k0_pay3 (F := Ideal) x g (ix2 r d) : EReal) = headNorm (fun d => x (ix2 r d)) (gains g) d := by
  pointwise [k0_pay3]; rfl

/-- The values. -/
theorem pay4_at (r : Fin 1024) (d : Fin 128) : (k0_pay4 (F := Ideal) x (ix2 r d) : EReal) = x (ix2 r d) := by
  pointwise [k0_pay4]

/-- The cached keys. -/
theorem pay5_at (r : Fin 256) (d : Fin 128) : (k0_pay5 (F := Ideal) c (ix2 r d) : EReal) = c (ix5 0 0 0 r d) := by
  pointwise [k0_pay5]

/-- The cached values. -/
theorem pay6_at (r : Fin 256) (d : Fin 128) : (k0_pay6 (F := Ideal) c (ix2 r d) : EReal) = c (ix5 0 0 0 r d) := by
  pointwise [k0_pay6]

/-- The first tile. -/
theorem pay7_at (c' : FVec Ideal S1x1x1x256x128 .f32) (r : Fin 256) (d : Fin 128) :
    (k0_pay7 (F := Ideal) q k v kc c' b (ix2 r d) : EReal)
      = tile (fun e => q (ix2 (⟨r.val, by omega⟩ : Fin 1024) e)) k v kc (k0_pay6 (F := Ideal) c') (fun y => b (ix3 0 r y)) d := by
  pointwise [k0_pay7]
  simp only [lit_ninf]
  rfl

/-- The second tile. -/
theorem pay9_at (r : Fin 256) (d : Fin 128) :
    (k0_pay9 (F := Ideal) k v kc vc (k0_pay8 q) b (ix2 r d) : EReal) = tile (fun e => q (ix2 (⟨256 + r.val, by omega⟩ : Fin 1024) e)) k v kc vc (fun y => b (ix3 0 r y)) d := by
  pointwise [k0_pay9, k0_pay8]
  simp only [lit_ninf]
  rfl

/-- The third tile. -/
theorem pay12_at (r : Fin 256) (d : Fin 128) :
    (k0_pay12 (F := Ideal) v kc vc (k0_pay10 q) (k0_pay11 q k) b (ix2 r d) : EReal)
      = tile (fun e => q (ix2 (⟨512 + r.val, by omega⟩ : Fin 1024) e)) k v kc vc (fun y => b (ix3 0 r y)) d := by
  pointwise [k0_pay12, k0_pay11, k0_pay10]
  simp only [lit_ninf]
  rfl

/-- The fourth tile. -/
theorem pay1_at (r : Fin 256) (d : Fin 128) :
    (k0_pay1 (F := Ideal) v vc (k0_pay14 q k b) (k0_pay15 q kc) (k0_pay16 q k b) (ix2 r d) : EReal)
      = tile (fun e => q (ix2 (⟨768 + r.val, by omega⟩ : Fin 1024) e)) k v kc vc (fun y => b (ix3 0 r y)) d := by
  pointwise [k0_pay1, k0_pay14, k0_pay15, k0_pay16, k0_pay13]
  simp only [lit_ninf]
  rfl

end Payloads

variable (xq xk xv : FVec Ideal S1024x128 .f32) (xc xd : FVec Ideal S1x1x1x256x128 .f32)
variable (xb : FVec Ideal S1x1024x1024 .f32) (gq gk : FVec Ideal S1x128 .f32)

/-- A row of a tile is a row of the block. -/
theorem row_lt {o : ℕ} (h : o + 256 ≤ 1024) (r : Fin 256) : o + r.val < 1024 := by omega

/-- Loading a whole block. -/
theorem load_rows (X : Vec Ideal S1024x128 .f32) : (View.ld X r0_0 : Vec Ideal S1024x128 .f32) = X := by
  funext i; pointwise; blk_ext

/-- Loading the gains. -/
theorem load_gains (g : Vec Ideal S1x128 .f32) : (View.ld g r0_1 : Vec Ideal S1x128 .f32) = g := by
  funext i; pointwise; blk_ext

/-- Loading a block of the cache. -/
theorem load_cache (g : Vec Ideal S1x1x1x256x128 .f32) : (View.ld g r0_2 : Vec Ideal S1x1x1x256x128 .f32) = g := by
  funext i; pointwise; blk_ext

/-- The attention block: row `r` is a query against all the tokens of its sample, with their biases, and the cache. -/
theorem out8_at (r : Fin 1024) (d : Fin 128) :
    (out0_8 (F := Ideal) xq xk xv xc xd xb gq gk (ix2 r d) : EReal)
      = attendTwo
          (fun y : Fin 1024 => (∑ e : Fin 128, headNorm (fun d => xq (ix2 r d)) (gains gq) e
            * headNorm (fun d => xk (ix2 y d)) (gains gk) e) * Ideal.ofBits .f32 0x3DB504F3#32 + xb (ix3 0 r y))
          (fun y => xv (ix2 y d))
          (fun y : Fin 256 => (∑ e : Fin 128, headNorm (fun d => xq (ix2 r d)) (gains gq) e * xc (ix5 0 0 0 y e))
            * Ideal.ofBits .f32 0x3DB504F3#32)
          (fun y => xd (ix5 0 0 0 y d)) := by
  have tile_eq (b : Fin 1024 → EReal) (hb : ∀ y, b y = xb (ix3 0 r y)) :
      tile (fun e => k0_pay2 (F := Ideal) xq gq (ix2 r e)) (k0_pay3 (F := Ideal) xk gk) (k0_pay4 (F := Ideal) xv)
        (k0_pay5 (F := Ideal) xc) (k0_pay6 (F := Ideal) xd) b d
      = attendTwo
          (fun y : Fin 1024 => (∑ e : Fin 128, headNorm (fun d => xq (ix2 r d)) (gains gq) e
            * headNorm (fun d => xk (ix2 y d)) (gains gk) e) * Ideal.ofBits .f32 0x3DB504F3#32 + xb (ix3 0 r y))
          (fun y => xv (ix2 y d))
          (fun y : Fin 256 => (∑ e : Fin 128, headNorm (fun d => xq (ix2 r d)) (gains gq) e * xc (ix5 0 0 0 y e))
            * Ideal.ofBits .f32 0x3DB504F3#32)
          (fun y => xd (ix5 0 0 0 y d)) := by
    unfold tile
    simp only [pay2_at, pay3_at, pay4_at, pay5_at, pay6_at, hb]
  unfold out0_8 k0_pay17 k0_pay18 k0_pay19 k0_pay20 k0_pay21
  simp only [load_rows, load_gains, load_cache]
  canon_tiles x h
  · obtain ⟨r', hr'⟩ : ∃ r' : Fin 256, r = ⟨768 + r'.val, row_lt (by decide) r'⟩ := ⟨x 0, Fin.ext (by simpa using h0)⟩
    subst hr'
    obtain rfl : x = ix2 r' d := by
      funext a; match a with
      | 0 => exact Fin.ext (by simp at h0; show (x 0).val = r'.val; omega)
      | 1 => exact Fin.ext h1.symm
    refine (pay1_at _ _ _ _ _ _ r' d).trans (tile_eq _ fun y => ?_)
    pointwise; blk_ext
  · obtain ⟨r', hr'⟩ : ∃ r' : Fin 256, r = ⟨512 + r'.val, row_lt (by decide) r'⟩ := ⟨x 0, Fin.ext (by simpa using h0)⟩
    subst hr'
    obtain rfl : x = ix2 r' d := by
      funext a; match a with
      | 0 => exact Fin.ext (by simp at h0; show (x 0).val = r'.val; omega)
      | 1 => exact Fin.ext h1.symm
    refine (pay12_at _ _ _ _ _ _ r' d).trans (tile_eq _ fun y => ?_)
    pointwise; blk_ext
  · obtain ⟨r', hr'⟩ : ∃ r' : Fin 256, r = ⟨256 + r'.val, row_lt (by decide) r'⟩ := ⟨x 0, Fin.ext (by simpa using h0)⟩
    subst hr'
    obtain rfl : x = ix2 r' d := by
      funext a; match a with
      | 0 => exact Fin.ext (by simp at h0; show (x 0).val = r'.val; omega)
      | 1 => exact Fin.ext h1.symm
    refine (pay9_at _ _ _ _ _ _ r' d).trans (tile_eq _ fun y => ?_)
    pointwise; blk_ext
  · obtain ⟨r', hr'⟩ : ∃ r' : Fin 256, r = ⟨r'.val, r'.isLt.trans (by decide)⟩ := ⟨x 0, Fin.ext (by simpa using h0)⟩
    subst hr'
    obtain rfl : x = ix2 r' d := by
      funext a; match a with
      | 0 => exact Fin.ext (by simp at h0; show (x 0).val = r'.val; omega)
      | 1 => exact Fin.ext h1.symm
    refine (pay7_at _ _ _ _ _ _ r' d).trans (tile_eq _ fun y => ?_)
    pointwise; blk_ext

end Cert.NaAttention

end
-- ==== Proof.NaTable.lean ====
/- The table of biases of the neighbourhood attention that the program prepares before the call: for a head `h`, a
   query token `x` and a key token `y` of the 16 × 64 grid it holds the relative position bias where the key lies in
   the query's window of 8 × 16 tokens and `⊥` where it does not. -/
module

public import proofs.«01_k».proof.Proof.Attention
public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NaAttention

open Cert.KernelIdeal Cert.KernelIdeal.Gen Cert.Attention

/-- The first row of the window of a query in row `r`: eight rows, four of them before the query where the grid allows. -/
def row0 (r : ℕ) : ℕ := min (r - 4) 8

/-- The first column of the window of a query in column `c`: sixteen columns, eight of them before the query. -/
def col0 (c : ℕ) : ℕ := min (c - 8) 48

/-- Row `b` lies in the window of a query in row `a`. -/
abbrev RowOk (a b : ℕ) : Prop := row0 a ≤ b ∧ b < row0 a + 8

/-- Column `b` lies in the window of a query in column `a`. -/
abbrev ColOk (a b : ℕ) : Prop := col0 a ≤ b ∧ b < col0 a + 16

/-! ## The stages of the preparation -/

/-- The first rows as the program computes them. -/
def rowStarts : IVec S16 32 :=
  minsi (broadcastInDim S16 ![] bcast_S_S16 (id (constantI S_ 32 8#32)))
    (maxsi (broadcastInDim S16 ![] bcast_S_S16 (id (constantI S_ 32 0#32)))
      (subi (iotaInDim S16 32 0) (broadcastInDim S16 ![] bcast_S_S16 (constantI S_ 32 4#32))))

/-- The first columns as the program computes them. -/
def colStarts : IVec S64 32 :=
  minsi (broadcastInDim S64 ![] bcast_S_S64 (id (constantI S_ 32 48#32)))
    (maxsi (broadcastInDim S64 ![] bcast_S_S64 (id (constantI S_ 32 0#32)))
      (subi (iotaInDim S64 32 0) (broadcastInDim S64 ![] bcast_S_S64 (constantI S_ 32 8#32))))

/-- Which rows lie in the window of which. -/
def rowIn : IVec S16x16 1 :=
  andi
    (cmpi .sge
      (broadcastInDim S16x16 ![0, 1] bcast_S1x16_S16x16_0_1 (broadcastInDim S1x16 ![1] bcast_S16_S1x16_1 (iotaInDim S16 32 0)))
      (broadcastInDim S16x16 ![0, 1] bcast_S16x1_S16x16_0_1 (broadcastInDim S16x1 ![0] bcast_S16_S16x1_0 rowStarts)))
    (cmpi .slt
      (broadcastInDim S16x16 ![0, 1] bcast_S1x16_S16x16_0_1 (broadcastInDim S1x16 ![1] bcast_S16_S1x16_1 (iotaInDim S16 32 0)))
      (broadcastInDim S16x16 ![0, 1] bcast_S16x1_S16x16_0_1
        (addi (broadcastInDim S16x1 ![0] bcast_S16_S16x1_0 rowStarts)
          (broadcastInDim S16x1 ![] bcast_S_S16x1 (constantI S_ 32 8#32)))))

/-- Which columns lie in the window of which. -/
def colIn : IVec S64x64 1 :=
  andi
    (cmpi .sge
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStarts)))
    (cmpi .slt
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 colStarts)
          (broadcastInDim S64x1 ![] bcast_S_S64x1 (constantI S_ 32 16#32)))))

/-- Which tokens lie in the window of which. -/
def tokenIn : IVec S1024x1024 1 :=
  shapeCast S1024x1024
    (andi
      (broadcastInDim S16x64x16x64 ![0, 1, 2, 3] bcast_S16x1x16x1_S16x64x16x64_0_1_2_3
        (broadcastInDim S16x1x16x1 ![0, 2] bcast_S16x16_S16x1x16x1_0_2 rowIn))
      (broadcastInDim S16x64x16x64 ![0, 1, 2, 3] bcast_S1x64x1x64_S16x64x16x64_0_1_2_3
        (broadcastInDim S1x64x1x64 ![1, 3] bcast_S64x64_S1x64x1x64_1_3 colIn)))
    shapeCasts_S16x64x16x64_S1024x1024

/-- The row distance of a query row and a key row, counted from the most negative one. -/
def rowOff : IVec S16x16x1 32 :=
  subi
    (addi
      (subi
        (broadcastInDim S16x16x1 ![0, 1, 2] bcast_S1x16x1_S16x16x1_0_1_2
          (broadcastInDim S1x16x1 ![1] bcast_S16_S1x16x1_1 (iotaInDim S16 32 0)))
        (broadcastInDim S16x16x1 ![0, 1, 2] bcast_S16x1x1_S16x16x1_0_1_2
          (broadcastInDim S16x1x1 ![0] bcast_S16_S16x1x1_0 (iotaInDim S16 32 0))))
      (broadcastInDim S16x16x1 ![] bcast_S_S16x16x1 (constantI S_ 32 8#32)))
    (broadcastInDim S16x16x1 ![] bcast_S_S16x16x1 (constantI S_ 32 1#32))

/-- The column distance of a query column and a key column, counted from the most negative one. -/
def colOff : IVec S64x64x1 32 :=
  subi
    (addi
      (subi
        (broadcastInDim S64x64x1 ![0, 1, 2] bcast_S1x64x1_S64x64x1_0_1_2
          (broadcastInDim S1x64x1 ![1] bcast_S64_S1x64x1_1 (iotaInDim S64 32 0)))
        (broadcastInDim S64x64x1 ![0, 1, 2] bcast_S64x1x1_S64x64x1_0_1_2
          (broadcastInDim S64x1x1 ![0] bcast_S64_S64x1x1_0 (iotaInDim S64 32 0))))
      (broadcastInDim S64x64x1 ![] bcast_S_S64x64x1 (constantI S_ 32 16#32)))
    (broadcastInDim S64x64x1 ![] bcast_S_S64x64x1 (constantI S_ 32 1#32))

/-- One where the row distance is the given one, zero elsewhere. -/
def rowSel : FVec Ideal S16x16x15 .f32 :=
  uitofp FTy.f32
    (cmpi .eq (broadcastInDim S16x16x15 ![0, 1, 2] bcast_S16x16x1_S16x16x15_0_1_2 rowOff)
      (broadcastInDim S16x16x15 ![0, 1, 2] bcast_S1x1x15_S16x16x15_0_1_2
        (broadcastInDim S1x1x15 ![2] bcast_S15_S1x1x15_2 (iotaInDim S15 32 0))))

/-- One where the column distance is the given one, zero elsewhere. -/
def colSel : FVec Ideal S64x64x31 .f32 :=
  uitofp FTy.f32
    (cmpi .eq (broadcastInDim S64x64x31 ![0, 1, 2] bcast_S64x64x1_S64x64x31_0_1_2 colOff)
      (broadcastInDim S64x64x31 ![0, 1, 2] bcast_S1x1x31_S64x64x31_0_1_2
        (broadcastInDim S1x1x31 ![2] bcast_S31_S1x1x31_2 (iotaInDim S31 32 0))))

/-- The biases taken at the row distances: a sum over all row distances. -/
def byRow (rpb : FVec Ideal S2x8x15x31 .f32) : FVec Ideal S16x256x31 .f32 :=
  Host.reduceAdd
    (mulf
      (broadcastInDim S16x256x15x31 ![0, 1, 2, 3] bcast_S1x256x15x1_S16x256x15x31_0_1_2_3
        (shapeCast S1x256x15x1 rowSel shapeCasts_S16x16x15_S1x256x15x1))
      (broadcastInDim S16x256x15x31 ![0, 1, 2, 3] bcast_S16x1x15x31_S16x256x15x31_0_1_2_3
        (broadcastInDim S16x1x15x31 ![0, 2, 3] bcast_S16x15x31_S16x1x15x31_0_2_3
          (shapeCast S16x15x31 rpb shapeCasts_S2x8x15x31_S16x15x31))))
    (constant S_ FTy.f32 0#32) reducesTo_S16x256x15x31_S16x256x31_d2 h_S_

/-- The biases taken at the row and column distances: a sum over all column distances. -/
def byCol (rpb : FVec Ideal S2x8x15x31 .f32) : FVec Ideal S16x256x4096 .f32 :=
  Host.reduceAdd
    (mulf
      (broadcastInDim S16x256x4096x31 ![0, 1, 2, 3] bcast_S1x1x4096x31_S16x256x4096x31_0_1_2_3
        (shapeCast S1x1x4096x31 colSel shapeCasts_S64x64x31_S1x1x4096x31))
      (broadcastInDim S16x256x4096x31 ![0, 1, 2, 3] bcast_S16x256x1x31_S16x256x4096x31_0_1_2_3
        (broadcastInDim S16x256x1x31 ![0, 1, 3] bcast_S16x256x31_S16x256x1x31_0_1_3 (byRow rpb))))
    (constant S_ FTy.f32 0#32) reducesTo_S16x256x4096x31_S16x256x4096_d3 h_S_

/-- The biases of all pairs of tokens, of both layers. -/
def byToken (rpb : FVec Ideal S2x8x15x31 .f32) : FVec Ideal S2x8x1024x1024 .f32 :=
  shapeCast S2x8x1024x1024
    (transpose S2x8x16x64x16x64 [0, 1, 2, 4, 3, 5]
      (shapeCast S2x8x16x16x64x64 (byCol rpb) shapeCasts_S16x256x4096_S2x8x16x16x64x64)
      transposes_S2x8x16x16x64x64_S2x8x16x64x16x64_0_1_2_4_3_5)
    shapeCasts_S2x8x16x64x16x64_S2x8x1024x1024

/-- The table of the first layer, `⊥` outside the windows. -/
def biasTable (rpb : FVec Ideal S2x8x15x31 .f32) : FVec Ideal S8x1024x1024 .f32 :=
  shapeCast S8x1024x1024
    (extractStridedSlice S1x8x1024x1024 ![0, 0, 0, 0]
      (select
        (broadcastInDim S2x8x1024x1024 ![0, 1, 2, 3] bcast_S1x1x1024x1024_S2x8x1024x1024_0_1_2_3
          (broadcastInDim S1x1x1024x1024 ![2, 3] bcast_S1024x1024_S1x1x1024x1024_2_3 tokenIn))
        (byToken rpb)
        (broadcastInDim S2x8x1024x1024 ![] bcast_S_S2x8x1024x1024 (id (constant S_ FTy.f32 4286578688#32))))
      slices_S2x8x1024x1024_S1x8x1024x1024_0_0_0_0)
    shapeCasts_S1x8x1024x1024_S8x1024x1024

/-! ## The program computes them -/

/-- Operations run one list after another. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op ops ih => exact ih _

section
variable (W : Valuation τ sig (Elt Ideal))

/-- The values before the rows are clipped. -/
theorem ops0 : StableHlo.after hostOps0 W main_v0 = (iotaInDim S16 32 0 : IVec S16 32)
    ∧ StableHlo.after hostOps0 W main_v1 = (iotaInDim S64 32 0 : IVec S64 32)
    ∧ StableHlo.after hostOps0 W main_v3
      = (subi (iotaInDim S16 32 0) (broadcastInDim S16 ![] bcast_S_S16 (constantI S_ 32 4#32)) : IVec S16 32)
    ∧ StableHlo.after hostOps0 W main_c_0 = (constantI S_ 32 0#32 : IVec S_ 32)
    ∧ StableHlo.after hostOps0 W main_c_1 = (constantI S_ 32 8#32 : IVec S_ 32)
    ∧ StableHlo.after hostOps0 W main_arg3 = W main_arg3 := by
  unfold hostOps0
  refine ⟨?_, ?_, ?_, ?_, ?_, ?_⟩ <;> (after_results_simp; try rfl)

/-- The clipping of the rows. -/
theorem ops1 : StableHlo.after hostOps0_1 W main_v4
      = (minsi (broadcastInDim S16 ![] bcast_S_S16 (id (W main_c_1 : IVec S_ 32)))
          (maxsi (broadcastInDim S16 ![] bcast_S_S16 (id (W main_c_0 : IVec S_ 32))) (W main_v3 : IVec S16 32)) : IVec S16 32)
    ∧ StableHlo.after hostOps0_1 W main_v0 = W main_v0 ∧ StableHlo.after hostOps0_1 W main_v1 = W main_v1
    ∧ StableHlo.after hostOps0_1 W main_arg3 = W main_arg3 := by
  unfold hostOps0_1
  refine ⟨?_, ?_, ?_, ?_⟩ <;> (after_results_simp; try rfl)

/-- The values before the columns are clipped. -/
theorem ops2 : StableHlo.after hostOps0_2 W main_v6
      = (subi (W main_v1 : IVec S64 32) (broadcastInDim S64 ![] bcast_S_S64 (constantI S_ 32 8#32)) : IVec S64 32)
    ∧ StableHlo.after hostOps0_2 W main_c_3 = (constantI S_ 32 0#32 : IVec S_ 32)
    ∧ StableHlo.after hostOps0_2 W main_c_4 = (constantI S_ 32 48#32 : IVec S_ 32)
    ∧ StableHlo.after hostOps0_2 W main_v0 = W main_v0 ∧ StableHlo.after hostOps0_2 W main_v1 = W main_v1
    ∧ StableHlo.after hostOps0_2 W main_v4 = W main_v4
    ∧ StableHlo.after hostOps0_2 W main_arg3 = W main_arg3 := by
  unfold hostOps0_2
  refine ⟨?_, ?_, ?_, ?_, ?_, ?_, ?_⟩ <;> (after_results_simp; try rfl)

/-- The clipping of the columns. -/
theorem ops3 : StableHlo.after hostOps0_3 W main_v7
      = (minsi (broadcastInDim S64 ![] bcast_S_S64 (id (W main_c_4 : IVec S_ 32)))
          (maxsi (broadcastInDim S64 ![] bcast_S_S64 (id (W main_c_3 : IVec S_ 32))) (W main_v6 : IVec S64 32)) : IVec S64 32)
    ∧ StableHlo.after hostOps0_3 W main_v0 = W main_v0 ∧ StableHlo.after hostOps0_3 W main_v1 = W main_v1
    ∧ StableHlo.after hostOps0_3 W main_v4 = W main_v4
    ∧ StableHlo.after hostOps0_3 W main_arg3 = W main_arg3 := by
  unfold hostOps0_3
  refine ⟨?_, ?_, ?_, ?_, ?_⟩ <;> (after_results_simp; try rfl)

set_option maxHeartbeats 1000000 in
/-- Which tokens lie in which windows, and the biases of all pairs of tokens. -/
theorem ops4 (h0 : W main_v0 = (iotaInDim S16 32 0 : IVec S16 32)) (h1 : W main_v1 = (iotaInDim S64 32 0 : IVec S64 32))
    (h4 : W main_v4 = rowStarts) (h7 : W main_v7 = colStarts) :
    StableHlo.after hostOps0_4 W main_v86
      = (broadcastInDim S1x1x1024x1024 ![2, 3] bcast_S1024x1024_S1x1x1024x1024_2_3 tokenIn : IVec S1x1x1024x1024 1)
    ∧ StableHlo.after hostOps0_4 W main_v85 = byToken (W main_arg3)
    ∧ StableHlo.after hostOps0_4 W main_cst_12 = (constant S_ FTy.f32 4286578688#32 : FVec Ideal S_ .f32) := by
  unfold hostOps0_4
  refine ⟨?_, ?_, ?_⟩
  · after_results_simp
    rw [h0, h1, h4, h7]
    rfl
  · after_results_simp
    rw [h0, h1]
    rfl
  · after_results_simp

/-- The choice between the bias and the mask. -/
theorem ops5 : StableHlo.after hostOps0_5 W main_v87
    = (select
        (broadcastInDim S2x8x1024x1024 ![0, 1, 2, 3] bcast_S1x1x1024x1024_S2x8x1024x1024_0_1_2_3
          (W main_v86 : IVec S1x1x1024x1024 1))
        (W main_v85 : FVec Ideal S2x8x1024x1024 .f32)
        (broadcastInDim S2x8x1024x1024 ![] bcast_S_S2x8x1024x1024 (id (W main_cst_12 : FVec Ideal S_ .f32))) :
        FVec Ideal S2x8x1024x1024 .f32) := by
  unfold hostOps0_5
  after_results_simp
  try rfl

/-- The table of the first layer. -/
theorem ops6 : StableHlo.after hostOps0_6 W main_v89
    = (shapeCast S8x1024x1024
        (extractStridedSlice S1x8x1024x1024 ![0, 0, 0, 0] (W main_v87 : FVec Ideal S2x8x1024x1024 .f32)
          slices_S2x8x1024x1024_S1x8x1024x1024_0_0_0_0)
        shapeCasts_S1x8x1024x1024_S8x1024x1024 : FVec Ideal S8x1024x1024 .f32) := by
  unfold hostOps0_6
  after_results_simp
  try rfl
end

/-- The table that the call reads is `biasTable` of the biases. -/
theorem table_eq (m : (ℓ : Loc nD τ sig) → Buf (Elt Ideal) ℓ) (c : Dev nD) :
    (V m c main_v89 : FVec Ideal S8x1024x1024 .f32) = biasTable (m (c, Proc.tc.devRef main_arg3)) := by
  have e : (V m c main_v89 : FVec Ideal S8x1024x1024 .f32)
      = StableHlo.after hostOps0_6 (StableHlo.after hostOps0_5 (StableHlo.after hostOps0_4 (StableHlo.after hostOps0_3
          (StableHlo.after hostOps0_2 (StableHlo.after hostOps0_1 (StableHlo.after hostOps0 fun b => m (c, b))))))) main_v89 := by
    unfold V
    simp only [List.flatten_cons, List.flatten_nil, List.append_nil, after_append]
  rw [e, ops6, ops5]
  generalize hW : (fun b => m (c, b) : Valuation τ sig (Elt Ideal)) = W
  have hW3 : (m (c, Proc.tc.devRef main_arg3)) = W main_arg3 := by rw [← hW]
  rw [hW3]
  obtain ⟨a0, a1, a3, ac0, ac1, ar⟩ := ops0 W
  generalize StableHlo.after hostOps0 W = W1 at *
  obtain ⟨b4, b0, b1, br⟩ := ops1 W1
  generalize StableHlo.after hostOps0_1 W1 = W2 at *
  obtain ⟨c6, cc3, cc4, d0, d1, d4, dr⟩ := ops2 W2
  generalize StableHlo.after hostOps0_2 W2 = W3 at *
  obtain ⟨e7, e0, e1, e4, er⟩ := ops3 W3
  generalize StableHlo.after hostOps0_3 W3 = W4 at *
  obtain ⟨f86, f85, fc⟩ := ops4 W4 (by rw [e0, d0, b0, a0]) (by rw [e1, d1, b1, a1])
    (by rw [e4, d4, b4, ac1, ac0, a3]; rfl) (by rw [e7, cc4, cc3, c6, b1, a1]; rfl)
  rw [f86, f85, fc, er, dr, br, ar]
  rfl

/-! ## Reading the stages -/

/-- The row windows, read at a query row and a key row. -/
theorem rowIn_at : ∀ a b : Fin 16, rowIn (ix2 a b) = if RowOk a.val b.val then 1#1 else 0#1 := by
  have e : ∀ a b : Fin 16, IntOp.andi
      (IntOp.cmpi CmpIPredicate.sge (BitVec.ofNat 32 b.val)
        (IntOp.minsi 8#32 (IntOp.maxsi 0#32 (IntOp.subi (BitVec.ofNat 32 a.val) 4#32))))
      (IntOp.cmpi CmpIPredicate.slt (BitVec.ofNat 32 b.val)
        (IntOp.addi (IntOp.minsi 8#32 (IntOp.maxsi 0#32 (IntOp.subi (BitVec.ofNat 32 a.val) 4#32))) 8#32))
      = if RowOk a.val b.val then 1#1 else 0#1 := by decide +kernel
  intro a b
  pointwise [rowIn, rowStarts]
  exact e a b

/-- The column windows, read at a query column and a key column. -/
theorem colIn_at : ∀ a b : Fin 64, colIn (ix2 a b) = if ColOk a.val b.val then 1#1 else 0#1 := by
  have e : ∀ a b : Fin 64, IntOp.andi
      (IntOp.cmpi CmpIPredicate.sge (BitVec.ofNat 32 b.val)
        (IntOp.minsi 48#32 (IntOp.maxsi 0#32 (IntOp.subi (BitVec.ofNat 32 a.val) 8#32))))
      (IntOp.cmpi CmpIPredicate.slt (BitVec.ofNat 32 b.val)
        (IntOp.addi (IntOp.minsi 48#32 (IntOp.maxsi 0#32 (IntOp.subi (BitVec.ofNat 32 a.val) 8#32))) 16#32))
      = if ColOk a.val b.val then 1#1 else 0#1 := by decide +kernel
  intro a b
  pointwise [colIn, colStarts]
  exact e a b

/-- The number a condition becomes. -/
theorem uitofp_one : (FloatOps.uitofp (F := Ideal) FTy.f32 (1#1 : BitVec 1)) = (1 : EReal) := by
  show (((1#1 : BitVec 1).toNat : ℝ) : EReal) = 1
  simp

/-- The number a failed condition becomes. -/
theorem uitofp_zero : (FloatOps.uitofp (F := Ideal) FTy.f32 (0#1 : BitVec 1)) = (0 : EReal) := by
  show (((0#1 : BitVec 1).toNat : ℝ) : EReal) = 0
  simp

/-- Inside a window the row distance picks one row of biases. -/
theorem rowSel_at (a b : Fin 16) (d : Fin 15) (h : RowOk a.val b.val) :
    rowSel (ix3 a b d) = if d.val = b.val + 7 - a.val then (1 : EReal) else 0 := by
  have e : ∀ (a b : Fin 16) (d : Fin 15), RowOk a.val b.val → IntOp.cmpi CmpIPredicate.eq
      (IntOp.subi (IntOp.addi (IntOp.subi (BitVec.ofNat 32 b.val) (BitVec.ofNat 32 a.val)) 8#32) 1#32)
      (BitVec.ofNat 32 d.val) = if d.val = b.val + 7 - a.val then 1#1 else 0#1 := by decide +kernel
  pointwise [rowSel, rowOff]
  rw [e a b d h]
  split_ifs
  · exact uitofp_one
  · exact uitofp_zero

/-- Inside a window the column distance picks one column of biases. -/
theorem colSel_at (a b : Fin 64) (d : Fin 31) (h : ColOk a.val b.val) :
    colSel (ix3 a b d) = if d.val = b.val + 15 - a.val then (1 : EReal) else 0 := by
  have e : ∀ (a b : Fin 64), ColOk a.val b.val →
      IntOp.subi (IntOp.addi (IntOp.subi (BitVec.ofNat 32 b.val) (BitVec.ofNat 32 a.val)) 16#32) 1#32
        = BitVec.ofNat 32 (b.val + 15 - a.val) ∧ b.val + 15 - a.val < 31 := by decide +kernel
  have e' : ∀ (k d : Fin 31), IntOp.cmpi CmpIPredicate.eq (BitVec.ofNat 32 k.val) (BitVec.ofNat 32 d.val)
      = if d.val = k.val then 1#1 else 0#1 := by decide +kernel
  pointwise [colSel, colOff]
  rw [(e a b h).1, e' ⟨_, (e a b h).2⟩ d]
  dsimp only
  split_ifs
  · exact uitofp_one
  · exact uitofp_zero

/-- A sum in which one term is picked. -/
theorem sum_pick {n : ℕ} (k : ℕ) (hk : k < n) (s f : Fin n → EReal) (hs : ∀ d, s d = if d.val = k then (1 : EReal) else 0) :
    ∑ d, s d * f d = f ⟨k, hk⟩ := by
  rw [Finset.sum_eq_single ⟨k, hk⟩]
  · rw [hs, if_pos rfl, one_mul]
  · intro d _ hd
    rw [hs, if_neg (fun e => hd (Fin.ext e)), zero_mul]
  · intro h
    exact absurd (Finset.mem_univ _) h

/-- The bias of head `h` of the first layer at the row distance `i` and the column distance `j`. -/
def biasAt (rpb : FVec Ideal S2x8x15x31 .f32) (h : Fin 8) (i j : ℕ) : EReal :=
  rpb (ix4 0 h ⟨i % 15, Nat.mod_lt _ (by decide)⟩ ⟨j % 31, Nat.mod_lt _ (by decide)⟩)

theorem row_dist : ∀ a b : Fin 16, RowOk a.val b.val → b.val + 7 - a.val < 15 := by decide +kernel

theorem col_dist : ∀ a b : Fin 64, ColOk a.val b.val → b.val + 15 - a.val < 31 := by decide +kernel

/-- A choice by two conditions. -/
theorem select_and (p q : Prop) [Decidable p] [Decidable q] (A B : EReal) :
    Scalar.select (IntOp.andi (if p then 1#1 else 0#1) (if q then 1#1 else 0#1)) A B = if p ∧ q then A else B := by
  by_cases hp : p <;> by_cases hq : q <;> simp [hp, hq, Scalar.select, IntOp.andi]

/-- The bias table, read at a head, a query token and a key token. -/
theorem biasTable_at (rpb : FVec Ideal S2x8x15x31 .f32) (h : Fin 8) (x y : Fin 1024) :
    biasTable rpb (ix3 h x y)
      = if RowOk (x.val / 64) (y.val / 64) ∧ ColOk (x.val % 64) (y.val % 64)
        then biasAt rpb h (y.val / 64 + 7 - x.val / 64) (y.val % 64 + 15 - x.val % 64) else ⊥ := by
  pointwise [biasTable, byToken, tokenIn]
  rw [rowIn_at, colIn_at]
  refine (select_and _ _ _ _).trans ?_
  by_cases hrc : RowOk (x.val / 64) (y.val / 64) ∧ ColOk (x.val % 64) (y.val % 64)
  · rw [if_pos hrc]
    refine Eq.trans ?_ (if_pos hrc).symm
    obtain ⟨hr, hc⟩ := hrc
    have hx : x.val / 64 < 16 := by omega
    have hy : y.val / 64 < 16 := by omega
    have hdr := row_dist ⟨x.val / 64, hx⟩ ⟨y.val / 64, hy⟩ hr
    have hdc := col_dist ⟨x.val % 64, by omega⟩ ⟨y.val % 64, by omega⟩ hc
    dsimp only at hdr hdc
    have hb : ∀ (d : Fin 31), byRow rpb (ix3 ⟨h.val, by omega⟩ ⟨x.val / 64 * 16 + y.val / 64, by omega⟩ d)
        = rpb (ix4 0 h ⟨y.val / 64 + 7 - x.val / 64, hdr⟩ d) := by
      intro d
      pointwise [byRow]
      rw [sum_pick (y.val / 64 + 7 - x.val / 64) hdr]
      · congr 2
        · apply Fin.ext; show h.val / 8 = 0; omega
        · apply Fin.ext; show h.val % 8 = h.val; omega
      · intro d'
        have e1 : (x.val / 64 * 16 + y.val / 64) / 16 = x.val / 64 := by omega
        have e2 : (x.val / 64 * 16 + y.val / 64) % 16 = y.val / 64 := by omega
        have := rowSel_at ⟨(x.val / 64 * 16 + y.val / 64) / 16, by omega⟩
          ⟨(x.val / 64 * 16 + y.val / 64) % 16, by omega⟩ d' (by dsimp only; rw [e1, e2]; exact hr)
        exact this.trans (if_congr (by dsimp only; rw [e1, e2]) rfl rfl)
    have hbc : byCol rpb (ix3 ⟨h.val, by omega⟩ ⟨x.val / 64 * 16 + y.val / 64, by omega⟩
        ⟨x.val % 64 * 64 + y.val % 64, by omega⟩)
        = rpb (ix4 0 h ⟨y.val / 64 + 7 - x.val / 64, hdr⟩ ⟨y.val % 64 + 15 - x.val % 64, hdc⟩) := by
      pointwise [byCol]
      rw [sum_pick (y.val % 64 + 15 - x.val % 64) hdc]
      · exact hb _
      · intro d'
        have e1 : (x.val % 64 * 64 + y.val % 64) / 64 = x.val % 64 := by omega
        have e2 : (x.val % 64 * 64 + y.val % 64) % 64 = y.val % 64 := by omega
        have := colSel_at ⟨(x.val % 64 * 64 + y.val % 64) / 64, by omega⟩
          ⟨(x.val % 64 * 64 + y.val % 64) % 64, by omega⟩ d' (by dsimp only; rw [e1, e2]; exact hc)
        exact this.trans (if_congr (by dsimp only; rw [e1, e2]) rfl rfl)
    have hm : biasAt rpb h (y.val / 64 + 7 - x.val / 64) (y.val % 64 + 15 - x.val % 64)
        = rpb (ix4 0 h ⟨y.val / 64 + 7 - x.val / 64, hdr⟩ ⟨y.val % 64 + 15 - x.val % 64, hdc⟩) := by
      unfold biasAt
      congr 2
      · exact Fin.ext (Nat.mod_eq_of_lt hdr)
      · exact Fin.ext (Nat.mod_eq_of_lt hdc)
    exact hbc.trans hm.symm
  · rw [if_neg hrc]
    exact lit_ninf.trans (if_neg hrc).symm

end Cert.NaAttention

end
-- ==== Proof.NaGather.lean ====
/- Two gathers of one axis, read at an index. -/
module

public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.NaAttention

/-- A small word read back as a number and clamped below a bound it keeps. -/
theorem clamp_word {n N : ℕ} (hn : n < N) (hN : N < 2 ^ 31) : min (BitVec.ofNat 32 n).toInt.toNat (N - 1) = n := by
  have e : (BitVec.ofNat 32 n).toInt = n := by
    have h : (BitVec.ofNat 32 n).toNat = n := (BitVec.toNat_ofNat n 32).trans (Nat.mod_eq_of_lt (by omega))
    rw [BitVec.toInt_eq_toNat_of_lt (by rw [h]; omega), h]
  rw [e]
  omega

variable {α : Type}

/-- The dimension numbers of taking, out of the third of four axes, one entry per place of a matrix of words. -/
abbrev takeThird (A B N D R C : ℕ)
    (wf : GatherDims.WF ⟨4, ![A, B, N, D]⟩ ⟨3, ![R, C, 1]⟩ ⟨5, ![A, B, R, C, D]⟩ [0, 1, 4] [2] [] [2] [] 2 ![A, B, 1, D]) :
    GatherDims ⟨4, ![A, B, N, D]⟩ ⟨3, ![R, C, 1]⟩ ⟨5, ![A, B, R, C, D]⟩ where
  offsetDims := [0, 1, 4]
  collapsedSliceDims := [2]
  operandBatchingDims := []
  startIndicesBatchingDims := []
  startIndexMap := [2]
  indexVectorDim := 2
  sliceSizes := ![A, B, 1, D]
  wf := wf

/-- Taking out of the third of four axes: where the word at `(r, c)` is the number `n`, the entry at `n`. -/
theorem takeThird_at {A B N D R C : ℕ}
    (wf : GatherDims.WF ⟨4, ![A, B, N, D]⟩ ⟨3, ![R, C, 1]⟩ ⟨5, ![A, B, R, C, D]⟩ [0, 1, 4] [2] [] [2] [] 2 ![A, B, 1, D])
    (x : (⟨4, ![A, B, N, D]⟩ : Shape).Idx → α) (idx : IVec ⟨3, ![R, C, 1]⟩ 32) (a : Fin A) (b : Fin B) (r : Fin R) (c : Fin C)
    (d : Fin D) (n : Fin N) (hN : N < 2 ^ 31) (hn : idx (ix3 r c (0 : Fin 1)) = BitVec.ofNat 32 n.val) :
    Host.gather (takeThird A B N D R C wf) x idx (ix5 a b r c d) = x (ix4 a b n d) := by
  unfold Host.gather
  congr 1
  funext e
  refine Fin.ext ?_
  show (takeThird A B N D R C wf).start (ix5 a b r c d) idx e + (takeThird A B N D R C wf).batchCoord (ix5 a b r c d) e
    + (takeThird A B N D R C wf).offCoord (ix5 a b r c d) e = _
  rw [GatherDims.batchCoord_eq_zero _ _ _ List.not_mem_nil, Nat.add_zero]
  have hs : ∀ e : Fin 4, e ≠ 2 → (takeThird A B N D R C wf).start (ix5 a b r c d) idx e = 0 := fun e he => by
    unfold GatherDims.start
    exact dif_neg fun h => he (List.mem_singleton.1 h)
  match e with
  | ⟨0, _⟩ => rw [hs ⟨0, by decide⟩ (by decide), Nat.zero_add]; rfl
  | ⟨1, _⟩ => rw [hs ⟨1, by decide⟩ (by decide), Nat.zero_add]; rfl
  | ⟨3, _⟩ => rw [hs ⟨3, by decide⟩ (by decide), Nat.zero_add]; rfl
  | ⟨2, _⟩ =>
    rw [GatherDims.offCoord_eq_zero _ _ _ (fun h => ((GatherDims.mem_sKept _ _).mp h).1 (List.mem_singleton.mpr rfl)), Nat.add_zero]
    unfold GatherDims.start
    refine (dif_pos (show (2 : Fin 4) ∈ (takeThird A B N D R C wf).startIndexMap from List.mem_singleton.mpr rfl)).trans ?_
    have hsi : (takeThird A B N D R C wf).siIdx (ix5 a b r c d) ⟨List.idxOf (2 : Fin 4) (takeThird A B N D R C wf).startIndexMap,
        List.idxOf_lt_length_iff.2 (List.mem_singleton.mpr rfl)⟩ = ix3 r c (0 : Fin 1) := by
      funext f; refine Fin.ext ?_
      match f with
      | ⟨0, _⟩ => rfl
      | ⟨1, _⟩ => rfl
      | ⟨2, _⟩ => rfl
    exact (congrArg (fun w : BitVec 32 => min w.toInt.toNat (N - 1)) ((congrArg idx hsi).trans hn)).trans (clamp_word n.isLt hN)

/-- The dimension numbers of taking, out of the second of two axes, one entry per place of a matrix of words. -/
abbrev takeSecond (A N R C : ℕ)
    (wf : GatherDims.WF ⟨2, ![A, N]⟩ ⟨3, ![R, C, 1]⟩ ⟨3, ![A, R, C]⟩ [0] [1] [] [1] [] 2 ![A, 1]) :
    GatherDims ⟨2, ![A, N]⟩ ⟨3, ![R, C, 1]⟩ ⟨3, ![A, R, C]⟩ where
  offsetDims := [0]
  collapsedSliceDims := [1]
  operandBatchingDims := []
  startIndicesBatchingDims := []
  startIndexMap := [1]
  indexVectorDim := 2
  sliceSizes := ![A, 1]
  wf := wf

/-- Taking out of the second of two axes: where the word at `(r, c)` is the number `n`, the entry at `n`. -/
theorem takeSecond_at {A N R C : ℕ}
    (wf : GatherDims.WF ⟨2, ![A, N]⟩ ⟨3, ![R, C, 1]⟩ ⟨3, ![A, R, C]⟩ [0] [1] [] [1] [] 2 ![A, 1])
    (x : (⟨2, ![A, N]⟩ : Shape).Idx → α) (idx : IVec ⟨3, ![R, C, 1]⟩ 32) (a : Fin A) (r : Fin R) (c : Fin C)
    (n : Fin N) (hN : N < 2 ^ 31) (hn : idx (ix3 r c (0 : Fin 1)) = BitVec.ofNat 32 n.val) :
    Host.gather (takeSecond A N R C wf) x idx (ix3 a r c) = x (ix2 a n) := by
  unfold Host.gather
  congr 1
  funext e
  refine Fin.ext ?_
  show (takeSecond A N R C wf).start (ix3 a r c) idx e + (takeSecond A N R C wf).batchCoord (ix3 a r c) e
    + (takeSecond A N R C wf).offCoord (ix3 a r c) e = _
  rw [GatherDims.batchCoord_eq_zero _ _ _ List.not_mem_nil, Nat.add_zero]
  have hs : ∀ e : Fin 2, e ≠ 1 → (takeSecond A N R C wf).start (ix3 a r c) idx e = 0 := fun e he => by
    unfold GatherDims.start
    exact dif_neg fun h => he (List.mem_singleton.1 h)
  match e with
  | ⟨0, _⟩ => rw [hs ⟨0, by decide⟩ (by decide), Nat.zero_add]; rfl
  | ⟨1, _⟩ =>
    rw [GatherDims.offCoord_eq_zero _ _ _ (fun h => ((GatherDims.mem_sKept _ _).mp h).1 (List.mem_singleton.mpr rfl)), Nat.add_zero]
    unfold GatherDims.start
    refine (dif_pos (show (1 : Fin 2) ∈ (takeSecond A N R C wf).startIndexMap from List.mem_singleton.mpr rfl)).trans ?_
    have hsi : (takeSecond A N R C wf).siIdx (ix3 a r c) ⟨List.idxOf (1 : Fin 2) (takeSecond A N R C wf).startIndexMap,
        List.idxOf_lt_length_iff.2 (List.mem_singleton.mpr rfl)⟩ = ix3 r c (0 : Fin 1) := by
      funext f; refine Fin.ext ?_
      match f with
      | ⟨0, _⟩ => rfl
      | ⟨1, _⟩ => rfl
      | ⟨2, _⟩ => rfl
    exact (congrArg (fun w : BitVec 32 => min w.toInt.toNat (N - 1)) ((congrArg idx hsi).trans hn)).trans (clamp_word n.isLt hN)

end Cert.NaAttention

end
-- ==== Proof.NaReference.lean ====
/- The neighbourhood attention's reference, read index by index. -/
module

public import proofs.«01_k».proof.Proof.TwoPart
public import proofs.«01_k».proof.Proof.NaTable
public import proofs.«01_k».proof.Proof.NaGather
public import proofs.«01_k».proof.Proof.Gen.ReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.NaAttention

open Cert.ReferenceIdeal Cert.ReferenceIdeal.Gen Cert.ReferenceIdeal.Read Cert.Attention

variable (z : FVec Ideal S16384x12288 .f32) (ck cv : FVec Ideal S8x2x8x256x128 .f32) (rpb : FVec Ideal S2x8x15x31 .f32)
  (qg kg : FVec Ideal S128 .f32)

/-! ## The windows -/

/-- The token at slot `j` of the window of token `x`: row `j / 16`, column `j % 16` of the 8 × 16 window. -/
def winTok (x : Fin 1024) (j : Fin 128) : Fin 1024 :=
  ⟨(row0 (x.val / 64) + j.val / 16) * 64 + (col0 (x.val % 64) + j.val % 16), by unfold row0 col0; omega⟩

/-- The bias of slot `j` of the window of token `x`. -/
def winBias (h : Fin 8) (x : Fin 1024) (j : Fin 128) : EReal :=
  biasAt rpb h (row0 (x.val / 64) + j.val / 16 + 7 - x.val / 64) (col0 (x.val % 64) + j.val % 16 + 15 - x.val % 64)

/-- The reference's window rows. -/
theorem rows_at : ∀ (a : Fin 16) (w : Fin 8), val_main_v53 (F := Ideal) (ix2 a w) = BitVec.ofNat 32 (row0 a.val + w.val) := by
  have e : ∀ (a : Fin 16) (w : Fin 8), IntOp.addi
      (IntOp.minsi 8#32 (IntOp.maxsi 0#32 (IntOp.subi (BitVec.ofNat 32 a.val) 4#32))) (BitVec.ofNat 32 w.val)
      = BitVec.ofNat 32 (row0 a.val + w.val) := by decide +kernel
  intro a w
  pointwise [val_main_v53, val_main_v52, val_main_v51, val_main_v50, val_main_v49, val_main_v48, val_main_v47,
    val_main_call0_v4, val_main_call0_v3, val_main_call0_v2, val_main_call0_v1, val_main_call0_v0,
    val_main_v46, val_main_v45, val_main_v43, val_main_c, val_main_c_5, val_main_c_6]
  exact e a w

/-- The reference's window columns. -/
theorem cols_at : ∀ (a : Fin 64) (u : Fin 16), val_main_v62 (F := Ideal) (ix2 a u) = BitVec.ofNat 32 (col0 a.val + u.val) := by
  have e : ∀ (a : Fin 64) (u : Fin 16), IntOp.addi
      (IntOp.minsi 48#32 (IntOp.maxsi 0#32 (IntOp.subi (BitVec.ofNat 32 a.val) 8#32))) (BitVec.ofNat 32 u.val)
      = BitVec.ofNat 32 (col0 a.val + u.val) := by decide +kernel
  intro a u
  pointwise [val_main_v62, val_main_v61, val_main_v60, val_main_v59, val_main_v58, val_main_v57, val_main_v56,
    val_main_call1_v4, val_main_call1_v3, val_main_call1_v2, val_main_call1_v1, val_main_call1_v0,
    val_main_v55, val_main_v54, val_main_v44, val_main_c_7, val_main_c_8, val_main_c_9]
  exact e a u

/-- The reference's row distances. -/
theorem rowIdx_at : ∀ (a : Fin 16) (w : Fin 8),
    val_main_v69 (F := Ideal) (ix2 a w) = BitVec.ofNat 32 (row0 a.val + w.val + 7 - a.val) := by
  have e : ∀ (a : Fin 16) (w : Fin 8), IntOp.subi (IntOp.addi (IntOp.subi (BitVec.ofNat 32 (row0 a.val + w.val))
      (BitVec.ofNat 32 a.val)) 8#32) 1#32 = BitVec.ofNat 32 (row0 a.val + w.val + 7 - a.val) := by decide +kernel
  intro a w
  pointwise [val_main_v69, val_main_v68, val_main_v67, val_main_v66, val_main_v65, val_main_v64, val_main_v63,
    val_main_v43, val_main_c_10, val_main_c_11]
  rw [rows_at]
  exact e a w

/-- The reference's column distances. -/
theorem colIdx_at : ∀ (a : Fin 64) (u : Fin 16),
    val_main_v76 (F := Ideal) (ix2 a u) = BitVec.ofNat 32 (col0 a.val + u.val + 15 - a.val) := by
  have e : ∀ (a : Fin 64) (u : Fin 16), IntOp.subi (IntOp.addi (IntOp.subi (BitVec.ofNat 32 (col0 a.val + u.val))
      (BitVec.ofNat 32 a.val)) 16#32) 1#32 = BitVec.ofNat 32 (col0 a.val + u.val + 15 - a.val) := by decide +kernel
  intro a u
  pointwise [val_main_v76, val_main_v75, val_main_v74, val_main_v73, val_main_v72, val_main_v71, val_main_v70,
    val_main_v44, val_main_c_12, val_main_c_13]
  rw [cols_at]
  exact e a u

/-- A product and a sum of small words. -/
theorem word_at (a b k : ℕ) : IntOp.addi (IntOp.muli (BitVec.ofNat 32 a) (BitVec.ofNat 32 k)) (BitVec.ofNat 32 b)
    = BitVec.ofNat 32 (a * k + b) := by
  rw [BitVec.ofNat_add, BitVec.ofNat_mul]
  rfl

/-- The reference's window tokens. -/
theorem tok_at (x : Fin 1024) (j : Fin 128) :
    val_main_v84 (F := Ideal) (ix2 x j) = BitVec.ofNat 32 (winTok x j).val := by
  pointwise [val_main_v84, val_main_v83, val_main_v82, val_main_v81, val_main_v80, val_main_v79, val_main_v78,
    val_main_v77, val_main_c_14]
  rw [rows_at, cols_at]
  exact word_at _ _ 64

/-- The flat place of the bias of slot `j` of the window of token `x`. -/
def winOff (x : Fin 1024) (j : Fin 128) : Fin 465 :=
  ⟨(row0 (x.val / 64) + j.val / 16 + 7 - x.val / 64) * 31 + (col0 (x.val % 64) + j.val % 16 + 15 - x.val % 64), by
    unfold row0 col0; omega⟩

/-- The reference's places in the bias table. -/
theorem off_at (x : Fin 1024) (j : Fin 128) :
    val_main_v92 (F := Ideal) (ix2 x j) = BitVec.ofNat 32 (winOff x j).val := by
  pointwise [val_main_v92, val_main_v91, val_main_v90, val_main_v89, val_main_v88, val_main_v87, val_main_v86,
    val_main_v85, val_main_c_15]
  rw [rowIdx_at, colIdx_at]
  exact word_at _ _ 31

/-- The reference's biases. -/
theorem bias_at (h : Fin 8) (x : Fin 1024) (j : Fin 128) :
    (val_main_v96 (F := Ideal) rpb (ix3 h x j) : EReal) = winBias rpb h x j := by
  have e : (val_main_v96 (F := Ideal) rpb (ix3 h x j) : EReal) = val_main_v95 (F := Ideal) rpb (ix2 h (winOff x j)) :=
    takeSecond_at _ (val_main_v95 (F := Ideal) rpb) (val_main_call4_v0 (F := Ideal)) h x j (winOff x j) (by decide)
      ((val_main_call4_v0_apply _).trans (off_at x j))
  refine e.trans ?_
  pointwise [val_main_v95, val_main_v42, val_main_v41]
  unfold winBias biasAt
  have hr : (winOff x j).val / 31 = (row0 (x.val / 64) + j.val / 16 + 7 - x.val / 64) % 15 := by
    unfold winOff row0 col0; dsimp only; omega
  have hc : (winOff x j).val % 31 = (col0 (x.val % 64) + j.val % 16 + 15 - x.val % 64) % 31 := by
    unfold winOff row0 col0; dsimp only; omega
  congr 2
  · exact Fin.ext hr
  · exact Fin.ext hc

/-! ## Queries, keys and values -/

/-- Token `r` of sample `b`, columns `off + 128 h …` of `z`: one head of one token. -/
def head (off : ℕ) (hoff : off + 1024 ≤ 12288) (b h : Fin 8) (r : Fin 1024) (d : Fin 128) : EReal :=
  z (ix2 (⟨8192 + (b.val * 1024 + r.val), by omega⟩ : Fin 16384) (⟨off + (h.val * 128 + d.val), by omega⟩ : Fin 12288))

/-- The normed query of sample `b`, head `h`, token `r`. -/
def query (b h : Fin 8) (r : Fin 1024) : Fin 128 → EReal :=
  headNorm (head z 5120 (by omega) b h r) fun d => qg (ix1 d)

/-- The normed key of sample `b`, head `h`, token `r`. -/
def key (b h : Fin 8) (r : Fin 1024) : Fin 128 → EReal :=
  headNorm (head z 6144 (by omega) b h r) fun d => kg (ix1 d)

/-- The value of sample `b`, head `h`, token `r`. -/
def value (b h : Fin 8) (r : Fin 1024) : Fin 128 → EReal := head z 7168 (by omega) b h r

/-- The scaled and biased logit of token `r` against slot `j` of its window. -/
def winLogit (b h : Fin 8) (r : Fin 1024) (j : Fin 128) : EReal :=
  (∑ d, query z qg b h r d * key z kg b h (winTok r j) d) * Ideal.ofBits .f32 0x3DB504F3#32 + winBias rpb h r j

/-- The scaled logit of token `r` against the cached token `x`. -/
def ctxLogit (b h : Fin 8) (r : Fin 1024) (x : Fin 256) : EReal :=
  (∑ d, query z qg b h r d * ck (ix5 b (0 : Fin 2) h x d)) * Ideal.ofBits .f32 0x3DB504F3#32

/-- The reference's normed queries. -/
theorem query_at (b h : Fin 8) (r : Fin 1024) (d : Fin 128) :
    (val_main_v19 (F := Ideal) z qg (ix4 b h r d) : EReal) = query z qg b h r d := by
  pointwise [val_main_v19, val_main_v18, val_main_v17, val_main_v16, val_main_v15, val_main_v14, val_main_v13,
    val_main_v12, val_main_v11, val_main_v10, val_main_v9, val_main_v8, val_main_v7, val_main_v6, val_main_v5,
    val_main_v2, val_main_v1, val_main_v0, val_main_cst, val_main_cst_0, val_main_cst_1]
  rfl

/-- The reference's normed keys. -/
theorem key_at (b h : Fin 8) (r : Fin 1024) (d : Fin 128) :
    (val_main_v34 (F := Ideal) z kg (ix4 b h r d) : EReal) = key z kg b h r d := by
  pointwise [val_main_v34, val_main_v33, val_main_v32, val_main_v31, val_main_v30, val_main_v29, val_main_v28,
    val_main_v27, val_main_v26, val_main_v25, val_main_v24, val_main_v23, val_main_v22, val_main_v21, val_main_v20,
    val_main_v3, val_main_v1, val_main_v0, val_main_cst_2, val_main_cst_3, val_main_cst_4]
  rfl

/-- The reference's values. -/
theorem value_at (b h : Fin 8) (r : Fin 1024) (d : Fin 128) :
    (val_main_v36 (F := Ideal) z (ix4 b h r d) : EReal) = value z b h r d := by
  pointwise [val_main_v36, val_main_v35, val_main_v4, val_main_v1, val_main_v0]
  rfl

/-- The reference's cached keys. -/
theorem cacheK_at (b h : Fin 8) (x : Fin 256) (d : Fin 128) :
    (val_main_v38 (F := Ideal) ck (ix4 b h x d) : EReal) = ck (ix5 b (0 : Fin 2) h x d) := by
  pointwise [val_main_v38, val_main_v37]

/-- The reference's cached values. -/
theorem cacheV_at (b h : Fin 8) (x : Fin 256) (d : Fin 128) :
    (val_main_v40 (F := Ideal) cv (ix4 b h x d) : EReal) = cv (ix5 b (0 : Fin 2) h x d) := by
  pointwise [val_main_v40, val_main_v39]

/-- The reference's keys of the windows. -/
theorem winKey_at (b h : Fin 8) (r : Fin 1024) (j : Fin 128) (d : Fin 128) :
    (val_main_v93 (F := Ideal) z kg (ix5 b h r j d) : EReal) = key z kg b h (winTok r j) d :=
  Eq.trans (takeThird_at _ (val_main_v34 (F := Ideal) z kg) (val_main_call2_v0 (F := Ideal)) b h r j d (winTok r j) (by decide)
      ((val_main_call2_v0_apply _).trans (tok_at r j)))
    (key_at z kg b h (winTok r j) d)

/-- The reference's values of the windows. -/
theorem winValue_at (b h : Fin 8) (r : Fin 1024) (j : Fin 128) (d : Fin 128) :
    (val_main_v94 (F := Ideal) z (ix5 b h r j d) : EReal) = value z b h (winTok r j) d :=
  Eq.trans (takeThird_at _ (val_main_v36 (F := Ideal) z) (val_main_call3_v0 (F := Ideal)) b h r j d (winTok r j) (by decide)
      ((val_main_call3_v0_apply _).trans (tok_at r j)))
    (value_at z b h (winTok r j) d)

/-! ## Logits and weights -/

/-- The reference's logits of the windows. -/
theorem winLogit_at (b h : Fin 8) (r : Fin 1024) (j : Fin 128) :
    (val_main_v102 (F := Ideal) z rpb qg kg (ix4 b h r j) : EReal) = winLogit z rpb qg kg b h r j := by
  have e : (val_main_v97 (F := Ideal) z qg kg (ix4 b h r j) : EReal) = ∑ d, query z qg b h r d * key z kg b h (winTok r j) d := by
    rw [val_main_v97_apply]
    refine Finset.sum_congr rfl fun d _ => ?_
    have hl : lidx_main_v97 (ix4 b h r j) d = ix4 b h r d := funext fun a => match a with
      | ⟨0, _⟩ => rfl
      | ⟨1, _⟩ => rfl
      | ⟨2, _⟩ => rfl
      | ⟨3, _⟩ => rfl
    have hr : ridx_main_v97 (ix4 b h r j) d = ix5 b h r j d := funext fun a => match a with
      | ⟨0, _⟩ => rfl
      | ⟨1, _⟩ => rfl
      | ⟨2, _⟩ => rfl
      | ⟨3, _⟩ => rfl
      | ⟨4, _⟩ => rfl
    rw [hl, hr]
    exact congrArg₂ (· * ·) (query_at z qg b h r d) (winKey_at z kg b h r j d)
  pointwise [val_main_v102, val_main_v101, val_main_v100, val_main_v99, val_main_v98, val_main_cst_16]
  unfold winLogit
  exact congrArg₂ (· + ·) (congrArg (· * _) e) (bias_at rpb h r j)

/-- The reference's logits of the cache. -/
theorem ctxLogit_at (b h : Fin 8) (r : Fin 1024) (x : Fin 256) :
    (val_main_v105 (F := Ideal) z ck qg (ix4 b h r x) : EReal) = ctxLogit z ck qg b h r x := by
  pointwise [val_main_v105, val_main_v104, val_main_v103, val_main_cst_17]
  unfold ctxLogit
  congr 1
  exact Finset.sum_congr rfl fun d _ => congrArg₂ (· * ·) (query_at z qg b h r d) (cacheK_at ck b h x d)

/-- The logits of token `r`: the 128 of its window, then the 256 of the cache. -/
def logit (b h : Fin 8) (r : Fin 1024) (k : Fin 384) : EReal :=
  if hk : k.val < 128 then winLogit z rpb qg kg b h r ⟨k.val, hk⟩ else ctxLogit z ck qg b h r ⟨k.val - 128, by omega⟩

/-- The reference's logits. -/
theorem logit_at (b h : Fin 8) (r : Fin 1024) (k : Fin 384) :
    (val_main_v106 (F := Ideal) z ck rpb qg kg (ix4 b h r k) : EReal) = logit z ck rpb qg kg b h r k := by
  pointwise [val_main_v106]
  unfold logit
  by_cases hk : k.val < 128
  · rw [dif_pos hk, dif_pos hk]; exact winLogit_at z rpb qg kg b h r ⟨k.val, hk⟩
  · rw [dif_neg hk, dif_neg hk]; exact ctxLogit_at z ck qg b h r ⟨k.val - 128, by omega⟩

/-- The maximum along the last of four axes, read at an index. -/
theorem hostMax_last4 {n0 n1 n2 n3 : ℕ} {u : Shape} (h : (⟨4, ![n0, n1, n2, n3]⟩ : Shape).ReducesTo [3] ⟨3, ![n0, n1, n2]⟩)
    (hu : 0 < u.numel) (x : FVec Ideal ⟨4, ![n0, n1, n2, n3]⟩ .f32) (init : FVec Ideal u .f32) (a : Fin n0) (b : Fin n1) (c : Fin n2) :
    Host.reduce FloatOps.maximumf x init h hu (ix3 a b c)
      = Finset.univ.fold max (init (Shape.Idx.first hu) : EReal) (fun k : Fin n3 => (x (ix4 a b c k) : EReal)) := by
  rw [Host.reduce_eq_fold, Shape.ReducesTo.fold_fiber_r4_a3]
  rfl

/-- The reference's row maxima. -/
theorem top_at (b h : Fin 8) (r : Fin 1024) :
    (val_main_v109 (F := Ideal) z ck rpb qg kg (ix3 b h r) : EReal) = top (logit z ck rpb qg kg b h r) := by
  rw [val_main_v109_apply, val_main_v108_apply, val_main_cst_19_apply]
  unfold val_main_v107
  rw [hostMax_last4, val_main_cst_18_apply, funext fun x => logit_at z ck rpb qg kg b h r x, Ideal.maximumf_eq_max,
    Ideal.ofBits_def, lit_ninf, max_eq_right bot_le]
  rfl

/-- The reference's unnormalised weights. -/
theorem weight_at (b h : Fin 8) (r : Fin 1024) (x : Fin 384) :
    (val_main_v113 (F := Ideal) z ck rpb qg kg (ix4 b h r x) : EReal)
      = Ideal.exp (logit z ck rpb qg kg b h r x - top (logit z ck rpb qg kg b h r)) := by
  pointwise [val_main_v113, val_main_v112, val_main_v111, val_main_v110]
  exact congrArg Ideal.exp (congrArg₂ (· - ·) (logit_at z ck rpb qg kg b h r x) (top_at z ck rpb qg kg b h r))

/-- The reference's total weights. -/
theorem total_at (b h : Fin 8) (r : Fin 1024) :
    (val_main_v114 (F := Ideal) z ck rpb qg kg (ix3 b h r) : EReal)
      = ∑ x, Ideal.exp (logit z ck rpb qg kg b h r x - top (logit z ck rpb qg kg b h r)) := by
  pointwise [val_main_v114, val_main_cst_20]
  exact Finset.sum_congr rfl fun x _ => weight_at z ck rpb qg kg b h r x

/-- The reference's weights. -/
theorem share_at (b h : Fin 8) (r : Fin 1024) (x : Fin 384) :
    (val_main_v117 (F := Ideal) z ck rpb qg kg (ix4 b h r x) : EReal)
      = Ideal.div (Ideal.exp (logit z ck rpb qg kg b h r x - top (logit z ck rpb qg kg b h r)))
          (∑ x, Ideal.exp (logit z ck rpb qg kg b h r x - top (logit z ck rpb qg kg b h r))) := by
  pointwise [val_main_v117, val_main_v116, val_main_v115]
  exact congrArg₂ Ideal.div (weight_at z ck rpb qg kg b h r x) (total_at z ck rpb qg kg b h r)

/-- Attention over 384 keys whose values come in two pieces. -/
theorem attend_pieces (s : Fin 384 → EReal) (v : Fin 128 → EReal) (v' : Fin 256 → EReal) :
    (∑ i : Fin 128, Ideal.div (Ideal.exp (s ⟨i.val, by omega⟩ - top s)) (∑ x, Ideal.exp (s x - top s)) * v i)
      + ∑ k : Fin 256, Ideal.div (Ideal.exp (s ⟨128 + k.val, by omega⟩ - top s)) (∑ x, Ideal.exp (s x - top s)) * v' k
    = attend (Sum.elim (fun i : Fin 128 => s ⟨i.val, by omega⟩) fun k : Fin 256 => s ⟨128 + k.val, by omega⟩) (Sum.elim v v') := by
  have e := attend_equiv (finSumFinEquiv (m := 128) (n := 256)) s fun k => Sum.elim v v' (finSumFinEquiv.symm k)
  have e2 : (fun j => s ((finSumFinEquiv (m := 128) (n := 256)) j))
      = Sum.elim (fun i : Fin 128 => s ⟨i.val, by omega⟩) fun k : Fin 256 => s ⟨128 + k.val, by omega⟩ := by
    funext j
    match j with
    | .inl i => rfl
    | .inr k => rfl
  simp only [Equiv.symm_apply_apply] at e
  rw [e2] at e
  refine Eq.trans ?_ e
  unfold attend
  rw [← Equiv.sum_comp (finSumFinEquiv (m := 128) (n := 256)) fun i => Ideal.div (Ideal.exp (s i - top s)) _ * _,
    Fintype.sum_sum_type]
  simp only [Equiv.symm_apply_apply, Sum.elim_inl, Sum.elim_inr]
  rfl

/-- The reference's attention, head by head. -/
theorem attend_at (b h : Fin 8) (r : Fin 1024) (d : Fin 128) :
    (val_main_v122 (F := Ideal) z ck cv rpb qg kg (ix4 b h r d) : EReal)
      = attend (Sum.elim (winLogit z rpb qg kg b h r) (ctxLogit z ck qg b h r))
          (Sum.elim (fun j => value z b h (winTok r j) d) fun x => cv (ix5 b (0 : Fin 2) h x d)) := by
  have e1 : (val_main_v119 (F := Ideal) z ck rpb qg kg (ix4 b h r d) : EReal)
      = ∑ j : Fin 128, Ideal.div (Ideal.exp (logit z ck rpb qg kg b h r ⟨j.val, by omega⟩ - top (logit z ck rpb qg kg b h r)))
          (∑ x, Ideal.exp (logit z ck rpb qg kg b h r x - top (logit z ck rpb qg kg b h r))) * value z b h (winTok r j) d := by
    rw [val_main_v119_apply]
    refine Finset.sum_congr rfl fun j _ => ?_
    have hl : lidx_main_v119 (ix4 b h r d) j = ix4 b h r j := funext fun a => match a with
      | ⟨0, _⟩ => rfl
      | ⟨1, _⟩ => rfl
      | ⟨2, _⟩ => rfl
      | ⟨3, _⟩ => rfl
    have hr : ridx_main_v119 (ix4 b h r d) j = ix5 b h r j d := funext fun a => match a with
      | ⟨0, _⟩ => rfl
      | ⟨1, _⟩ => rfl
      | ⟨2, _⟩ => rfl
      | ⟨3, _⟩ => rfl
      | ⟨4, _⟩ => rfl
    have hs : (val_main_v118 (F := Ideal) z ck rpb qg kg (ix4 b h r j) : EReal)
        = val_main_v117 (F := Ideal) z ck rpb qg kg (ix4 b h r (⟨j.val, by omega⟩ : Fin 384)) := by
      pointwise [val_main_v118]
    rw [hl, hr, hs]
    exact congrArg₂ (· * ·) (share_at z ck rpb qg kg b h r ⟨j.val, by omega⟩) (winValue_at z b h r j d)
  have e2 : (val_main_v121 (F := Ideal) z ck cv rpb qg kg (ix4 b h r d) : EReal)
      = ∑ x : Fin 256, Ideal.div (Ideal.exp (logit z ck rpb qg kg b h r ⟨128 + x.val, by omega⟩ - top (logit z ck rpb qg kg b h r)))
          (∑ x, Ideal.exp (logit z ck rpb qg kg b h r x - top (logit z ck rpb qg kg b h r))) * cv (ix5 b (0 : Fin 2) h x d) := by
    pointwise [val_main_v121, val_main_v120]
    exact Finset.sum_congr rfl fun x _ => congrArg₂ (· * ·) (share_at z ck rpb qg kg b h r ⟨128 + x.val, by omega⟩)
      (cacheV_at cv b h x d)
  rw [val_main_v122_apply]
  refine (congrArg₂ (· + ·) e1 e2).trans ((attend_pieces _ _ _).trans ?_)
  congr 1
  funext j
  match j with
  | .inl i => exact dif_pos i.isLt
  | .inr k =>
    refine (dif_neg (by show ¬128 + k.val < 128; omega)).trans (congrArg (ctxLogit z ck qg b h r) (Fin.ext ?_))
    show 128 + k.val - 128 = k.val
    omega

/-- The reference's result. -/
theorem result_at (i : S8192x1024.Idx) (b h : Fin 8) (r : Fin 1024) (d : Fin 128)
    (h0 : (i 0).val = b.val * 1024 + r.val) (h1 : (i 1).val = h.val * 128 + d.val) :
    (val_main_v126 (F := Ideal) z ck cv rpb qg kg i : EReal)
      = attend (Sum.elim (winLogit z rpb qg kg b h r) (ctxLogit z ck qg b h r))
          (Sum.elim (fun j => value z b h (winTok r j) d) fun x => cv (ix5 b (0 : Fin 2) h x d)) := by
  refine Eq.trans ?_ (attend_at z ck cv rpb qg kg b h r d)
  pointwise [val_main_v126, val_main_v125, val_main_v124, val_main_v123]
  refine congrArg (val_main_v122 (F := Ideal) z ck cv rpb qg kg : S8x8x1024x128.Idx → EReal) (funext fun a => Fin.ext ?_)
  match a with
  | ⟨0, _⟩ => simp; omega
  | ⟨1, _⟩ => simp; omega
  | ⟨2, _⟩ => simp; omega
  | ⟨3, _⟩ => simp; omega

end Cert.NaAttention

end
-- ==== Proof.NaKernelValue.lean ====
/- The neighbourhood attention kernel's result array, as the reference's function of the arguments. -/
module

public import proofs.«01_k».proof.Proof.NaKernelBlock
public import proofs.«01_k».proof.Proof.NaReference
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NaAttention

open Cert.KernelIdeal Cert.KernelIdeal.Gen Cert.Attention
open Cert.ReferenceIdeal.Read (val_main_v126)

/-! ## The attention over all tokens with a masked table is the attention over the window -/

theorem winTok_injective (x : Fin 1024) : Function.Injective (winTok x) := by
  intro j j' h
  have e := congrArg Fin.val h
  unfold winTok at e
  dsimp only at e
  have h0 : col0 (x.val % 64) ≤ 48 := by unfold col0; omega
  refine Fin.ext ?_
  omega

theorem winTok_row (x : Fin 1024) (j : Fin 128) : (winTok x j).val / 64 = row0 (x.val / 64) + j.val / 16 := by
  have h0 : col0 (x.val % 64) ≤ 48 := by unfold col0; omega
  unfold winTok
  dsimp only
  omega

theorem winTok_col (x : Fin 1024) (j : Fin 128) : (winTok x j).val % 64 = col0 (x.val % 64) + j.val % 16 := by
  have h0 : col0 (x.val % 64) ≤ 48 := by unfold col0; omega
  unfold winTok
  dsimp only
  omega

/-- Every token whose row and column lie in the window has a slot. -/
theorem exists_slot (x y : Fin 1024) (h : RowOk (x.val / 64) (y.val / 64) ∧ ColOk (x.val % 64) (y.val % 64)) :
    ∃ j, winTok x j = y := by
  obtain ⟨⟨h1, h2⟩, h3, h4⟩ := h
  refine ⟨⟨(y.val / 64 - row0 (x.val / 64)) * 16 + (y.val % 64 - col0 (x.val % 64)), by omega⟩, Fin.ext ?_⟩
  unfold winTok
  dsimp only
  omega

/-- The table at a slot of the window is the bias of the slot. -/
theorem table_slot (rpb : FVec Ideal S2x8x15x31 .f32) (h : Fin 8) (x : Fin 1024) (j : Fin 128) :
    biasTable rpb (ix3 h x (winTok x j)) = winBias rpb h x j := by
  refine (biasTable_at rpb h x (winTok x j)).trans ?_
  rw [winTok_row, winTok_col]
  exact if_pos ⟨⟨by omega, by omega⟩, by omega, by omega⟩

/-- The table off the window is `⊥`. -/
theorem table_off (rpb : FVec Ideal S2x8x15x31 .f32) (h : Fin 8) (x y : Fin 1024) (hy : ∀ j, winTok x j ≠ y) :
    biasTable rpb (ix3 h x y) = (⊥ : EReal) :=
  (biasTable_at rpb h x y).trans (if_neg fun hw => (exists_slot x y hw).elim hy)

section

variable (z : FVec Ideal S16384x12288 .f32) (ck cv : FVec Ideal S8x2x8x256x128 .f32) (rpb : FVec Ideal S2x8x15x31 .f32)
  (qg kg : FVec Ideal S128 .f32)
  (hc : ∀ (b h : Fin 8) (x : Fin 256) (d : Fin 128), IsReal (ck (ix5 b (0 : Fin 2) h x d)))
  (hb : ∀ (h : Fin 8) (i : Fin 15) (j : Fin 31), IsReal (rpb (ix4 (0 : Fin 2) h i j)))
  (hq : ∀ d, IsReal (qg (ix1 d))) (hk : ∀ d, IsReal (kg (ix1 d)))

include hq hk in
/-- With real gains the product of a query and a key is real. -/
theorem isReal_product (b h : Fin 8) (r y : Fin 1024) :
    IsReal ((∑ e, query z qg b h r e * key z kg b h y e) * Ideal.ofBits .f32 0x3DB504F3#32) :=
  isReal_logit (isReal_headNorm _ hq) (isReal_headNorm _ hk)

include hc hq in
/-- With real gains and real cached keys the logit of a cached token is real. -/
theorem isReal_ctxLogit (b h : Fin 8) (r : Fin 1024) (x : Fin 256) : IsReal (ctxLogit z ck qg b h r x) :=
  isReal_logit (isReal_headNorm _ hq) fun d => hc b h x d

include hb hq hk in
/-- With real gains and biases the logit of a slot is real. -/
theorem isReal_winLogit (b h : Fin 8) (r : Fin 1024) (j : Fin 128) : IsReal (winLogit z rpb qg kg b h r j) :=
  (isReal_product z qg kg hq hk b h r _).add (hb h _ _)

include hc hb hq hk in
/-- The attention over all the sample's tokens with the masked table, and the cache, is the attention over the window
    and the cache. -/
theorem attend_window (b h : Fin 8) (r : Fin 1024) (d : Fin 128) :
    attendTwo (fun y : Fin 1024 => (∑ e, query z qg b h r e * key z kg b h y e) * Ideal.ofBits .f32 0x3DB504F3#32
        + biasTable rpb (ix3 h r y)) (fun y => value z b h y d) (ctxLogit z ck qg b h r) (fun x => cv (ix5 b (0 : Fin 2) h x d))
      = attend (Sum.elim (winLogit z rpb qg kg b h r) (ctxLogit z ck qg b h r))
          (Sum.elim (fun j => value z b h (winTok r j) d) fun x => cv (ix5 b (0 : Fin 2) h x d)) := by
  rw [attendTwo_eq]
  refine (attendAfter_restrict _ _ (Sum.map (winTok r) (id : Fin 256 → Fin 256))
    ((winTok_injective r).sumMap Function.injective_id) ?_).trans ?_
  · rintro (y | x) hi
    · have hy : ∀ j, winTok r j ≠ y := fun j e => hi ⟨.inl j, congrArg Sum.inl e⟩
      exact (congrArg (_ + ·) (table_off rpb h r y hy)).trans (EReal.add_bot _)
    · exact absurd ⟨.inr x, rfl⟩ hi
  · have es : (fun j => Sum.elim (fun y : Fin 1024 => (∑ e, query z qg b h r e * key z kg b h y e)
          * Ideal.ofBits .f32 0x3DB504F3#32 + biasTable rpb (ix3 h r y)) (ctxLogit z ck qg b h r)
          (Sum.map (winTok r) (id : Fin 256 → Fin 256) j))
        = Sum.elim (winLogit z rpb qg kg b h r) (ctxLogit z ck qg b h r) := by
      funext j
      match j with
      | .inl j => exact congrArg (_ + ·) (table_slot rpb h r j)
      | .inr x => rfl
    have ev : (fun j => Sum.elim (fun y => value z b h y d) (fun x => (cv (ix5 b (0 : Fin 2) h x d) : EReal))
          (Sum.map (winTok r) (id : Fin 256 → Fin 256) j))
        = Sum.elim (fun j => value z b h (winTok r j) d) fun x => (cv (ix5 b (0 : Fin 2) h x d) : EReal) := by
      funext j
      match j with
      | .inl j => rfl
      | .inr x => rfl
    have hreal : ∀ j, IsReal (Sum.elim (winLogit z rpb qg kg b h r) (ctxLogit z ck qg b h r) j) := fun j => match j with
      | .inl j => isReal_winLogit z rpb qg kg hb hq hk b h r j
      | .inr x => isReal_ctxLogit z ck qg hc hq b h r x
    refine (congrArg₂ attendAfter es ev).trans ?_
    exact attendAfter_eq _ (fun j => (hreal j).ne_top) (hreal (.inr 0))

end

/-! ## The blocks of the grid points -/

variable (m : (ℓ : Loc nD τ sig) → Buf (Elt Ideal) ℓ)

/-- Every window's block index at a grid point: point `t` is head `t / 8`, sample `t % 8`. -/
theorem idx : ∀ t : Fin cfg0.N, win0_0.index t = ![8 + t.val % 8, 40 + t.val / 8] ∧ win0_1.index t = ![8 + t.val % 8, 48 + t.val / 8]
    ∧ win0_2.index t = ![8 + t.val % 8, 56 + t.val / 8] ∧ win0_3.index t = ![t.val % 8, 0, t.val / 8, 0, 0]
    ∧ win0_4.index t = ![t.val % 8, 0, t.val / 8, 0, 0] ∧ win0_5.index t = ![t.val / 8, 0, 0]
    ∧ win0_6.index t = ![0, 0] ∧ win0_7.index t = ![0, 0] ∧ win0_8.index t = ![t.val % 8, t.val / 8] :=
  (by decide +kernel : ∀ t : Fin grid0.N, _)

theorem point_lt (t : Fin cfg0.N) : t.val < 64 := lt_of_lt_of_eq t.isLt N_0

/-- The sample of point `t`. -/
def sampleOf (t : Fin cfg0.N) : Fin 8 := ⟨t.val % 8, by omega⟩

/-- The head of point `t`. -/
def headOf (t : Fin cfg0.N) : Fin 8 := ⟨t.val / 8, by have := point_lt t; omega⟩

abbrev zOf (c : Dev nD) : FVec Ideal S16384x12288 .f32 := m ((c : Thread nD τ).loc main_arg0)
abbrev ckOf (c : Dev nD) : FVec Ideal S8x2x8x256x128 .f32 := m ((c : Thread nD τ).loc main_arg1)
abbrev cvOf (c : Dev nD) : FVec Ideal S8x2x8x256x128 .f32 := m ((c : Thread nD τ).loc main_arg2)
abbrev rpbOf (c : Dev nD) : FVec Ideal S2x8x15x31 .f32 := m ((c : Thread nD τ).loc main_arg3)
abbrev qgOf (c : Dev nD) : FVec Ideal S128 .f32 := m ((c : Thread nD τ).loc main_arg4)
abbrev kgOf (c : Dev nD) : FVec Ideal S128 .f32 := m ((c : Thread nD τ).loc main_arg5)

/-- The query block is one head of the sample's queries. -/
theorem block_q (c : Dev nD) (t : Fin cfg0.N) (r : Fin 1024) :
    (fun d : Fin 128 => (iblk m c 0 t (ix2 r d) : EReal)) = head (zOf m c) 5120 (by omega) (sampleOf t) (headOf t) r := by
  funext d
  refine Eq.trans ?_ (congrFun (V_main_arg0 m c) _)
  unfold sampleOf headOf; blk_ext [iblk, idx t]

/-- The key block is one head of the sample's keys. -/
theorem block_k (c : Dev nD) (t : Fin cfg0.N) (r : Fin 1024) :
    (fun d : Fin 128 => (iblk m c 1 t (ix2 r d) : EReal)) = head (zOf m c) 6144 (by omega) (sampleOf t) (headOf t) r := by
  funext d
  refine Eq.trans ?_ (congrFun (V_main_arg0 m c) _)
  unfold sampleOf headOf; blk_ext [iblk, idx t]

/-- The value block is one head of the sample's values. -/
theorem block_v (c : Dev nD) (t : Fin cfg0.N) (d : Fin 128) :
    (fun r : Fin 1024 => (iblk m c 2 t (ix2 r d) : EReal)) = fun r => value (zOf m c) (sampleOf t) (headOf t) r d := by
  funext r
  refine Eq.trans ?_ (congrFun (V_main_arg0 m c) _)
  unfold sampleOf headOf; blk_ext [iblk, idx t]

/-- The cached keys' block is one head of the sample's. -/
theorem block_ck (c : Dev nD) (t : Fin cfg0.N) (x : Fin 256) (d : Fin 128) :
    (iblk m c 3 t (ix5 (0 : Fin 1) (0 : Fin 1) (0 : Fin 1) x d) : EReal) = ckOf m c (ix5 (sampleOf t) (0 : Fin 2) (headOf t) x d) := by
  refine Eq.trans ?_ (congrFun (V_main_arg1 m c) _)
  unfold sampleOf headOf; blk_ext [iblk, idx t]

/-- The cached values' block is one head of the sample's. -/
theorem block_cv (c : Dev nD) (t : Fin cfg0.N) (x : Fin 256) (d : Fin 128) :
    (iblk m c 4 t (ix5 (0 : Fin 1) (0 : Fin 1) (0 : Fin 1) x d) : EReal) = cvOf m c (ix5 (sampleOf t) (0 : Fin 2) (headOf t) x d) := by
  refine Eq.trans ?_ (congrFun (V_main_arg2 m c) _)
  unfold sampleOf headOf; blk_ext [iblk, idx t]

/-- The table's block is one head of the table. -/
theorem block_bias (c : Dev nD) (t : Fin cfg0.N) (r y : Fin 1024) :
    (iblk m c 5 t (ix3 (0 : Fin 1) r y) : EReal) = biasTable (rpbOf m c) (ix3 (headOf t) r y) := by
  have e := table_eq m c
  refine Eq.trans ?_ (congrFun e (ix3 (headOf t) r y))
  unfold headOf; blk_ext [iblk, idx t]

/-- The prepared gains are the arguments as rows. -/
theorem ops6_gains (W : Valuation τ sig (Elt Ideal)) :
    StableHlo.after hostOps0_6 W main_v90 = (shapeCast S1x128 (W main_arg4 : FVec Ideal S128 .f32) shapeCasts_S128_S1x128 : FVec Ideal S1x128 .f32)
    ∧ StableHlo.after hostOps0_6 W main_v91 = (shapeCast S1x128 (W main_arg5 : FVec Ideal S128 .f32) shapeCasts_S128_S1x128 : FVec Ideal S1x128 .f32)
    ∧ StableHlo.after hostOps0_6 W main_arg4 = W main_arg4 ∧ StableHlo.after hostOps0_6 W main_arg5 = W main_arg5 := by
  unfold hostOps0_6
  refine ⟨?_, ?_, ?_, ?_⟩ <;> (after_results_simp; try rfl)

/-- Before the call the values are those the last stretch of the preparation leaves. -/
theorem V_last (c : Dev nD) : ∃ W : Valuation τ sig (Elt Ideal), ∀ b : Ref sig .tc, V m c b = StableHlo.after hostOps0_6 W b :=
  ⟨StableHlo.after hostOps0_5 (StableHlo.after hostOps0_4 (StableHlo.after hostOps0_3
    (StableHlo.after hostOps0_2 (StableHlo.after hostOps0_1 (StableHlo.after hostOps0 fun b => m (c, b)))))), fun b => by
    unfold V
    simp only [List.flatten_cons, List.flatten_nil, List.append_nil, after_append]⟩

/-- The query gains that the call reads. -/
theorem qGains_eq (c : Dev nD) : (V m c main_v90 : FVec Ideal S1x128 .f32) = shapeCast S1x128 (qgOf m c) shapeCasts_S128_S1x128 := by
  obtain ⟨W, hW⟩ := V_last m c
  obtain ⟨e, -, a, -⟩ := ops6_gains W
  have ha := (hW main_arg4).symm.trans (V_main_arg4 m c)
  exact (hW main_v90).trans (e.trans (congrArg (fun x : FVec Ideal S128 .f32 => shapeCast S1x128 x shapeCasts_S128_S1x128) (a.symm.trans ha)))

/-- The key gains that the call reads. -/
theorem kGains_eq (c : Dev nD) : (V m c main_v91 : FVec Ideal S1x128 .f32) = shapeCast S1x128 (kgOf m c) shapeCasts_S128_S1x128 := by
  obtain ⟨W, hW⟩ := V_last m c
  obtain ⟨-, e, -, a⟩ := ops6_gains W
  have ha := (hW main_arg5).symm.trans (V_main_arg5 m c)
  exact (hW main_v91).trans (e.trans (congrArg (fun x : FVec Ideal S128 .f32 => shapeCast S1x128 x shapeCasts_S128_S1x128) (a.symm.trans ha)))

/-- The query gains' block is the argument. -/
theorem gains_q (c : Dev nD) (t : Fin cfg0.N) : gains (iblk m c 6 t) = fun d => (qgOf m c (ix1 d) : EReal) := by
  funext d
  have e : (iblk m c 6 t (ix2 (0 : Fin 1) d) : EReal) = (V m c main_v90 : FVec Ideal S1x128 .f32) (ix2 (0 : Fin 1) d) := by
    blk_ext [iblk, idx t]
  refine e.trans ((congrFun (qGains_eq m c) _).trans ?_)
  pointwise

/-- The key gains' block is the argument. -/
theorem gains_k (c : Dev nD) (t : Fin cfg0.N) : gains (iblk m c 7 t) = fun d => (kgOf m c (ix1 d) : EReal) := by
  funext d
  have e : (iblk m c 7 t (ix2 (0 : Fin 1) d) : EReal) = (V m c main_v91 : FVec Ideal S1x128 .f32) (ix2 (0 : Fin 1) d) := by
    blk_ext [iblk, idx t]
  refine e.trans ((congrFun (kGains_eq m c) _).trans ?_)
  pointwise

variable (c : Dev nD)
  (hc : ∀ (b h : Fin 8) (x : Fin 256) (d : Fin 128), IsReal (ckOf m c (ix5 b (0 : Fin 2) h x d)))
  (hb : ∀ (h : Fin 8) (i : Fin 15) (j : Fin 31), IsReal (rpbOf m c (ix4 (0 : Fin 2) h i j)))
  (hq : ∀ d, IsReal (qgOf m c (ix1 d))) (hk : ∀ d, IsReal (kgOf m c (ix1 d)))

/-- A block's attention as the attention of its sample and head over all the sample's tokens. -/
theorem block_attend (t : Fin cfg0.N) (r : Fin 1024) (d : Fin 128) :
    (out0_8 (iblk m c 0 t) (iblk m c 1 t) (iblk m c 2 t) (iblk m c 3 t) (iblk m c 4 t) (iblk m c 5 t) (iblk m c 6 t) (iblk m c 7 t) (ix2 r d) : EReal)
      = attendTwo (fun y : Fin 1024 => (∑ e, query (zOf m c) (qgOf m c) (sampleOf t) (headOf t) r e
            * key (zOf m c) (kgOf m c) (sampleOf t) (headOf t) y e) * Ideal.ofBits .f32 0x3DB504F3#32
          + biasTable (rpbOf m c) (ix3 (headOf t) r y)) (fun y => value (zOf m c) (sampleOf t) (headOf t) y d)
          (ctxLogit (zOf m c) (ckOf m c) (qgOf m c) (sampleOf t) (headOf t) r)
          (fun x => cvOf m c (ix5 (sampleOf t) (0 : Fin 2) (headOf t) x d)) := by
  refine (out8_at _ _ _ _ _ _ _ _ r d).trans ?_
  rw [block_v]
  simp only [block_q, block_k, gains_q, gains_k, block_ck, block_cv, block_bias]
  rfl

include hc hb hq hk in
/-- The result after the run is the reference's. -/
theorem final8 : (dats m 0 c).arrAt 8 cfg0.N
    = val_main_v126 (F := Ideal) (zOf m c) (ckOf m c) (cvOf m c) (rpbOf m c) (qgOf m c) (kgOf m c) := by
  refine (dats m 0 c).arrAt_eq_of_covers 8 _ (by decide +kernel) fun t _ y => ?_
  blk_simp
  rw [after0_8]
  idx_vars y
  have hp := point_lt t
  have e0 : ∀ y, ((((cfg0.win 8).blk t).view.emb y) 0 : ℕ) = t.val % 8 * 1024 + (y 0).val := fun y => by blk_simp [idx t]
  have e1 : ∀ y, ((((cfg0.win 8).blk t).view.emb y) 1 : ℕ) = t.val / 8 * 128 + (y 1).val := fun y => by blk_simp [idx t]
  refine (block_attend m c t y0 y1).trans ((attend_window _ _ _ _ _ _ hc hb hq hk _ _ _ _).trans
    (result_at _ _ _ _ _ _ _ (sampleOf t) (headOf t) y0 y1 ?_ ?_).symm)
  · exact e0 _
  · exact e1 _

end Cert.NaAttention

end
-- ==== Proof.NaClaims.lean ====
/- The claims about the neighbourhood attention. -/
module

public import proofs.«01_k».proof.Proof.NaKernelValue
public import proofs.«01_k».proof.Defs
public import proofs.«01_k».proof.Proof.Gen.ReferenceIdeal.Run
public import proofs.«01_k».proof.Proof.Gen.Kernel.Frame
public import proofs.«01_k».proof.Proof.Gen.Pre_finite_keys
public import Idealize.ShloMosaic.Lib.Quiescent

@[expose] public section

set_option maxRecDepth 16384

noncomputable section

open Idealize.ShloMosaic Idealize.ShloMosaic.TcCoe Idealize.SL.Sem

namespace Cert.NaAttention

open Cert.Attention

/-- The precondition read at an element: the cached keys, the biases and the gains are real. -/
theorem keys_real {z : FVec Ideal Cert.KernelIdeal.S16384x12288 .f32} {ck cv : FVec Ideal Cert.KernelIdeal.S8x2x8x256x128 .f32}
    {rpb : FVec Ideal Cert.KernelIdeal.S2x8x15x31 .f32} {qg kg : FVec Ideal Cert.KernelIdeal.S128 .f32}
    (h : (Pre_finite_keys.fn (F := Ideal) z ck cv rpb qg kg).1 = (fun _ => 1#1)
      ∧ (Pre_finite_keys.fn (F := Ideal) z ck cv rpb qg kg).2.1 = (fun _ => 1#1)
      ∧ (Pre_finite_keys.fn (F := Ideal) z ck cv rpb qg kg).2.2.1 = (fun _ => 1#1)
      ∧ (Pre_finite_keys.fn (F := Ideal) z ck cv rpb qg kg).2.2.2 = (fun _ => 1#1)) :
    (∀ (b h : Fin 8) (x : Fin 256) (d : Fin 128), IsReal (ck (ix5 b (0 : Fin 2) h x d)))
      ∧ (∀ (h : Fin 8) (i : Fin 15) (j : Fin 31), IsReal (rpb (ix4 (0 : Fin 2) h i j)))
      ∧ (∀ d, IsReal (qg (ix1 d))) ∧ ∀ d, IsReal (kg (ix1 d)) := by
  refine ⟨fun b h' x d => ?_, fun h' i j => ?_, fun d => ?_, fun d => ?_⟩
  · have e := congrFun h.1 (ix5 b (0 : Fin 2) h' x d)
    pointwise [Pre_finite_keys.fn] at e
    exact isReal_of_lt_inf e
  · have e := congrFun h.2.1 (ix4 (0 : Fin 2) h' i j)
    pointwise [Pre_finite_keys.fn] at e
    exact isReal_of_lt_inf e
  · have e := congrFun h.2.2.1 (ix1 d)
    pointwise [Pre_finite_keys.fn] at e
    exact isReal_of_lt_inf e
  · have e := congrFun h.2.2.2 (ix1 d)
    pointwise [Pre_finite_keys.fn] at e
    exact isReal_of_lt_inf e

/-- The neighbourhood attention's reference ends without a fault and leaves its arguments. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Where the cached keys, the biases and the gains are finite, kernel and reference leave the same attention. -/
theorem algebraic : Cert.algebraic_KernelIdeal_ReferenceIdeal_pre_finite_keys := by
  intro m g m' g' hpre hagree
  refine ⟨fun c => _, Cert.KernelIdeal.Value.run_blocks m g, ?_⟩
  refine (θ_run Cert.ReferenceIdeal.defs _ _).mono (fun r h c => ?_) (Cert.ReferenceIdeal.Value.run (F := Ideal) m' g')
  obtain ⟨h0, h1⟩ := h c
  obtain ⟨hc, hb, hq, hk⟩ := keys_real (hpre c)
  obtain ⟨e0, e1, e2, e3, e4, e5⟩ := hagree c
  refine ⟨h0.trans ?_, h1⟩
  rw [Cert.ReferenceIdeal.Read.val_main_v126_eq m' c, e0, e1, e2, e3, e4, e5]
  exact (final8 m c hc hb hq hk).symm

end Cert.NaAttention
end
-- ==== Proof.CtxKernelBlock.lean ====
/- What one grid point of the context attention kernel leaves in its three output blocks. -/
module

public import proofs.«01_k».proof.Proof.Attention
public import proofs.«01_k».proof.Proof.Gen.CtxKernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.CtxAttention

open Cert.CtxKernelIdeal Cert.CtxKernelIdeal.Gen Cert.Attention

/-- Row `r` of a block, its half `h` of the lanes: one head of one token. -/
def half (x : FVec Ideal S256x256 .f32) (h : Fin 2) (r : Fin 256) (d : Fin 128) : EReal :=
  x (ix2 r (⟨h.val * 128 + d.val, by omega⟩ : Fin 256))

/-- The gains, lane by lane. -/
def gains (g : FVec Ideal S1x128 .f32) (d : Fin 128) : EReal := g (ix2 (0 : Fin 1) d)

/-- The logits of half `h` of the query block against the key block. -/
def blockLogit (xq xk : FVec Ideal S256x256 .f32) (gq gk : FVec Ideal S1x128 .f32) (h : Fin 2) (r x : Fin 256) : EReal :=
  (∑ d, headNorm (half xq h r) (gains gq) d * headNorm (half xk h x) (gains gk) d) * Ideal.ofBits .f32 0x3DB504F3#32

section Payloads

variable (v w u : FVec Ideal S256x128 .f32) (g : FVec Ideal S1x128 .f32)

/-- The head norm of the first half's queries. -/
theorem pay2_at (r : Fin 256) (d : Fin 128) :
    (k0_pay2 (F := Ideal) v g (ix2 r d) : EReal) = headNorm (fun d => v (ix2 r d)) (gains g) d := by
  pointwise [k0_pay2]; rfl

/-- The head norm of the first half's keys. -/
theorem pay3_at (r : Fin 256) (d : Fin 128) :
    (k0_pay3 (F := Ideal) v g (ix2 r d) : EReal) = headNorm (fun d => v (ix2 r d)) (gains g) d := by
  pointwise [k0_pay3]; rfl

/-- The head norm of the second half's queries. -/
theorem pay7_at (r : Fin 256) (d : Fin 128) :
    (k0_pay7 (F := Ideal) v g (ix2 r d) : EReal) = headNorm (fun d => v (ix2 r d)) (gains g) d := by
  pointwise [k0_pay7]; rfl

/-- The head norm of the second half's keys. -/
theorem pay8_at (r : Fin 256) (d : Fin 128) :
    (k0_pay8 (F := Ideal) v g (ix2 r d) : EReal) = headNorm (fun d => v (ix2 r d)) (gains g) d := by
  pointwise [k0_pay8]; rfl

/-- The first half's attention from normed queries and keys. -/
theorem pay6_at (r : Fin 256) (d : Fin 128) :
    (k0_pay6 (F := Ideal) v w u (ix2 r d) : EReal)
      = attendAfter (fun x : Fin 256 => (∑ e : Fin 128, (v (ix2 r e) : EReal) * w (ix2 x e)) * Ideal.ofBits .f32 0x3DB504F3#32)
          (fun x => u (ix2 x d)) := by
  pointwise [k0_pay6]
  rw [lit_ninf]
  rfl

/-- The second half's attention from normed queries and raw keys. -/
theorem pay1_at (r : Fin 256) (d : Fin 128) :
    (k0_pay1 (F := Ideal) (k0_pay12 v w g u) (k0_pay13 v w g) (ix2 r d) : EReal)
      = attendAfter (fun x : Fin 256 => (∑ e : Fin 128, (v (ix2 r e) : EReal) * k0_pay8 (F := Ideal) w g (ix2 x e)) * Ideal.ofBits .f32 0x3DB504F3#32)
          (fun x => u (ix2 x d)) := by
  pointwise [k0_pay1, k0_pay12, k0_pay13, k0_pay11]
  rw [lit_ninf]
  rfl

end Payloads

variable (xq xk xv : FVec Ideal S256x256 .f32) (gq gk : FVec Ideal S1x128 .f32)

/-- Loading the first half of the lanes. -/
theorem load_half0 (X : Vec Ideal S256x256 .f32) (r : Fin 256) (d : Fin 128) :
    (View.ld X r0_0 : Vec Ideal S256x128 .f32) (ix2 r d) = half X 0 r d := by
  unfold half; pointwise; blk_ext

/-- Loading the second half of the lanes. -/
theorem load_half1 (X : Vec Ideal S256x256 .f32) (r : Fin 256) (d : Fin 128) :
    (View.ld X r0_3 : Vec Ideal S256x128 .f32) (ix2 r d) = half X 1 r d := by
  unfold half; pointwise; blk_ext

/-- Loading the gains. -/
theorem load_gains (g : Vec Ideal S1x128 .f32) : gains (View.ld g r0_1 : Vec Ideal S1x128 .f32) = gains g := by
  funext d; unfold gains; pointwise; blk_ext

/-- The attention block. -/
theorem out5_at (h : Fin 2) (r : Fin 256) (d : Fin 128) :
    (out0_5 (F := Ideal) xq xk xv gq gk (ix2 r (⟨h.val * 128 + d.val, by omega⟩ : Fin 256)) : EReal)
      = attendAfter (blockLogit xq xk gq gk h r) (fun x => half xv h x d) := by
  unfold out0_5
  canon_tiles x h
  · obtain rfl : h = 1 := by simp at h1; omega
    obtain rfl : x = ix2 r d := by
      funext a; match a with
      | 0 => exact Fin.ext h0.symm
      | 1 => exact Fin.ext (by simp at h1; show (x 1).val = d.val; omega)
    refine (pay1_at _ _ _ _ r d).trans ?_
    unfold k0_pay14
    simp only [pay7_at, pay8_at, load_gains]
    exact congrArg₂ attendAfter (funext fun x => congrArg (· * _) (Finset.sum_congr rfl fun e _ => congrArg₂ (· * ·)
      (congrFun (congrArg (headNorm · _) (funext (load_half1 xq r))) e)
      (congrFun (congrArg (headNorm · _) (funext (load_half1 xk x))) e))) (funext fun x => load_half1 xv x d)
  · obtain rfl : h = 0 := by simp at h1; omega
    obtain rfl : x = ix2 r d := by
      funext a; match a with
      | 0 => exact Fin.ext h0.symm
      | 1 => exact Fin.ext (by simp at h1; show (x 1).val = d.val; omega)
    refine (pay6_at _ _ _ r d).trans ?_
    simp only [pay2_at, pay3_at, load_gains]
    exact congrArg₂ attendAfter (funext fun x => congrArg (· * _) (Finset.sum_congr rfl fun e _ => congrArg₂ (· * ·)
      (congrFun (congrArg (headNorm · _) (funext (load_half0 xq r))) e)
      (congrFun (congrArg (headNorm · _) (funext (load_half0 xk x))) e))) (funext fun x => load_half0 xv x d)

/-- The key block. -/
theorem out6_at (a b : Fin 1) (h : Fin 2) (r : Fin 256) (d : Fin 128) :
    (out0_6 (F := Ideal) xq xk xv gq gk (ix5 a b h r d) : EReal) = headNorm (half xk h r) (gains gk) d := by
  unfold out0_6
  canon_tiles x h
  · obtain rfl : h = 1 := by simp at h2; omega
    obtain rfl : r = x 3 := Fin.ext h3
    obtain rfl : d = x 4 := Fin.ext h4
    pointwise [k0_pay9]
    refine (pay8_at _ _ _ _).trans ?_
    simp only [load_gains]
    exact congrFun (congrArg (headNorm · _) (funext (load_half1 xk _))) _
  · obtain rfl : h = 0 := by simp at h2; omega
    obtain rfl : r = x 3 := Fin.ext h3
    obtain rfl : d = x 4 := Fin.ext h4
    pointwise [k0_pay4]
    refine (pay3_at _ _ _ _).trans ?_
    simp only [load_gains]
    exact congrFun (congrArg (headNorm · _) (funext (load_half0 xk _))) _

/-- The value block. -/
theorem out7_at (a b : Fin 1) (h : Fin 2) (r : Fin 256) (d : Fin 128) :
    (out0_7 (F := Ideal) xq xk xv gq gk (ix5 a b h r d) : EReal) = half xv h r d := by
  unfold out0_7
  canon_tiles x h
  · obtain rfl : h = 1 := by simp at h2; omega
    obtain rfl : r = x 3 := Fin.ext h3
    obtain rfl : d = x 4 := Fin.ext h4
    pointwise [k0_pay10]
    unfold half; blk_ext
  · obtain rfl : h = 0 := by simp at h2; omega
    obtain rfl : r = x 3 := Fin.ext h3
    obtain rfl : d = x 4 := Fin.ext h4
    pointwise [k0_pay5]
    unfold half; blk_ext

end Cert.CtxAttention
end
-- ==== Proof.CtxReference.lean ====
/- The context attention's reference, read index by index. -/
module

public import proofs.«01_k».proof.Proof.Attention
public import proofs.«01_k».proof.Proof.Gen.CtxReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.CtxAttention

open Cert.CtxReferenceIdeal Cert.CtxReferenceIdeal.Gen Cert.CtxReferenceIdeal.Read Cert.Attention

variable (z : FVec Ideal S16384x12288 .f32) (qg kg : FVec Ideal S128 .f32)

/-- Row `r` of prompt `b`, columns `off + 128 h …` of `z`: one head of one token. -/
def head (off : ℕ) (hoff : off + 1024 ≤ 12288) (b : Fin 32) (h : Fin 8) (r : Fin 256) (d : Fin 128) : EReal :=
  z (ix2 (⟨b.val * 256 + r.val, by omega⟩ : Fin 16384) (⟨off + (h.val * 128 + d.val), by omega⟩ : Fin 12288))

/-- The normed query of prompt `b`, head `h`, token `r`. -/
def query (b : Fin 32) (h : Fin 8) (r : Fin 256) : Fin 128 → EReal :=
  headNorm (head z 5120 (by omega) b h r) fun d => qg (ix1 d)

/-- The normed key of prompt `b`, head `h`, token `r`. -/
def key (b : Fin 32) (h : Fin 8) (r : Fin 256) : Fin 128 → EReal :=
  headNorm (head z 6144 (by omega) b h r) fun d => kg (ix1 d)

/-- The value of prompt `b`, head `h`, token `r`. -/
def value (b : Fin 32) (h : Fin 8) (r : Fin 256) : Fin 128 → EReal := head z 7168 (by omega) b h r

/-- The scaled logit of token `r` against token `x`. -/
def logit (b : Fin 32) (h : Fin 8) (r x : Fin 256) : EReal :=
  (∑ d, query z qg b h r d * key z kg b h x d) * Ideal.ofBits .f32 0x3DB504F3#32

/-- The reference's normed queries. -/
theorem query_at (b : Fin 32) (h : Fin 8) (r : Fin 256) (d : Fin 128) :
    (val_main_v19 (F := Ideal) z qg (ix4 b h r d) : EReal) = query z qg b h r d := by
  pointwise [val_main_v19, val_main_v18, val_main_v17, val_main_v16, val_main_v15, val_main_v14, val_main_v13,
    val_main_v12, val_main_v11, val_main_v10, val_main_v9, val_main_v8, val_main_v7, val_main_v6, val_main_v5,
    val_main_v2, val_main_v1, val_main_v0, val_main_cst, val_main_cst_0, val_main_cst_1]
  rfl

/-- The reference's normed keys. -/
theorem key_at (b : Fin 32) (h : Fin 8) (r : Fin 256) (d : Fin 128) :
    (val_main_v34 (F := Ideal) z kg (ix4 b h r d) : EReal) = key z kg b h r d := by
  pointwise [val_main_v34, val_main_v33, val_main_v32, val_main_v31, val_main_v30, val_main_v29, val_main_v28,
    val_main_v27, val_main_v26, val_main_v25, val_main_v24, val_main_v23, val_main_v22, val_main_v21, val_main_v20,
    val_main_v3, val_main_v1, val_main_v0, val_main_cst_2, val_main_cst_3, val_main_cst_4]
  rfl

/-- The reference's values. -/
theorem value_at (b : Fin 32) (h : Fin 8) (r : Fin 256) (d : Fin 128) :
    (val_main_v36 (F := Ideal) z (ix4 b h r d) : EReal) = value z b h r d := by
  pointwise [val_main_v36, val_main_v35, val_main_v4, val_main_v1, val_main_v0]
  rfl

/-- The reference's scaled logits. -/
theorem logit_at (b : Fin 32) (h : Fin 8) (r x : Fin 256) :
    (val_main_v39 (F := Ideal) z qg kg (ix4 b h r x) : EReal) = logit z qg kg b h r x := by
  pointwise [val_main_v39, val_main_v38, val_main_v37, val_main_cst_5]
  unfold logit
  congr 1
  exact Finset.sum_congr rfl fun d _ => congrArg₂ (· * ·) (query_at z qg b h r d) (key_at z kg b h x d)

/-- The maximum along the last of four axes, read at an index. -/
theorem hostMax_last4 {n0 n1 n2 n3 : ℕ} {u : Shape} (h : (⟨4, ![n0, n1, n2, n3]⟩ : Shape).ReducesTo [3] ⟨3, ![n0, n1, n2]⟩)
    (hu : 0 < u.numel) (x : FVec Ideal ⟨4, ![n0, n1, n2, n3]⟩ .f32) (init : FVec Ideal u .f32) (a : Fin n0) (b : Fin n1) (c : Fin n2) :
    Host.reduce FloatOps.maximumf x init h hu (ix3 a b c)
      = Finset.univ.fold max (init (Shape.Idx.first hu) : EReal) (fun k : Fin n3 => (x (ix4 a b c k) : EReal)) := by
  rw [Host.reduce_eq_fold, Shape.ReducesTo.fold_fiber_r4_a3]
  rfl

/-- The reference's row maxima. -/
theorem top_at (b : Fin 32) (h : Fin 8) (r : Fin 256) :
    (val_main_v42 (F := Ideal) z qg kg (ix3 b h r) : EReal) = top (logit z qg kg b h r) := by
  rw [val_main_v42_apply, val_main_v41_apply, val_main_cst_7_apply]
  unfold val_main_v40
  rw [hostMax_last4, val_main_cst_6_apply, funext fun x => logit_at z qg kg b h r x, Ideal.maximumf_eq_max,
    Ideal.ofBits_def, lit_ninf, max_eq_right bot_le]
  rfl

/-- The reference's unnormalised weights. -/
theorem weight_at (b : Fin 32) (h : Fin 8) (r x : Fin 256) :
    (val_main_v46 (F := Ideal) z qg kg (ix4 b h r x) : EReal)
      = Ideal.exp (logit z qg kg b h r x - top (logit z qg kg b h r)) := by
  pointwise [val_main_v46, val_main_v45, val_main_v44, val_main_v43]
  exact congrArg Ideal.exp (congrArg₂ (· - ·) (logit_at z qg kg b h r x) (top_at z qg kg b h r))

/-- The reference's total weights. -/
theorem total_at (b : Fin 32) (h : Fin 8) (r : Fin 256) :
    (val_main_v47 (F := Ideal) z qg kg (ix3 b h r) : EReal)
      = ∑ x, Ideal.exp (logit z qg kg b h r x - top (logit z qg kg b h r)) := by
  pointwise [val_main_v47, val_main_cst_8]
  exact Finset.sum_congr rfl fun x _ => weight_at z qg kg b h r x

/-- The reference's attention, head by head. -/
theorem attend_at (b : Fin 32) (h : Fin 8) (r : Fin 256) (d : Fin 128) :
    (val_main_v51 (F := Ideal) z qg kg (ix4 b h r d) : EReal)
      = attend (logit z qg kg b h r) fun x => value z b h x d := by
  pointwise [val_main_v51, val_main_v50, val_main_v49, val_main_v48]
  exact Finset.sum_congr rfl fun x _ => congrArg₂ (· * ·)
    (congrArg₂ Ideal.div (weight_at z qg kg b h r x) (total_at z qg kg b h r)) (value_at z b h x d)

/-- The reference's first result. -/
theorem result0_at (i : S8192x1024.Idx) :
    (val_main_v55 (F := Ideal) z qg kg i : EReal)
      = attend (logit z qg kg (⟨(i 0).val / 256, by have := (i 0).isLt; show _ < 32; simp at this; omega⟩ : Fin 32)
          (⟨(i 1).val / 128, by have := (i 1).isLt; simp at this; omega⟩ : Fin 8) (⟨(i 0).val % 256, by omega⟩ : Fin 256))
        fun x => value z (⟨(i 0).val / 256, by have := (i 0).isLt; simp at this; omega⟩ : Fin 32)
          (⟨(i 1).val / 128, by have := (i 1).isLt; simp at this; omega⟩ : Fin 8) x (⟨(i 1).val % 128, by omega⟩ : Fin 128) := by
  pointwise [val_main_v55, val_main_v54, val_main_v53, val_main_v52]
  exact attend_at z qg kg _ _ _ _

/-- The reference's second result: the normed keys. -/
theorem result1_at (b : Fin 32) (u : Fin 1) (h : Fin 8) (r : Fin 256) (d : Fin 128) :
    (val_main_v56 (F := Ideal) z kg (ix5 b u h r d) : EReal) = key z kg b h r d := by
  pointwise [val_main_v56]
  exact key_at z kg b h r d

/-- The reference's third result: the values. -/
theorem result2_at (b : Fin 32) (u : Fin 1) (h : Fin 8) (r : Fin 256) (d : Fin 128) :
    (val_main_v57 (F := Ideal) z (ix5 b u h r d) : EReal) = value z b h r d := by
  pointwise [val_main_v57]
  exact value_at z b h r d

end Cert.CtxAttention
end
-- ==== Proof.CtxKernelValue.lean ====
/- The context attention kernel's three result arrays, as the reference's functions of the arguments. -/
module

public import proofs.«01_k».proof.Proof.CtxKernelBlock
public import proofs.«01_k».proof.Proof.CtxReference
public import proofs.«01_k».proof.Proof.Gen.CtxKernelIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxAttention

open Cert.CtxKernelIdeal Cert.CtxKernelIdeal.Gen Cert.Attention
open Cert.CtxReferenceIdeal.Read (val_main_v55 val_main_v56 val_main_v57)

variable (m : (ℓ : Loc nD τ sig) → Buf (Elt Ideal) ℓ)

/-- Every window's block index at a grid point: point `t` is prompt `t / 4`, heads `2 (t % 4)` and the next. -/
theorem idx : ∀ t : Fin cfg0.N, win0_0.index t = ![t.val / 4, 20 + t.val % 4] ∧ win0_1.index t = ![t.val / 4, 24 + t.val % 4]
    ∧ win0_2.index t = ![t.val / 4, 28 + t.val % 4] ∧ win0_3.index t = ![0, 0] ∧ win0_4.index t = ![0, 0]
    ∧ win0_5.index t = ![t.val / 4, t.val % 4] ∧ win0_6.index t = ![t.val / 4, 0, t.val % 4, 0, 0]
    ∧ win0_7.index t = ![t.val / 4, 0, t.val % 4, 0, 0] :=
  (by decide +kernel : ∀ t : Fin grid0.N, _)

theorem point_lt (t : Fin cfg0.N) : t.val < 128 := lt_of_lt_of_eq t.isLt N_0

/-- The prompt of point `t`. -/
def prompt (t : Fin cfg0.N) : Fin 32 := ⟨t.val / 4, by have := point_lt t; omega⟩

/-- The head of half `h` at point `t`. -/
def headOf (t : Fin cfg0.N) (h : Fin 2) : Fin 8 := ⟨t.val % 4 * 2 + h.val, by omega⟩

abbrev zOf (c : Dev nD) : FVec Ideal S16384x12288 .f32 := m ((c : Thread nD τ).loc main_arg0)
abbrev qgOf (c : Dev nD) : FVec Ideal S128 .f32 := m ((c : Thread nD τ).loc main_arg1)
abbrev kgOf (c : Dev nD) : FVec Ideal S128 .f32 := m ((c : Thread nD τ).loc main_arg2)

/-- Half `h` of the query block is one head of the prompt's queries. -/
theorem half_q (c : Dev nD) (t : Fin cfg0.N) (h : Fin 2) (r : Fin 256) :
    half (iblk m c 0 t) h r = head (zOf m c) 5120 (by omega) (prompt t) (headOf t h) r := by
  funext d; unfold half head prompt headOf; blk_ext [iblk, V, idx t]

/-- Half `h` of the key block is one head of the prompt's keys. -/
theorem half_k (c : Dev nD) (t : Fin cfg0.N) (h : Fin 2) (r : Fin 256) :
    half (iblk m c 1 t) h r = head (zOf m c) 6144 (by omega) (prompt t) (headOf t h) r := by
  funext d; unfold half head prompt headOf; blk_ext [iblk, V, idx t]

/-- Half `h` of the value block is one head of the prompt's values. -/
theorem half_v (c : Dev nD) (t : Fin cfg0.N) (h : Fin 2) (r : Fin 256) :
    half (iblk m c 2 t) h r = head (zOf m c) 7168 (by omega) (prompt t) (headOf t h) r := by
  funext d; unfold half head prompt headOf; blk_ext [iblk, V, idx t]

/-- The same, as columns of values. -/
theorem half_v' (c : Dev nD) (t : Fin cfg0.N) (h : Fin 2) (d : Fin 128) :
    (fun x => half (iblk m c 2 t) h x d) = fun x => value (zOf m c) (prompt t) (headOf t h) x d := by
  funext x; rw [half_v]; rfl

/-- The query gains' block is the argument. -/
theorem gains_q (c : Dev nD) (t : Fin cfg0.N) : gains (iblk m c 3 t) = fun d => (qgOf m c (ix1 d) : EReal) := by
  funext d; unfold gains; blk_simp [iblk, idx t]; entry_read; pointwise; blk_ext [idx t]

/-- The key gains' block is the argument. -/
theorem gains_k (c : Dev nD) (t : Fin cfg0.N) : gains (iblk m c 4 t) = fun d => (kgOf m c (ix1 d) : EReal) := by
  funext d; unfold gains; blk_simp [iblk, idx t]; entry_read; pointwise; blk_ext [idx t]

/-- The logits of a block are the reference's. -/
theorem blockLogit_eq (c : Dev nD) (t : Fin cfg0.N) (h : Fin 2) (r : Fin 256) :
    blockLogit (iblk m c 0 t) (iblk m c 1 t) (iblk m c 3 t) (iblk m c 4 t) h r
      = logit (zOf m c) (qgOf m c) (kgOf m c) (prompt t) (headOf t h) r := by
  funext x; unfold blockLogit logit query key; rw [half_q, half_k, gains_q, gains_k]

variable (c : Dev nD) (hq : ∀ d, IsReal (qgOf m c (ix1 d))) (hk : ∀ d, IsReal (kgOf m c (ix1 d)))

include hq hk in
/-- With real gains every logit is real. -/
theorem isReal_logit_at (b : Fin 32) (h : Fin 8) (r x : Fin 256) : IsReal (logit (zOf m c) (qgOf m c) (kgOf m c) b h r x) :=
  isReal_logit (isReal_headNorm _ hq) (isReal_headNorm _ hk)

include hq hk in
/-- The attention result after the run is the reference's. -/
theorem final5 : (dats m 0 c).arrAt 5 cfg0.N = val_main_v55 (F := Ideal) (zOf m c) (qgOf m c) (kgOf m c) := by
  refine (dats m 0 c).arrAt_eq_of_covers 5 _ (by decide +kernel) fun t _ y => ?_
  blk_simp
  rw [after0_5]
  idx_vars y
  obtain ⟨h, d, rfl⟩ : ∃ (h : Fin 2) (d : Fin 128), y1 = (⟨h.val * 128 + d.val, by omega⟩ : Fin 256) :=
    ⟨⟨y1.val / 128, by omega⟩, ⟨y1.val % 128, by omega⟩, Fin.ext (by simp; omega)⟩
  refine (out5_at _ _ _ _ _ h y0 d).trans (Eq.trans ?_ (result0_at _ _ _ _).symm)
  rw [blockLogit_eq, attendAfter_eq (i₀ := 0) _ (fun i => (isReal_logit_at m c hq hk _ _ _ i).ne_top) (isReal_logit_at m c hq hk _ _ _ _), half_v']
  have e (b b' : Fin 32) (h h' : Fin 8) (r r' : Fin 256) (d d' : Fin 128) (hb : b = b') (hh : h = h') (hr : r = r') (hd : d = d') :
      attend (logit (zOf m c) (qgOf m c) (kgOf m c) b h r) (fun x => value (zOf m c) b h x d)
        = attend (logit (zOf m c) (qgOf m c) (kgOf m c) b' h' r') (fun x => value (zOf m c) b' h' x d') := by
    subst hb hh hr hd; rfl
  have hp := point_lt t
  have e0 : ∀ y, ((((cfg0.win 5).blk t).view.emb y) 0 : ℕ) = t.val / 4 * 256 + (y 0).val := fun y => by blk_simp [idx t]
  have e1 : ∀ y, ((((cfg0.win 5).blk t).view.emb y) 1 : ℕ) = t.val % 4 * 256 + (y 1).val := fun y => by blk_simp [idx t]
  refine e _ _ _ _ _ _ _ _ (Fin.ext ?_) (Fin.ext ?_) (Fin.ext ?_) (Fin.ext ?_) <;>
    simp only [e0, e1, prompt, headOf]
  · show t.val / 4 = (t.val / 4 * 256 + y0.val) / 256; omega
  · show t.val % 4 * 2 + h.val = (t.val % 4 * 256 + (h.val * 128 + d.val)) / 128; omega
  · show y0.val = (t.val / 4 * 256 + y0.val) % 256; omega
  · show d.val = (t.val % 4 * 256 + (h.val * 128 + d.val)) % 128; omega

/-- The key cache after the run is the reference's. -/
theorem final6 : (dats m 0 c).arrAt 6 cfg0.N = val_main_v56 (F := Ideal) (zOf m c) (kgOf m c) := by
  refine (dats m 0 c).arrAt_eq_of_covers 6 _ (by decide +kernel) fun t _ y => ?_
  blk_simp
  rw [after0_6]
  idx_vars y
  refine (out6_at _ _ _ _ _ y0 y1 y2 y3 y4).trans ?_
  rw [half_k, gains_k]
  refine (result1_at (zOf m c) (kgOf m c) (prompt t) 0 (headOf t y2) y3 y4).symm.trans ?_
  unfold prompt headOf
  blk_ext [idx t]

/-- The value cache after the run is the reference's. -/
theorem final7 : (dats m 0 c).arrAt 7 cfg0.N = val_main_v57 (F := Ideal) (zOf m c) := by
  refine (dats m 0 c).arrAt_eq_of_covers 7 _ (by decide +kernel) fun t _ y => ?_
  blk_simp
  rw [after0_7]
  idx_vars y
  refine (out7_at _ _ _ _ _ y0 y1 y2 y3 y4).trans ?_
  rw [half_v]
  refine (result2_at (zOf m c) (prompt t) 0 (headOf t y2) y3 y4).symm.trans ?_
  unfold prompt headOf
  blk_ext [idx t]

end Cert.CtxAttention
end
-- ==== Proof.CtxClaims.lean ====
/- The claims about the context attention. -/
module

public import proofs.«01_k».proof.Proof.CtxKernelValue
public import proofs.«01_k».proof.Defs
public import proofs.«01_k».proof.Proof.Gen.CtxReferenceIdeal.Run
public import proofs.«01_k».proof.Proof.Gen.CtxKernel.Frame
public import proofs.«01_k».proof.Proof.Gen.Pre_finite_gains
public import Idealize.ShloMosaic.Lib.Quiescent

@[expose] public section

set_option maxRecDepth 16384

noncomputable section

open Idealize.ShloMosaic Idealize.ShloMosaic.TcCoe Idealize.SL.Sem

namespace Cert.CtxAttention

open Cert.Attention

/-- The precondition read at an element: both gain vectors are real. -/
theorem gains_real {z : FVec Ideal Cert.CtxKernelIdeal.S16384x12288 .f32} {qg kg : FVec Ideal Cert.CtxKernelIdeal.S128 .f32}
    (h : (Pre_finite_gains.fn (F := Ideal) z qg kg).1 = (fun _ => 1#1) ∧ (Pre_finite_gains.fn (F := Ideal) z qg kg).2 = (fun _ => 1#1)) :
    (∀ d, IsReal (qg (ix1 d))) ∧ ∀ d, IsReal (kg (ix1 d)) := by
  refine ⟨fun d => ?_, fun d => ?_⟩
  · have e := congrFun h.1 (ix1 d)
    pointwise [Pre_finite_gains.fn] at e
    exact isReal_of_lt_inf e
  · have e := congrFun h.2 (ix1 d)
    pointwise [Pre_finite_gains.fn] at e
    exact isReal_of_lt_inf e

/-- The context attention's reference ends without a fault and leaves its arguments. -/
theorem frame_reference : Cert.quiescent_CtxReferenceIdeal := fun m ρ _ =>
  (θ_run Cert.CtxReferenceIdeal.defs _ _).mono (fun r h => ⟨fun c => ⟨(h c).2.2.2.1, (h c).2.2.2.2.1, (h c).2.2.2.2.2⟩,
      Idealize.ShloMosaic.sem_eq_zero_of_no_sems (by decide) r.2⟩)
    (Cert.CtxReferenceIdeal.Value.run (F := Ideal) m ρ)

/-- Where the gains are finite, kernel and reference leave the same attention, keys and values. -/
theorem algebraic : Cert.algebraic_CtxKernelIdeal_CtxReferenceIdeal_pre_finite_gains := by
  intro m g m' g' hpre hagree
  refine ⟨fun c => _, fun c => _, fun c => _, Cert.CtxKernelIdeal.Value.run_blocks m g, ?_⟩
  refine (θ_run Cert.CtxReferenceIdeal.defs _ _).mono (fun r h c => ?_) (Cert.CtxReferenceIdeal.Value.run (F := Ideal) m' g')
  obtain ⟨h0, h1, h2, h3⟩ := h c
  obtain ⟨hq, hk⟩ := gains_real (hpre c)
  obtain ⟨e0, e1, e2⟩ := hagree c
  refine ⟨h0.trans ?_, h1.trans ((Cert.CtxReferenceIdeal.Read.val_main_v56_eq _ _).trans ?_),
    h2.trans ((Cert.CtxReferenceIdeal.Read.val_main_v57_eq _).trans ?_), h3⟩
  · rw [Cert.CtxReferenceIdeal.Read.val_main_v55_eq m' c, e0, e1, e2]
    exact (final5 m c hq hk).symm
  · exact (congrArg₂ (Cert.CtxReferenceIdeal.Read.val_main_v56 (F := Ideal)) e0 e2).trans (final6 m c).symm
  · exact (congrArg (Cert.CtxReferenceIdeal.Read.val_main_v57 (F := Ideal)) e0).trans (final7 m c).symm

end Cert.CtxAttention
end
-- ==== Proof.MoeGather.lean ====
/- Two gathers along the first axis, read at an index. -/
module

public import proofs.«01_k».proof.Proof.NaGather

@[expose] public section

set_option maxRecDepth 16384

noncomputable section

open Idealize.ShloMosaic Idealize.ShloMosaic.TcCoe Idealize.SL.Sem

namespace Cert.Swiglu

variable {α : Type}

/-- The dimension numbers of taking, out of one axis, one entry per word of a column. -/
abbrev takeOne (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Taking out of one axis: where the word at `r` is the number `n`, the entry at `n`. -/
theorem takeOne_at {N R : ℕ} (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (r : Fin R)
    (n : Fin N) (hN : N < 2 ^ 31) (hn : idx (ix2 r (0 : Fin 1)) = BitVec.ofNat 32 n.val) :
    Host.gather (takeOne N R wf) x idx (ix1 r) = x (ix1 n) := by
  unfold Host.gather
  congr 1
  funext e
  refine Fin.ext ?_
  show (takeOne N R wf).start (ix1 r) idx e + (takeOne N R wf).batchCoord (ix1 r) e
    + (takeOne N R wf).offCoord (ix1 r) e = _
  rw [GatherDims.batchCoord_eq_zero _ _ _ List.not_mem_nil, Nat.add_zero]
  match e with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 1) ∈ (takeOne N R wf).startIndexMap from List.mem_singleton.mpr rfl)).trans ?_
    have hsi : (takeOne N R wf).siIdx (ix1 r) ⟨List.idxOf (0 : Fin 1) (takeOne N R wf).startIndexMap,
        List.idxOf_lt_length_iff.2 (List.mem_singleton.mpr rfl)⟩ = ix2 r (0 : Fin 1) := by
      funext f; refine Fin.ext ?_
      match f with
      | ⟨0, _⟩ => rfl
      | ⟨1, _⟩ => rfl
    exact (congrArg (fun w : BitVec 32 => min w.toInt.toNat (N - 1)) ((congrArg idx hsi).trans hn)).trans (Cert.NaAttention.clamp_word n.isLt hN)

/-- The dimension numbers of taking, out of the first of three axes, one matrix per word of a column. -/
abbrev takeMatrix (N R A B : ℕ)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Taking out of the first of three axes: where the word at `r` is the number `n`, the matrix `n`. -/
theorem takeMatrix_at {N R A B : ℕ}
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (r : Fin R) (a : Fin A) (b : Fin B)
    (n : Fin N) (hN : N < 2 ^ 31) (hn : idx (ix2 r (0 : Fin 1)) = BitVec.ofNat 32 n.val) :
    Host.gather (takeMatrix N R A B wf) x idx (ix3 r a b) = x (ix3 n a b) := by
  unfold Host.gather
  congr 1
  funext e
  refine Fin.ext ?_
  show (takeMatrix N R A B wf).start (ix3 r a b) idx e + (takeMatrix N R A B wf).batchCoord (ix3 r a b) e
    + (takeMatrix N R A B wf).offCoord (ix3 r a b) e = _
  rw [GatherDims.batchCoord_eq_zero _ _ _ List.not_mem_nil, Nat.add_zero]
  have hs : ∀ e : Fin 3, e ≠ 0 → (takeMatrix N R A B wf).start (ix3 r a b) idx e = 0 := fun e he => by
    unfold GatherDims.start
    exact dif_neg fun h => he (List.mem_singleton.1 h)
  match e with
  | ⟨1, _⟩ => rw [hs ⟨1, by decide⟩ (by decide), Nat.zero_add]; rfl
  | ⟨2, _⟩ => rw [hs ⟨2, by decide⟩ (by decide), Nat.zero_add]; rfl
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 3) ∈ (takeMatrix N R A B wf).startIndexMap from List.mem_singleton.mpr rfl)).trans ?_
    have hsi : (takeMatrix N R A B wf).siIdx (ix3 r a b) ⟨List.idxOf (0 : Fin 3) (takeMatrix N R A B wf).startIndexMap,
        List.idxOf_lt_length_iff.2 (List.mem_singleton.mpr rfl)⟩ = ix2 r (0 : Fin 1) := by
      funext f; refine Fin.ext ?_
      match f with
      | ⟨0, _⟩ => rfl
      | ⟨1, _⟩ => rfl
    exact (congrArg (fun w : BitVec 32 => min w.toInt.toNat (N - 1)) ((congrArg idx hsi).trans hn)).trans (Cert.NaAttention.clamp_word n.isLt hN)

/-! ## The words of the tables -/

/-- The clamped place of tile `j` when `w` tiles are filled: `j`, or the last filled tile. -/
abbrev place (j : ℕ) (w : BitVec 32) : ℕ := min j (w.toNat - 1)

/-- A positive word is a number below 2³¹. -/
theorem pos_word {w : BitVec 32} (hw : 1 ≤ w.toInt) : w.toInt = w.toNat ∧ 1 ≤ w.toNat ∧ w.toNat < 2 ^ 31 := by
  have h := BitVec.toInt_eq_toNat_cond w
  have hl := w.isLt
  split at h <;> omega

/-- A positive word less one is the word of the number less one. -/
theorem sub_word {w : BitVec 32} (hw : 1 ≤ w.toInt) : (w - 1#32).toInt = ((w.toNat - 1 : ℕ) : ℤ) := by
  obtain ⟨h1, h2, h3⟩ := pos_word hw
  have e : (w - 1#32).toNat = w.toNat - 1 := by
    rw [BitVec.toNat_sub]; simp only [BitVec.toNat_ofNat]; omega
  rw [BitVec.toInt_eq_toNat_of_lt (by rw [e]; omega), e]

/-- A small number's word is the number. -/
theorem small_word {j : ℕ} (hj : j < 2 ^ 31) : (BitVec.ofNat 32 j).toInt = j := by
  have e : (BitVec.ofNat 32 j).toNat = j := by rw [BitVec.toNat_ofNat]; omega
  rw [BitVec.toInt_eq_toNat_of_lt (by rw [e]; omega), e]

/-- The smaller of a tile's number and the number of filled tiles less one. -/
theorem place_word {w : BitVec 32} (hw : 1 ≤ w.toInt) {j : ℕ} (hj : j < 72) :
    Scalar.minsi (BitVec.ofNat 32 j) (w - 1#32) = BitVec.ofNat 32 (place j w) := by
  obtain ⟨h1, h2, h3⟩ := pos_word hw
  have e1 := sub_word hw
  have e2 := small_word (j := j) (by omega)
  have e3 := small_word (j := place j w) (by unfold place; omega)
  apply BitVec.eq_of_toInt_eq
  rw [e3]
  unfold Scalar.minsi IntOp.minsi
  simp only [BitVec.slt, decide_eq_true_eq, e1, e2]
  split <;> rename_i h <;> simp only [e1, e2] <;> unfold place <;> omega

/-- A tile is filled exactly when its number is below the word. -/
theorem slt_word {w : BitVec 32} (hw : 1 ≤ w.toInt) {j : ℕ} (hj : j < 72) :
    (BitVec.ofNat 32 j).slt w = decide (j < w.toNat) := by
  obtain ⟨h1, h2, h3⟩ := pos_word hw
  rw [BitVec.slt, small_word (by omega), h1]
  simp only [Nat.cast_lt]

/-- The chunk a filled tile's step reads, and the last one at every step of a tile that is not filled. -/
theorem chunk_word {w : BitVec 32} (hw : 1 ≤ w.toInt) {j f : ℕ} (hj : j < 72) (hf : f < 7) :
    (Scalar.select (Scalar.cmpi .slt (BitVec.ofNat 32 j) w) (BitVec.ofNat 32 f) 6#32).toNat = if j < w.toNat then f else 6 := by
  have e : Scalar.cmpi .slt (BitVec.ofNat 32 j) w = BitVec.ofBool (decide (j < w.toNat)) :=
    congrArg BitVec.ofBool (slt_word hw hj)
  rw [e]
  by_cases h : j < w.toNat
  · rw [if_pos h, decide_eq_true h]
    show (BitVec.ofNat 32 f).toNat = f
    rw [BitVec.toNat_ofNat]; omega
  · rw [if_neg h, decide_eq_false h]
    rfl

/-- A number's word is not negative: taking from the end, as negative numbers would, does not happen. -/
theorem wrap_word {p : ℕ} (hp : p < 72) :
    Scalar.select (Scalar.cmpi .slt (BitVec.ofNat 32 p) 0#32) (Scalar.addi (BitVec.ofNat 32 p) 72#32) (BitVec.ofNat 32 p)
      = BitVec.ofNat 32 p := by
  have e : Scalar.cmpi .slt (BitVec.ofNat 32 p) 0#32 = BitVec.ofBool false := by
    refine congrArg BitVec.ofBool ?_
    rw [BitVec.slt, small_word (by omega), decide_eq_false_iff_not]
    show ¬ ((p : ℤ) < 0)
    omega
  rw [e]; rfl

/-- The tables in range: every tile's expert is one of the eight, and at least one tile is filled. -/
structure InRange (te : IVec ⟨1, ![72]⟩ 32) (w : BitVec 32) : Prop where
  low : ∀ j : Fin 72, 0 ≤ (te (ix1 j)).toInt
  high : ∀ j : Fin 72, (te (ix1 j)).toInt < 8
  pos : 1 ≤ w.toInt

/-- An expert's word is its number. -/
theorem InRange.expert {te : IVec ⟨1, ![72]⟩ 32} {w : BitVec 32} (h : InRange te w) (j : Fin 72) : (te (ix1 j)).toNat < 8 := by
  have h1 := h.low j
  have h2 := h.high j
  have h3 := BitVec.toInt_eq_toNat_cond (te (ix1 j))
  have hl := (te (ix1 j)).isLt
  split at h3 <;> omega

end Cert.Swiglu

end
-- ==== Proof.MoeFrameIdeal.lean ====
module

public import proofs.«01_k».proof.Proof.Gen.MoeKernelIdeal.Launch
public import proofs.«01_k».proof.Proof.Gen.MoeKernelIdeal.Skeleton
public import Idealize.ShloMosaic.Lib.Pipeline.Kit
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.Claim
public import Idealize.ShloMosaic.Lib.WordCmp

@[expose] public section

set_option maxRecDepth 16384

noncomputable section

namespace Cert.MoeKernelIdeal.Swiglu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeKernelIdeal.Gen

variable {F : FTy → Type} [FloatOps F]

/-- The propositions of the separation logic over this program's machine. -/
abbrev Res (F : FTy → Type) : Type := MT nD τ sig Unit (Elt F) ℕ (UR sig nD τ) ℕ

/-- Window 4 (result 0 (%12)) is written back at the points ≡ 6 (mod 7), at any contents of the tables (its index map reads none). -/
theorem flush0_4 (a : (pcfg0 (F := F)).Adm) : ∀ t : Fin (cfg0 a).N, ((cfg0 a).win 4).flush t = true ↔ t.val % 7 = 6 :=
  (fun t => Pipeline.Window.flushOf_reads cc0_transform_4 reads0_4 hreads0_4 0 (by decide) (by decide) (Pipeline.Window.sep_of_coord cc0_transform_4 0 0 (fun _ => rfl) (by decide)) (P := 7) (m := 6) (by decide) rfl t : ∀ t : Fin grid0.N, Pipeline.Window.flushOf grid0 true cc0_transform_4 t = true ↔ t.val % 7 = 6)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_swiglu (grid0.coords t) (Memref.whole main_v11) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S72 .i32 := Memref.whole main_v11
abbrev htbM0_0 : tbM0_0.IsWhole := Memref.isWhole_whole _
abbrev tbM0_1 : Memref sig .tc .smem S1 .i32 := Memref.whole main_arg5
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (Res F) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (Res F)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): where it is not fetched, its index has not moved. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): where it is not fetched, its index has not moved. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): where it is not fetched, its index has not moved. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): where it is not fetched, its index has not moved. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MoeKernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-- One staging buffer of output window 4, through which its contents are stated (`View.read_writes_of_cover`: the
    choice does not matter). -/
abbrev VO0_4 : View sig .tc .vmem S512x2048 .f32 := (Memref.whole cc0_stg4_0 : Memref sig .tc .vmem S512x2048 .f32).view
/-- Each window's current staging memref at point `t`, spelled as the pipeline passes it (`bodyAt0`), and its wholeness. -/
abbrev ms0_0 (hO : Ok m) (t : Fin (cfgM m hO).N) : Memref sig .tc .vmem S512x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x2048 .f32 := spec0_4.stage ((cfgM m hO).slots t 4)
abbrev hs0_4 (hO : Ok m) (t : Fin (cfgM m hO).N) : (ms0_4 m hO t).IsWhole := hstage0_4 (((cfgM m hO).slots t 4).cast nbuf0_4)

/-- The word the body loads from the second table, whose contents are `x`. -/
abbrev loaded (c : Dev nD) (x : TbBuf0 (F := F) c tbM0_1) : BitVec 32 :=
  View.readAt (Elt F) tbM0_1.view (Rect.unit ![0] S1.size inb_S1_S1_0).toLoadRect x (Shape.Idx.first (numel1_S1.symm ▸ Nat.one_pos))

/-- The number of filled tiles as the body reads it off the second table. -/
abbrev word (m : (ℓ : Loc nD τ sig) → Buf (Elt F) ℓ) : BitVec 32 := (tbl m).atD 1 ![0]

/-! ## The body's accesses and what it leaves -/

abbrev rX : Rect S512x2048 := Rect.unit (s := S512x2048) ![0, 0] S512x2048.size inb_S512x2048_S512x2048_0_0
abbrev rG : Rect S1x2048x1024 := Rect.unit (s := S1x2048x1024) ![0, 0, 0] S1x2048x1024.size inb_S1x2048x1024_S1x2048x1024_0_0_0
abbrev rD : Rect S1x1024x2048 := Rect.unit (s := S1x1024x2048) ![0, 0, 0] S1x1024x2048.size inb_S1x1024x2048_S1x1024x2048_0_0_0

/-- The result's block after a filled tile's first chunk: that chunk's product. -/
def outA (x0 : Vec F S512x2048 .f32) (x1 : Vec F S1x2048x1024 .bf16) (x2 : Vec F S1x2048x1024 .bf16) (x3 : Vec F S1x1024x2048 .bf16) : Vec F S512x2048 .f32 :=
  View.canon [⟨rX, k0_pay1 (View.ld x0 rX) (View.ld x1 rG) (View.ld x2 rG) (View.ld x3 rD)⟩]
/-- The result's block after a further chunk of a filled tile: the chunk's product added to what was there. -/
def outB (x0 : Vec F S512x2048 .f32) (x1 : Vec F S1x2048x1024 .bf16) (x2 : Vec F S1x2048x1024 .bf16) (x3 : Vec F S1x1024x2048 .bf16) (xo : Vec F S512x2048 .f32) : Vec F S512x2048 .f32 :=
  View.canon [⟨rX, k0_pay2 (View.ld x0 rX) (View.ld x1 rG) (View.ld x2 rG) (View.ld x3 rD) (View.ld xo rX)⟩]
/-- The result's block of a tile that is not filled: zeros. -/
def outC : Vec F S512x2048 .f32 := View.canon [⟨rX, k0_pay3⟩]

/-- A store of the whole block covers it. -/
theorem cover (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

/-! ## The body's triples, one for each way its conditions can fall -/

set_option maxHeartbeats 1000000 in
/-- A filled tile's first chunk. -/
theorem triple_first (c : Dev nD) (E : Set ℕ) (i : grid0.Coords) (arg4 : Memref sig .tc .vmem S512x2048 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (hc2 : k0_cond2 i = 1#1) (hc3 : ¬k0_cond3 i = 1#1)
    (x0 : Vec F S512x2048 .f32) (x1 : Vec F S1x2048x1024 .bf16) (x2 : Vec F S1x2048x1024 .bf16) (x3 : Vec F S1x1024x2048 .bf16) (xt0 : TbBuf0 (F := F) c tbM0_0) (xt1 : TbBuf0 (F := F) c tbM0_1)
    (hc1 : k0_cond1 i (loaded c xt1) = 1#1) (hc4 : ¬k0_cond4 i (loaded c xt1) = 1#1) (K : PUnit → sProp (Res F)) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (outA x0 x1 x2 x3) ∗ tbPt0 c tbM0_0 xt0 ∗ tbPt0 c tbM0_1 xt1) -∗ K ⟨⟩))
      ⊢ wp frame (wpE (defs₀ (F := F)) Variants.none c none) E (cc0_swiglu i tbM0_0 htbM0_0 tbM0_1 htbM0_1 arg4 harg4 arg5 harg5 arg6 harg6 arg7 harg7 arg8 harg8) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  sl_exec (disch := first | sl_exact hc1 | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  isplitl [HT0]; · iexact HT0
  iexact HT1

set_option maxHeartbeats 1000000 in
/-- A further chunk of a filled tile. -/
theorem triple_next (c : Dev nD) (E : Set ℕ) (i : grid0.Coords) (arg4 : Memref sig .tc .vmem S512x2048 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (hc2 : ¬k0_cond2 i = 1#1) (hc3 : k0_cond3 i = 1#1)
    (x0 : Vec F S512x2048 .f32) (x1 : Vec F S1x2048x1024 .bf16) (x2 : Vec F S1x2048x1024 .bf16) (x3 : Vec F S1x1024x2048 .bf16) (xo : Vec F S512x2048 .f32) (xt0 : TbBuf0 (F := F) c tbM0_0) (xt1 : TbBuf0 (F := F) c tbM0_1)
    (hc1 : k0_cond1 i (loaded c xt1) = 1#1) (hc4 : ¬k0_cond4 i (loaded c xt1) = 1#1) (K : PUnit → sProp (Res F)) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (outB x0 x1 x2 x3 xo) ∗ tbPt0 c tbM0_0 xt0 ∗ tbPt0 c tbM0_1 xt1) -∗ K ⟨⟩))
      ⊢ wp frame (wpE (defs₀ (F := F)) Variants.none c none) E (cc0_swiglu i tbM0_0 htbM0_0 tbM0_1 htbM0_1 arg4 harg4 arg5 harg5 arg6 harg6 arg7 harg7 arg8 harg8) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  subst hf0 hf1 hf2 hf3 hf4
  sl_exec (disch := first | sl_exact hc1 | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  isplitl [HT0]; · iexact HT0
  iexact HT1

set_option maxHeartbeats 1000000 in
/-- The first step of a tile that is not filled. -/
theorem triple_empty (c : Dev nD) (E : Set ℕ) (i : grid0.Coords) (arg4 : Memref sig .tc .vmem S512x2048 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole)
    (x0 : Vec F S512x2048 .f32) (x1 : Vec F S1x2048x1024 .bf16) (x2 : Vec F S1x2048x1024 .bf16) (x3 : Vec F S1x1024x2048 .bf16) (xt0 : TbBuf0 (F := F) c tbM0_0) (xt1 : TbBuf0 (F := F) c tbM0_1)
    (hc1 : ¬k0_cond1 i (loaded c xt1) = 1#1) (hc4 : k0_cond4 i (loaded c xt1) = 1#1) (K : PUnit → sProp (Res F)) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare outC ∗ tbPt0 c tbM0_0 xt0 ∗ tbPt0 c tbM0_1 xt1) -∗ K ⟨⟩))
      ⊢ wp frame (wpE (defs₀ (F := F)) Variants.none c none) E (cc0_swiglu i tbM0_0 htbM0_0 tbM0_1 htbM0_1 arg4 harg4 arg5 harg5 arg6 harg6 arg7 harg7 arg8 harg8) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  sl_exec (disch := first | sl_exact hc1 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  isplitl [HT0]; · iexact HT0
  iexact HT1

set_option maxHeartbeats 1000000 in
/-- A further step of a tile that is not filled: nothing is stored. -/
theorem triple_idle (c : Dev nD) (E : Set ℕ) (i : grid0.Coords) (arg4 : Memref sig .tc .vmem S512x2048 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole)
    (x0 : Vec F S512x2048 .f32) (x1 : Vec F S1x2048x1024 .bf16) (x2 : Vec F S1x2048x1024 .bf16) (x3 : Vec F S1x1024x2048 .bf16) (xo : Vec F S512x2048 .f32) (xt0 : TbBuf0 (F := F) c tbM0_0) (xt1 : TbBuf0 (F := F) c tbM0_1)
    (hc1 : ¬k0_cond1 i (loaded c xt1) = 1#1) (hc4 : ¬k0_cond4 i (loaded c xt1) = 1#1) (K : PUnit → sProp (Res F)) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo ∗ tbPt0 c tbM0_0 xt0 ∗ tbPt0 c tbM0_1 xt1) -∗ K ⟨⟩))
      ⊢ wp frame (wpE (defs₀ (F := F)) Variants.none c none) E (cc0_swiglu i tbM0_0 htbM0_0 tbM0_1 htbM0_1 arg4 harg4 arg5 harg5 arg6 harg6 arg7 harg7 arg8 harg8) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  subst hf0 hf1 hf2 hf3 hf4
  sl_exec (disch := first | sl_exact hc1 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rfl
  isplitl [HT0]; · iexact HT0
  iexact HT1

/-! ## The conditions -/

/-- The word loaded from the second table is its entry. -/
theorem loaded_eq (c : Dev nD) (pf : pre0.Contents (Elt F)) : loaded c (pf 1) = pf.atD 1 ![0] := by
  rfl

/-- The step is of a filled tile, when the second table's word is `w`. -/
abbrev Live (w : BitVec 32) (t : Fin grid0.N) : Prop := k0_cond1 (grid0.coords t) w = 1#1

/-- The second condition holds at a tile's first step, -/
theorem cond2_iff (t : Fin grid0.N) : k0_cond2 (grid0.coords t) = 1#1 ↔ t.val % 7 = 0 := by
  have ht : t.val < 504 := Nat.lt_of_lt_of_eq t.isLt N_0
  have e0 : (grid0.coords t 0).val = t.val / 7 % 72 := Pipeline.Grid.coords_val t 0 (by decide) rfl
  have e1 : (grid0.coords t 1).val = t.val / 1 % 7 := Pipeline.Grid.coords_val t 1 (by decide) rfl
  simp only [k0_cond2, e0, e1]
  word_cmp

/-- and the third at the others. -/
theorem cond3_iff (t : Fin grid0.N) : k0_cond3 (grid0.coords t) = 1#1 ↔ ¬ t.val % 7 = 0 := by
  have ht : t.val < 504 := Nat.lt_of_lt_of_eq t.isLt N_0
  have e0 : (grid0.coords t 0).val = t.val / 7 % 72 := Pipeline.Grid.coords_val t 0 (by decide) rfl
  have e1 : (grid0.coords t 1).val = t.val / 1 % 7 := Pipeline.Grid.coords_val t 1 (by decide) rfl
  simp only [k0_cond3, e0, e1]
  word_cmp

/-- A Boolean word widened and compared with zero is itself. -/
theorem widened (b : BitVec 1) : Scalar.cmpi .ne (Scalar.extui b : BitVec 32) 0#32 = b := by
  revert b; decide

/-- The fourth condition: the tile is not filled, and the step is its first. -/
theorem cond4_iff (w : BitVec 32) (t : Fin grid0.N) :
    k0_cond4 (grid0.coords t) w = 1#1 ↔ ¬ Live w t ∧ t.val % 7 = 0 := by
  rw [← cond2_iff t]
  unfold Live k0_cond4 k0_cond1 k0_cond2
  simp only [widened]
  generalize Scalar.cmpi .eq (BitVec.ofNat 32 (grid0.coords t 1).val) 0#32 = e
  generalize BitVec.ofNat 32 (grid0.coords t 0).val = j
  have h : Scalar.cmpi .sge j w = ~~~ Scalar.cmpi .slt j w := by
    simp only [Scalar.cmpi, IntOp.cmpi, BitVec.slt, BitVec.sle]
    by_cases h : j.toInt < w.toInt
    · have h' : ¬ w.toInt ≤ j.toInt := by omega
      simp only [h, h', decide_true, decide_false]; decide
    · have h' : w.toInt ≤ j.toInt := by omega
      simp only [h, h', decide_true, decide_false]; decide
  rw [h]
  generalize Scalar.cmpi .slt j w = b
  revert b e; decide

/-- When the result's window is idle, off the tables' contents. -/
theorem idle_eq (a : (pcfg0 (F := F)).Adm) (i : grid0.Coords) : (cfg0 a).idle 4 i = idle0 a.1 4 i := rfl

/-- The same, by the conditions. -/
theorem idle0_eq (pf : pre0.Contents (Elt F)) (i : grid0.Coords) :
    idle0 pf 4 i = (!(k0_cond1 i (pf.atD 1 ![0]) == 1#1 && k0_cond2 i == 1#1) && !(k0_cond1 i (pf.atD 1 ![0]) == 1#1 && k0_cond3 i == 1#1) && !(k0_cond4 i (pf.atD 1 ![0]) == 1#1)) := rfl

/-- The conditions together, at any word: no store happens exactly at the further steps of tiles that are not filled. -/
theorem idle_words (w : BitVec 32) (t : Fin grid0.N) :
    (!(k0_cond1 (grid0.coords t) w == 1#1 && k0_cond2 (grid0.coords t) == 1#1) && !(k0_cond1 (grid0.coords t) w == 1#1 && k0_cond3 (grid0.coords t) == 1#1) && !(k0_cond4 (grid0.coords t) w == 1#1)) = true
      ↔ ¬ Live w t ∧ ¬ t.val % 7 = 0 := by
  have h2 := cond2_iff t
  have h3 := cond3_iff t
  have h4 := cond4_iff w t
  unfold Live at h4 ⊢
  generalize k0_cond1 (grid0.coords t) w = b1 at h4 ⊢
  generalize k0_cond2 (grid0.coords t) = b2 at h2 ⊢
  generalize k0_cond3 (grid0.coords t) = b3 at h3 ⊢
  generalize k0_cond4 (grid0.coords t) w = b4 at h4 ⊢
  simp only [Bool.and_eq_true, Bool.not_eq_true', Bool.and_eq_false_imp, beq_iff_eq, beq_eq_false_iff_ne, ne_eq, h2, h3, h4]
  tauto

/-- The result's window is idle exactly at the further steps of tiles that are not filled. -/
theorem idle_iff (hO : Ok m) (t : Fin grid0.N) :
    (cfgM m hO).idle 4 (grid0.coords t) = true ↔ ¬ Live (word m) t ∧ ¬ t.val % 7 = 0 :=
  (iff_of_eq (congrArg (· = true) ((idle_eq (adm m hO) (grid0.coords t)).trans (idle0_eq (tbl m) (grid0.coords t))))).trans (idle_words (word m) t)

/-! ## What the result's block holds after each step -/

/-- The result's block after step `n`: at a tile's first step the first chunk's product (zeros, when the tile
    is not filled); at a further step the chunk's product added (nothing, when the tile is not filled). -/
def outsAt (hO : Ok m) (c : Dev nD) : (n : ℕ) → n < (cfgM m hO).N → Vec F S512x2048 .f32
  | 0, hn =>
    if Live (word m) ⟨0, hn⟩ then outA (iblk m hO c 0 ⟨0, hn⟩) (iblk m hO c 1 ⟨0, hn⟩) (iblk m hO c 2 ⟨0, hn⟩) (iblk m hO c 3 ⟨0, hn⟩) else outC
  | n + 1, hn =>
    if (n + 1) % 7 = 0 then
      if Live (word m) ⟨n + 1, hn⟩ then outA (iblk m hO c 0 ⟨n + 1, hn⟩) (iblk m hO c 1 ⟨n + 1, hn⟩) (iblk m hO c 2 ⟨n + 1, hn⟩) (iblk m hO c 3 ⟨n + 1, hn⟩) else outC
    else
      if Live (word m) ⟨n + 1, hn⟩ then outB (iblk m hO c 0 ⟨n + 1, hn⟩) (iblk m hO c 1 ⟨n + 1, hn⟩) (iblk m hO c 2 ⟨n + 1, hn⟩) (iblk m hO c 3 ⟨n + 1, hn⟩) (outsAt hO c n (Nat.lt_of_succ_lt hn))
      else outsAt hO c n (Nat.lt_of_succ_lt hn)

/-- After a tile's first step. -/
theorem outsAt_first (hO : Ok m) (c : Dev nD) (t : Fin (cfgM m hO).N) (h0 : t.val % 7 = 0) :
    outsAt m hO c t.val t.isLt = if Live (word m) t then outA (iblk m hO c 0 t) (iblk m hO c 1 t) (iblk m hO c 2 t) (iblk m hO c 3 t) else outC := by
  obtain ⟨n, hn⟩ := t
  cases n with
  | zero => rfl
  | succ n => exact if_pos h0

/-- After a further step. -/
theorem outsAt_next (hO : Ok m) (c : Dev nD) (t : Fin (cfgM m hO).N) (h0 : ¬ t.val % 7 = 0) :
    outsAt m hO c t.val t.isLt = if Live (word m) t then outB (iblk m hO c 0 t) (iblk m hO c 1 t) (iblk m hO c 2 t) (iblk m hO c 3 t) (outsAt m hO c (t.val - 1) (Nat.lt_of_le_of_lt (Nat.sub_le _ _) t.isLt))
      else outsAt m hO c (t.val - 1) (Nat.lt_of_le_of_lt (Nat.sub_le _ _) t.isLt) := by
  obtain ⟨n, hn⟩ := t
  cases n with
  | zero => exact absurd (Nat.zero_mod _) h0
  | succ n => exact if_neg h0

/-! ## The pipeline's proof data -/

/-- The arrays as the region finds them; each input's buffer at its block, the result's at `outsAt`; the
    tables' halves kept; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt m hO c t.val t.isLt)
  Φ _ := iprop(Pipeline.ΦA spec0 c ∗ Pipeline.ΦT pre0 (tbl m) c)
  q _ := fullShare
  owed _ := 0

/-- The proof data's arrays are the contents at the region's entry. -/
theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt m hO c t.val t.isLt) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The result's window is not written back before a tile's last step. -/
theorem flush_false (hO : Ok m) (t : Fin (cfgM m hO).N) (h : ¬ t.val % 7 = 6) : ((cfgM m hO).win 4).flush t = false :=
  Bool.eq_false_iff.mpr fun h' => h ((flush0_4 (adm m hO) t).mp h')

/-- At a tile's further steps the result's buffer has been stored into since the tile began. -/
theorem fresh_false (hO : Ok m) : ∀ n, n < (cfgM m hO).N → ¬ n % 7 = 0 → (cfgM m hO).fresh 4 n = false
  | 0, _, h => absurd (Nat.zero_mod _) h
  | n + 1, hn, h => by
    have hn' : n < (cfgM m hO).N := Nat.lt_of_succ_lt hn
    rw [Pipeline.Cfg.fresh_succ _ 4 n hn', flush_false m hO ⟨n, hn'⟩ (by dsimp only; omega), Bool.false_or]
    by_cases h0 : n % 7 = 0
    · rw [Bool.eq_false_iff.mpr fun h' => ((idle_iff m hO ⟨n, hn'⟩).mp h').2 h0, Bool.false_and]
    · rw [fresh_false hO n hn' h0, Bool.and_false]

/-- At an idle step what the result's block holds is what it held before. -/
theorem carry (hO : Ok m) (c : Dev nD) (t : Fin (cfgM m hO).N) (hi : (cfgM m hO).idle 4 (grid0.coords t) = true) :
    outsAt m hO c t.val t.isLt = outsAt m hO c (t.val - 1) (Nat.lt_of_le_of_lt (Nat.sub_le _ _) t.isLt) := by
  have h := (idle_iff m hO t).mp hi
  rw [outsAt_next m hO c t h.2, if_neg h.1]

/-- At a tile's further steps the result's buffer holds what the step before left. -/
theorem before0_4 (hO : Ok m) (c : Dev nD) (t : Fin (cfgM m hO).N) (h0 : ¬ t.val % 7 = 0) (d) :
    (dats m hO 0 c).before 4 t d = outsAt m hO c (t.val - 1) (Nat.lt_of_le_of_lt (Nat.sub_le _ _) t.isLt) := by
  rw [Dat.before_out_traj (dats m hO 0 c) 4 rfl (fun _ _ => rfl)
    (fun t _ hi _ => by rw [after0_4, after0_4]; exact carry m hO c t hi) t.val t rfl d,
    if_neg (by rw [fresh_false m hO t.val t.isLt h0]; exact Bool.false_ne_true), after0_4]

/-- A buffer held at what the body leaves in it is what the pipeline asks after the body, idle or not. -/
theorem leaves_of {cfg : Cfg sig Λ₀} {c : Dev nD} (dat : Dat τ (Elt F) Unit ℕ (UR sig nD τ) ℕ cfg c) (w : Fin cfg.W) (t : Fin cfg.N)
    {X} (hX : dat.after w t = X) (h : cfg.idle w (cfg.grid.coords t) = true → ∃ d, dat.before w t d = X) :
    (owns (c : Thread nD τ) ((cfg.win w).stage (cfg.slots t w)) fullShare X : sProp (Res F)) ⊢ dat.leavesExact w t := by
  subst hX
  unfold Dat.leavesExact
  cases hi : cfg.idle w (cfg.grid.coords t)
  · exact .rfl
  · cases (cfg.win w).flush t
    · obtain ⟨d, hd⟩ := h hi
      dsimp only
      iintro H
      iexists d
      rw [hd]
      iexact H
    · exact .rfl

/-- At an idle step the result's buffer still holds what is stated of it. -/
theorem before4_idle (hO : Ok m) (c : Dev nD) (t : Fin (cfgM m hO).N) (hi : (cfgM m hO).idle 4 ((cfgM m hO).grid.coords t) = true) :
    ∃ d, (dats m hO 0 c).before 4 t d = outsAt m hO c t.val t.isLt :=
  ⟨outsAt m hO c t.val t.isLt, (before0_4 m hO c t ((idle_iff m hO t).mp hi).2 _).trans (carry m hO c t hi).symm⟩

set_option maxHeartbeats 2000000 in
/-- Holding the result's buffer at `outsAt` is what the pipeline asks after the body, idle or not. -/
theorem leaves4 (hO : Ok m) (c : Dev nD) (t : Fin (cfgM m hO).N) :
    (owns (c : Thread nD τ) (ms0_4 m hO t) fullShare (outsAt m hO c t.val t.isLt) : sProp (Res F)) ⊢ (dats m hO 0 c).leavesExact 4 t :=
  leaves_of (dats m hO 0 c) 4 t (after0_4 m hO c t) (before4_idle m hO c t)

/-! ## The body at a step -/

/-- What the body is called with at step `t`, -/
def bodyPre (hO : Ok m) (c : Dev nD) (t : Fin (cfgM m hO).N) : sProp (Res F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp (Res F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (dats m hO 0 c).leavesExact 4 t)

set_option maxHeartbeats 1600000 in
/-- The body at any step: by cases on whether the step is its tile's first and whether the tile is filled. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  have hw : loaded c (tbl m 1) = word m := loaded_eq c (tbl m)
  have l4 := leaves4 m hO c t
  have h2 := cond2_iff t
  have h3 := cond3_iff t
  have h4 := cond4_iff (word m) t
  by_cases h0 : t.val % 7 = 0
  · rw [outsAt_first m hO c t h0] at l4
    by_cases hl : Live (word m) t
    · rw [if_pos hl] at l4
      iintro ⟨⟨HΦ, ⟨HT0, HT1⟩⟩, Ho, ⟨%d0, H0⟩, ⟨%d1, H1⟩, ⟨%d2, H2⟩, ⟨%d3, H3⟩, ⟨%d4, H4⟩⟩
      iapply (triple_first c Set.univ (grid0.coords t) _ _ _ _ _ _ _ _ _ _ (h2.mpr h0) (fun h => h3.mp h h0) (iblk m hO c 0 t) (iblk m hO c 1 t) (iblk m hO c 2 t) (iblk m hO c 3 t) (tbl m 0) (tbl m 1) (by rw [hw]; exact hl) (by rw [hw]; exact fun h => (h4.mp h).1 hl) _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      iintro ⟨H0, H1, H2, H3, H4, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      iapply l4
      iexact H4
    · rw [if_neg hl] at l4
      iintro ⟨⟨HΦ, ⟨HT0, HT1⟩⟩, Ho, ⟨%d0, H0⟩, ⟨%d1, H1⟩, ⟨%d2, H2⟩, ⟨%d3, H3⟩, ⟨%d4, H4⟩⟩
      iapply (triple_empty c Set.univ (grid0.coords t) _ _ _ _ _ _ _ _ _ _ (iblk m hO c 0 t) (iblk m hO c 1 t) (iblk m hO c 2 t) (iblk m hO c 3 t) (tbl m 0) (tbl m 1) (by rw [hw]; exact hl) (by rw [hw]; exact h4.mpr ⟨hl, h0⟩) _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      iintro ⟨H0, H1, H2, H3, H4, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      iapply l4
      iexact H4
  · rw [outsAt_next m hO c t h0] at l4
    simp only [before0_4 m hO c t h0]
    by_cases hl : Live (word m) t
    · rw [if_pos hl] at l4
      iintro ⟨⟨HΦ, ⟨HT0, HT1⟩⟩, Ho, ⟨%d0, H0⟩, ⟨%d1, H1⟩, ⟨%d2, H2⟩, ⟨%d3, H3⟩, ⟨%d4, H4⟩⟩
      iapply (triple_next c Set.univ (grid0.coords t) _ _ _ _ _ _ _ _ _ _ (fun h => h0 (h2.mp h)) (h3.mpr h0) (iblk m hO c 0 t) (iblk m hO c 1 t) (iblk m hO c 2 t) (iblk m hO c 3 t) (outsAt m hO c (t.val - 1) (Nat.lt_of_le_of_lt (Nat.sub_le _ _) t.isLt)) (tbl m 0) (tbl m 1) (by rw [hw]; exact hl) (by rw [hw]; exact fun h => h0 (h4.mp h).2) _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      iintro ⟨H0, H1, H2, H3, H4, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      iapply l4
      iexact H4
    · rw [if_neg hl] at l4
      iintro ⟨⟨HΦ, ⟨HT0, HT1⟩⟩, Ho, ⟨%d0, H0⟩, ⟨%d1, H1⟩, ⟨%d2, H2⟩, ⟨%d3, H3⟩, ⟨%d4, H4⟩⟩
      iapply (triple_idle c Set.univ (grid0.coords t) _ _ _ _ _ _ _ _ _ _ (iblk m hO c 0 t) (iblk m hO c 1 t) (iblk m hO c 2 t) (iblk m hO c 3 t) (outsAt m hO c (t.val - 1) (Nat.lt_of_le_of_lt (Nat.sub_le _ _) t.isLt)) (tbl m 0) (tbl m 1) (by rw [hw]; exact hl) (by rw [hw]; exact fun h => h0 (h4.mp h).2) _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      iintro ⟨H0, H1, H2, H3, H4, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      iapply l4
      iexact H4

/-- The body table's row at step `t`'s slots is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
/-- The pipeline's obligation on the body, at every step. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- The launch: every execution ends, with the arrays at what the proof data say and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame: every execution ends, the arguments unchanged and the semaphores at zero. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) (run_main m ρ hO)) ((θ_run defs _ _).mono (fun _ h => h.2) (run_main_quiescent m ρ hO))

end Cert.MoeKernelIdeal.Swiglu

end
-- ==== Proof.MoeTablesIdeal.lean ====
/- The tables the kernel's blocks are chosen by, read off its arguments, and the blocks in range. -/
module

public import proofs.«01_k».proof.Proof.MoeGather
public import proofs.«01_k».proof.Proof.MoeFrameIdeal
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MoeKernelIdeal.Swiglu

open Cert.Swiglu Cert.MoeKernelIdeal.Gen

variable {F : FTy → Type} [FloatOps F] (m : (ℓ : Loc nD τ sig) → Buf (Elt F) ℓ)

/-- Each tile's expert, as the program is given it, -/
abbrev teOf : IVec S72 32 := m (((0 : Dev nD) : Thread nD τ).loc main_arg4)
/-- and the number of filled tiles. -/
abbrev ntOf : BitVec 32 := (m (((0 : Dev nD) : Thread nD τ).loc main_arg5) : IVec S1 32) (ix1 0)

/-- The word the body reads off the second table is the number of filled tiles. -/
theorem word_eq : word m = ntOf m := by
  refine (dif_pos (by decide)).trans ?_
  refine (congrFun (V_main_arg5 m 0) _).trans ?_
  refine congrArg _ (funext fun a => match a with | ⟨0, _⟩ => rfl)

/-- The word an index map reads there is the same. -/
theorem at1 : (tbl m).at 1 (Rect.unit (s := S1) ![0] S1.size inb_S1_S1_0) numel1_S1 = ntOf m := by
  refine (congrFun (V_main_arg5 m 0) _).trans ?_
  exact congrArg _ (funext fun a => match a with | ⟨0, _⟩ => Subsingleton.elim (α := Fin 1) _ _)

/-- The place of tile `j`, as an index of the experts' table. -/
abbrev spot (j : Fin 72) : Fin 72 := ⟨place j.val (ntOf m), lt_of_le_of_lt (Nat.min_le_left _ _) j.isLt⟩

/-- The first table holds, at tile `j`, the expert of tile `j`, or of the last filled tile. -/
theorem table0_at (hw : 1 ≤ (ntOf m).toInt) (j : Fin 72) : (tbl m 0 : IVec S72 32) (ix1 j) = teOf m (ix1 (spot m j)) := by
  show (V m 0 main_v11 : IVec S72 32) (ix1 j) = _
  entry_read
  refine takeOne_at gather_S72_S72x1_S72_n_0_n_n_0_1_1_wf _ _ j (spot m j) (by decide) ?_
  pointwise
  refine (congrArg (fun p : BitVec 32 => Scalar.select (IntOp.cmpi .slt p 0#32) (IntOp.addi p 72#32) p) (place_word hw j.isLt)).trans ?_
  exact wrap_word (lt_of_le_of_lt (Nat.min_le_left _ _) j.isLt)

/-- One entry of a table of 72 words, read through the rectangle of one entry at a number. -/
theorem one_of_72 (T : IVec S72 32) (j : Fin 72) (hb) (y : S1.Idx) :
    T ((Rect.unit (s := S72) ![(Scalar.indexCast (BitVec.ofNat 32 j.val)).toNat] S1.size hb).emb y) = T (ix1 j) := by
  refine congrArg T (funext fun a => Fin.ext ?_)
  match a with
  | ⟨0, _⟩ =>
    have hy : (y 0).val < 1 := (y 0).isLt
    have hj := j.isLt
    show (BitVec.ofNat 32 j.val).toNat + 1 * (y 0).val = j.val
    rw [BitVec.toNat_ofNat]; omega

/-- The word an index map reads off the first table: the expert of the step's tile, or of the last filled tile. -/
theorem at0 (hw : 1 ≤ (ntOf m).toInt) (i : grid0.Coords) :
    (tbl m).at 0 (Rect.unit (s := S72) ![(Scalar.indexCast (BitVec.ofNat 32 (i 0).val)).toNat] S1.size (k0_off1_inb i)) numel1_S1
    = teOf m (ix1 (spot m (i 0))) :=
  (one_of_72 (tbl m 0) (i 0) (k0_off1_inb i) _).trans (table0_at m hw (i 0))

/-- The rows' block at a step: the tile's, or the last filled tile's. -/
theorem map0 (hr : InRange (teOf m) (ntOf m)) (i : grid0.Coords) :
    cc0_transform_0 inb_S1_S1_0 numel1_S1 (tbl m) i = ![place (i 0).val (ntOf m), 0] := by
  unfold cc0_transform_0
  dsimp only
  rw [at1 m, show Scalar.subi (ntOf m) 1#32 = ntOf m - 1#32 from rfl, place_word hr.pos (show (i 0).val < 72 from (i 0).isLt)]
  have h : (i 0).val < 72 := (i 0).isLt
  rw [BitVec.toNat_ofNat, Nat.mod_eq_of_lt (show place (i 0).val (ntOf m) < 2 ^ 32 by unfold place; omega)]
  rfl

/-- The chunk a step reads. -/
abbrev chunkOf (i : grid0.Coords) : ℕ := if (i 0).val < (ntOf m).toNat then (i 1).val else 6
/-- The expert a step reads. -/
abbrev expertOf (i : grid0.Coords) : ℕ := (teOf m (ix1 (spot m (i 0)))).toNat

/-- The gate weights' block at a step. -/
theorem map1 (hr : InRange (teOf m) (ntOf m)) (i : grid0.Coords) :
    cc0_transform_1 k0_off1_inb numel1_S1 inb_S1_S1_0 (tbl m) i = ![expertOf m i, 0, chunkOf m i] := by
  unfold cc0_transform_1
  dsimp only
  rw [at1 m, at0 m hr.pos, chunk_word hr.pos (show (i 0).val < 72 from (i 0).isLt) (show (i 1).val < 7 from (i 1).isLt)]
  rfl

/-- The up weights' block at a step. -/
theorem map2 (hr : InRange (teOf m) (ntOf m)) (i : grid0.Coords) :
    cc0_transform_2 k0_off1_inb numel1_S1 inb_S1_S1_0 (tbl m) i = ![expertOf m i, 0, chunkOf m i] := by
  unfold cc0_transform_2
  dsimp only
  rw [at1 m, at0 m hr.pos, chunk_word hr.pos (show (i 0).val < 72 from (i 0).isLt) (show (i 1).val < 7 from (i 1).isLt)]
  rfl

/-- The down weights' block at a step. -/
theorem map3 (hr : InRange (teOf m) (ntOf m)) (i : grid0.Coords) :
    cc0_transform_3 k0_off1_inb numel1_S1 inb_S1_S1_0 (tbl m) i = ![expertOf m i, chunkOf m i, 0] := by
  unfold cc0_transform_3
  dsimp only
  rw [at1 m, at0 m hr.pos, chunk_word hr.pos (show (i 0).val < 72 from (i 0).isLt) (show (i 1).val < 7 from (i 1).isLt)]
  rfl

/-- With the tables in range every block a step reads lies in its array. -/
theorem ok_of_range (hr : InRange (teOf m) (ntOf m)) : Ok m := by
  have hc : ∀ i : grid0.Coords, chunkOf m i < 7 := fun i => by
    have : (i 1).val < 7 := (i 1).isLt
    unfold chunkOf; split <;> omega
  have he : ∀ i : grid0.Coords, expertOf m i < 8 := fun i => hr.expert _
  refine ⟨fun i => ?_, fun i => ?_, fun i => ?_, fun i => ?_⟩
  · refine ⟨fun a => ?_, .inl rfl⟩
    rw [map0 m hr i]
    have h : place (i 0).val (ntOf m) < 72 := lt_of_le_of_lt (Nat.min_le_left _ _) (i 0).isLt
    match a with
    | ⟨0, _⟩ => show (place (i 0).val (ntOf m) + 1) * 512 ≤ 36864; omega
    | ⟨1, _⟩ => show (0 + 1) * 2048 ≤ 2048; omega
  · refine ⟨fun a => ?_, .inr (.inr ⟨by decide, rfl, ?_, rfl⟩)⟩
    · rw [map1 m hr i]
      have h1 := hc i
      have h2 := he i
      match a with
      | ⟨0, _⟩ => show (expertOf m i + 1) * 1 ≤ 8; omega
      | ⟨1, _⟩ => show (0 + 1) * 2048 ≤ 2048; omega
      | ⟨2, _⟩ => show (chunkOf m i + 1) * 1024 ≤ 7168; omega
    · show cc0_transform_1 k0_off1_inb numel1_S1 inb_S1_S1_0 (tbl m) i 1 * 2048 = 0
      rw [map1 m hr i]; rfl
  · refine ⟨fun a => ?_, .inr (.inr ⟨by decide, rfl, ?_, rfl⟩)⟩
    · rw [map2 m hr i]
      have h1 := hc i
      have h2 := he i
      match a with
      | ⟨0, _⟩ => show (expertOf m i + 1) * 1 ≤ 8; omega
      | ⟨1, _⟩ => show (0 + 1) * 2048 ≤ 2048; omega
      | ⟨2, _⟩ => show (chunkOf m i + 1) * 1024 ≤ 7168; omega
    · show cc0_transform_2 k0_off1_inb numel1_S1 inb_S1_S1_0 (tbl m) i 1 * 2048 = 0
      rw [map2 m hr i]; rfl
  · refine ⟨fun a => ?_, .inr (.inl (.inr ⟨by decide, rfl, .inl ⟨?_, ?_⟩⟩))⟩
    · rw [map3 m hr i]
      have h1 := hc i
      have h2 := he i
      match a with
      | ⟨0, _⟩ => show (expertOf m i + 1) * 1 ≤ 8; omega
      | ⟨1, _⟩ => show (chunkOf m i + 1) * 1024 ≤ 7168; omega
      | ⟨2, _⟩ => show (0 + 1) * 2048 ≤ 2048; omega
    · show 2 ∣ cc0_transform_3 k0_off1_inb numel1_S1 inb_S1_S1_0 (tbl m) i 1 * 1024
      exact Dvd.dvd.mul_left (by decide) _
    · show 2 ∣ 1024
      decide

/-- A step's tile is filled exactly when its number is below the number of filled tiles. -/
theorem live_iff (hr : InRange (teOf m) (ntOf m)) (t : Fin grid0.N) : Live (word m) t ↔ t.val / 7 < (ntOf m).toNat := by
  have ht : t.val < 504 := Nat.lt_of_lt_of_eq t.isLt N_0
  have e0 : (grid0.coords t 0).val = t.val / 7 % 72 := Pipeline.Grid.coords_val t 0 (by decide) rfl
  rw [word_eq m]
  unfold Live k0_cond1
  simp only [widened]
  rw [e0, Nat.mod_eq_of_lt (show t.val / 7 < 72 by omega)]
  rw [show Scalar.cmpi .slt (BitVec.ofNat 32 (t.val / 7)) (ntOf m) = BitVec.ofBool (decide (t.val / 7 < (ntOf m).toNat)) from
    congrArg BitVec.ofBool (slt_word hr.pos (show t.val / 7 < 72 by omega))]
  by_cases h : t.val / 7 < (ntOf m).toNat
  · rw [decide_eq_true h]; exact iff_of_true rfl h
  · rw [decide_eq_false h]; exact iff_of_false (by decide) h

end Cert.MoeKernelIdeal.Swiglu

end
-- ==== Proof.MoeReference.lean ====
/- The experts' feed-forward read at an entry: which sums the reference leaves in it. -/
module

public import proofs.«01_k».proof.Proof.MoeGather
public import proofs.«01_k».proof.Proof.Gen.MoeReferenceIdeal.Read
public import Idealize.ShloMosaic.Lib.Pointwise

@[expose] public section

set_option maxRecDepth 16384

noncomputable section

open Idealize.ShloMosaic Idealize.ShloMosaic.TcCoe Idealize.SL.Sem

namespace Cert.Swiglu

/-! ## The feed-forward of one token by one expert -/

/-- Token `R` times column `q` of expert `e`'s weights `w`. -/
def gate (xs : (⟨2, ![36864, 2048]⟩ : Shape).Idx → EReal) (w : (⟨3, ![8, 2048, 7168]⟩ : Shape).Idx → EReal)
    (R : Fin 36864) (e : Fin 8) (q : Fin 7168) : EReal :=
  ∑ d : Fin 2048, xs (ix2 R d) * w (ix3 e d q)

/-- A gate times its logistic, times the other gate. -/
def gated (g u : EReal) : EReal := g * Ideal.logistic g * u

/-- The hidden unit `q` of token `R` at expert `e`. -/
def hidden (xs : (⟨2, ![36864, 2048]⟩ : Shape).Idx → EReal) (wg wu : (⟨3, ![8, 2048, 7168]⟩ : Shape).Idx → EReal)
    (R : Fin 36864) (e : Fin 8) (q : Fin 7168) : EReal :=
  gated (gate xs wg R e q) (gate xs wu R e q)

/-- Output column `c` of token `R` at expert `e`: the sum over all hidden units. -/
def feed (xs : (⟨2, ![36864, 2048]⟩ : Shape).Idx → EReal) (wg wu : (⟨3, ![8, 2048, 7168]⟩ : Shape).Idx → EReal)
    (wd : (⟨3, ![8, 7168, 2048]⟩ : Shape).Idx → EReal) (R : Fin 36864) (e : Fin 8) (c : Fin 2048) : EReal :=
  ∑ q : Fin 7168, hidden xs wg wu R e q * wd (ix3 e q c)

/-- The number one, as the program writes it. -/
theorem lit_one : Ideal.ofBits .f32 0x3F800000#32 = 1 := by
  simp [Ideal.ofBits, Ideal.ieee]
  rw [← EReal.coe_mul]
  norm_num
/-- The number nought, as the program writes it. -/
theorem lit_zero : Ideal.ofBits .f32 0x00000000#32 = 0 := by
  simp [Ideal.ofBits, Ideal.ieee]

open Cert.MoeReferenceIdeal.Read

variable (xs : (⟨2, ![36864, 2048]⟩ : Shape).Idx → EReal) (wg wu : (⟨3, ![8, 2048, 7168]⟩ : Shape).Idx → EReal)
  (wd : (⟨3, ![8, 7168, 2048]⟩ : Shape).Idx → EReal) (te : IVec ⟨1, ![72]⟩ 32) (nt : IVec ⟨1, ![1]⟩ 32)

/-- Row `r` of tile `j`, read in the tokens. -/
theorem tokens_at (j : Fin 72) (r : Fin 512) (d : Fin 2048) (R : Fin 36864) (hR : R.val = j.val * 512 + r.val) :
    val_main_v0 (F := Ideal) xs (ix3 j r d) = xs (ix2 R d) := by
  rw [val_main_v0_apply]
  have hd := d.isLt
  refine congrArg xs (funext fun a => Fin.ext ?_)
  match a with
  | ⟨0, _⟩ => show ((j.val * 512 + r.val) * 2048 + d.val) / 2048 = R.val; omega
  | ⟨1, _⟩ => show ((j.val * 512 + r.val) * 2048 + d.val) % 2048 = d.val; omega

/-- The gate weights of tile `j` are its expert's. -/
theorem weights2_at (j : Fin 72) (d : Fin 2048) (q : Fin 7168) (e : Fin 8) (he : te (ix1 j) = BitVec.ofNat 32 e.val) :
    val_main_v2 (F := Ideal) wg te (ix3 j d q) = wg (ix3 e d q) := by
  unfold val_main_v2
  refine (takeMatrix_at Cert.MoeReferenceIdeal.gather_S8x2048x7168_S72x1_S72x2048x7168_12_0_n_n_0_1_120487168.wf _ _ j d q e (by decide) ?_).trans rfl
  rw [val_main_call0_v0_apply]
  have h : idx_main_call0_v0 (ix2 j (0 : Fin 1)) = ix1 j := funext fun a => match a with | ⟨0, _⟩ => rfl
  exact (congrArg te h).trans he
/-- The up weights of tile `j` are its expert's. -/
theorem weights4_at (j : Fin 72) (d : Fin 2048) (q : Fin 7168) (e : Fin 8) (he : te (ix1 j) = BitVec.ofNat 32 e.val) :
    val_main_v4 (F := Ideal) wu te (ix3 j d q) = wu (ix3 e d q) := by
  unfold val_main_v4
  refine (takeMatrix_at Cert.MoeReferenceIdeal.gather_S8x2048x7168_S72x1_S72x2048x7168_12_0_n_n_0_1_120487168.wf _ _ j d q e (by decide) ?_).trans rfl
  rw [val_main_call1_v0_apply]
  have h : idx_main_call1_v0 (ix2 j (0 : Fin 1)) = ix1 j := funext fun a => match a with | ⟨0, _⟩ => rfl
  exact (congrArg te h).trans he
/-- The down weights of tile `j` are its expert's. -/
theorem weights6_at (j : Fin 72) (q : Fin 7168) (c : Fin 2048) (e : Fin 8) (he : te (ix1 j) = BitVec.ofNat 32 e.val) :
    val_main_v6 (F := Ideal) wd te (ix3 j q c) = wd (ix3 e q c) := by
  unfold val_main_v6
  refine (takeMatrix_at Cert.MoeReferenceIdeal.gather_S8x7168x2048_S72x1_S72x7168x2048_12_0_n_n_0_1_171682048.wf _ _ j q c e (by decide) ?_).trans rfl
  rw [val_main_call2_v0_apply]
  have h : idx_main_call2_v0 (ix2 j (0 : Fin 1)) = ix1 j := funext fun a => match a with | ⟨0, _⟩ => rfl
  exact (congrArg te h).trans he

/-- The first product of tile `j`. -/
theorem gate7_at (j : Fin 72) (r : Fin 512) (q : Fin 7168) (R : Fin 36864) (hR : R.val = j.val * 512 + r.val)
    (e : Fin 8) (he : te (ix1 j) = BitVec.ofNat 32 e.val) :
    val_main_v7 (F := Ideal) xs wg te (ix3 j r q) = gate xs wg R e q := by
  rw [val_main_v7_apply]
  refine Finset.sum_congr rfl fun d _ => ?_
  have el : lidx_main_v7 (ix3 j r q) d = ix3 j r d := funext fun a => match a with
    | ⟨0, _⟩ => rfl | ⟨1, _⟩ => rfl | ⟨2, _⟩ => rfl
  have er : ridx_main_v7 (ix3 j r q) d = ix3 j d q := funext fun a => match a with
    | ⟨0, _⟩ => rfl | ⟨1, _⟩ => rfl | ⟨2, _⟩ => rfl
  rw [el, er, tokens_at xs j r d R hR, weights2_at wg te j d q e he]
/-- The second product of tile `j`. -/
theorem gate9_at (j : Fin 72) (r : Fin 512) (q : Fin 7168) (R : Fin 36864) (hR : R.val = j.val * 512 + r.val)
    (e : Fin 8) (he : te (ix1 j) = BitVec.ofNat 32 e.val) :
    val_main_v9 (F := Ideal) xs wu te (ix3 j r q) = gate xs wu R e q := by
  rw [val_main_v9_apply]
  refine Finset.sum_congr rfl fun d _ => ?_
  have el : lidx_main_v9 (ix3 j r q) d = ix3 j r d := funext fun a => match a with
    | ⟨0, _⟩ => rfl | ⟨1, _⟩ => rfl | ⟨2, _⟩ => rfl
  have er : ridx_main_v9 (ix3 j r q) d = ix3 j d q := funext fun a => match a with
    | ⟨0, _⟩ => rfl | ⟨1, _⟩ => rfl | ⟨2, _⟩ => rfl
  rw [el, er, tokens_at xs j r d R hR, weights4_at wu te j d q e he]

/-- The hidden units of tile `j`. -/
theorem hidden_at (j : Fin 72) (r : Fin 512) (q : Fin 7168) (R : Fin 36864) (hR : R.val = j.val * 512 + r.val)
    (e : Fin 8) (he : te (ix1 j) = BitVec.ofNat 32 e.val) :
    val_main_v10 (F := Ideal) xs wg wu te (ix3 j r q) = hidden xs wg wu R e q := by
  rw [val_main_v10_apply, val_main_v8_apply, val_main_call3_v5_apply, val_main_call3_v4_apply, val_main_call3_cst_0_apply,
    val_main_call3_v3_apply, val_main_call3_v2_apply, val_main_call3_cst_apply, val_main_call3_v1_apply, val_main_call3_v0_apply,
    gate7_at xs wg te j r q R hR e he, gate9_at xs wu te j r q R hR e he]
  show gate xs wg R e q * Ideal.div (Ideal.ofBits .f32 0x3F800000#32) (Ideal.ofBits .f32 0x3F800000#32 + Ideal.exp (-gate xs wg R e q))
    * gate xs wu R e q = _
  rw [lit_one]
  rfl

/-- The down product of tile `j`. -/
theorem feed_at (j : Fin 72) (r : Fin 512) (c : Fin 2048) (R : Fin 36864) (hR : R.val = j.val * 512 + r.val)
    (e : Fin 8) (he : te (ix1 j) = BitVec.ofNat 32 e.val) :
    val_main_v11 (F := Ideal) xs wg wu wd te (ix3 j r c) = feed xs wg wu wd R e c := by
  rw [val_main_v11_apply]
  refine Finset.sum_congr rfl fun q _ => ?_
  have el : lidx_main_v11 (ix3 j r c) q = ix3 j r q := funext fun a => match a with
    | ⟨0, _⟩ => rfl | ⟨1, _⟩ => rfl | ⟨2, _⟩ => rfl
  have er : ridx_main_v11 (ix3 j r c) q = ix3 j q c := funext fun a => match a with
    | ⟨0, _⟩ => rfl | ⟨1, _⟩ => rfl | ⟨2, _⟩ => rfl
  rw [el, er, hidden_at xs wg wu te j r q R hR e he, weights6_at wd te j q c e he]

/-- The word the reference compares the tiles' numbers with. -/
theorem count_at (k : (⟨0, ![]⟩ : Shape).Idx) : val_main_v13 (F := Ideal) nt k = nt (ix1 0) := by
  unfold val_main_v13 shapeCast
  exact congrArg nt (funext fun a => match a with | ⟨0, _⟩ => Subsingleton.elim (α := Fin 1) _ _)

/-- THE REFERENCE'S RESULT AT AN ENTRY: the feed-forward of row `R` by its tile's expert where the tile is filled, nought elsewhere. -/
theorem reference_at (hr : InRange te (nt (ix1 0))) (j : Fin 72) (r : Fin 512) (c : Fin 2048) (R : Fin 36864)
    (hR : R.val = j.val * 512 + r.val) :
    val_main_v18 (F := Ideal) xs wg wu wd te nt (ix2 R c)
      = if j.val < (nt (ix1 0)).toNat then feed xs wg wu wd R ⟨(te (ix1 j)).toNat, hr.expert j⟩ c else 0 := by
  have hc := c.isLt
  have hrl := r.isLt
  have hi : idx_main_v18 (ix2 R c) = ix3 j r c := funext fun a => Fin.ext (by
    match a with
    | ⟨0, _⟩ => show (R.val * 2048 + c.val) / 1048576 = j.val; omega
    | ⟨1, _⟩ => show (R.val * 2048 + c.val) / 2048 % 512 = r.val; omega
    | ⟨2, _⟩ => show (R.val * 2048 + c.val) % 2048 = c.val; omega)
  rw [val_main_v18_apply, hi, val_main_v17_apply, val_main_call4_v1_apply, val_main_v16_apply, val_main_v15_apply,
    val_main_v12_apply, val_main_v14_apply, count_at, val_main_call4_v2_apply, val_main_call4_v0_apply, val_main_cst_apply,
    feed_at xs wg wu wd te j r c R hR ⟨(te (ix1 j)).toNat, hr.expert j⟩ (BitVec.eq_of_toNat_eq (by rw [BitVec.toNat_ofNat, Nat.mod_eq_of_lt (te (ix1 j)).isLt]))]
  have e : IntOp.cmpi .slt (BitVec.ofNat 32 j.val) (nt (ix1 0)) = BitVec.ofBool (decide (j.val < (nt (ix1 0)).toNat)) :=
    congrArg BitVec.ofBool (slt_word hr.pos j.isLt)
  refine (congrArg (fun w => Scalar.select w _ _) e).trans ?_
  by_cases h : j.val < (nt (ix1 0)).toNat
  · rw [if_pos h, decide_eq_true h]; rfl
  · rw [if_neg h, decide_eq_false h]; exact lit_zero

end Cert.Swiglu

end
-- ==== Proof.MoeKernelValue.lean ====
/- What the kernel leaves: each filled tile's feed-forward, added up chunk by chunk. -/
module

public import proofs.«01_k».proof.Proof.MoeTablesIdeal
public import proofs.«01_k».proof.Proof.MoeReference
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MoeKernelIdeal.Swiglu

open Cert.Swiglu Cert.MoeKernelIdeal.Gen

/-! ## What one step leaves in a block -/

/-- A hidden unit of a block: row `r` of the block of tokens, column `k` of the blocks of gate and up weights. -/
def unitOf (x0 : Vec Ideal S512x2048 .f32) (x1 x2 : Vec Ideal S1x2048x1024 .bf16) (r : Fin 512) (k : Fin 1024) : EReal :=
  gated (∑ d : Fin 2048, (x0 (ix2 r d) : EReal) * x1 (ix3 (0 : Fin 1) d k)) (∑ d : Fin 2048, (x0 (ix2 r d) : EReal) * x2 (ix3 (0 : Fin 1) d k))

/-- A step's share of the sum. -/
def share (x0 : Vec Ideal S512x2048 .f32) (x1 x2 : Vec Ideal S1x2048x1024 .bf16) (x3 : Vec Ideal S1x1024x2048 .bf16) (r : Fin 512) (c : Fin 2048) : EReal :=
  ∑ k : Fin 1024, unitOf x0 x1 x2 r k * x3 (ix3 (0 : Fin 1) k c)

variable (x0 : Vec Ideal S512x2048 .f32) (x1 x2 : Vec Ideal S1x2048x1024 .bf16) (x3 : Vec Ideal S1x1024x2048 .bf16)

/-- The first step of a filled tile leaves its share. -/
theorem outA_at (r : Fin 512) (c : Fin 2048) : outA (F := Ideal) x0 x1 x2 x3 (ix2 r c) = share x0 x1 x2 x3 r c := by
  unfold outA
  canon_tiles x h
  obtain rfl : r = x 0 := Fin.ext h0
  obtain rfl : c = x 1 := Fin.ext h1
  obtain ⟨r, c, rfl⟩ : ∃ (r : Fin 512) (c : Fin 2048), x = ix2 r c := ⟨x 0, x 1, funext fun a => match a with | 0 => rfl | 1 => rfl⟩
  pointwise [k0_pay1]
  rfl

/-- A later step of a filled tile adds its share to what is there. -/
theorem outB_at (xo : Vec Ideal S512x2048 .f32) (r : Fin 512) (c : Fin 2048) :
    outB (F := Ideal) x0 x1 x2 x3 xo (ix2 r c) = (xo (ix2 r c) : EReal) + share x0 x1 x2 x3 r c := by
  unfold outB
  canon_tiles x h
  obtain rfl : r = x 0 := Fin.ext h0
  obtain rfl : c = x 1 := Fin.ext h1
  obtain ⟨r, c, rfl⟩ : ∃ (r : Fin 512) (c : Fin 2048), x = ix2 r c := ⟨x 0, x 1, funext fun a => match a with | 0 => rfl | 1 => rfl⟩
  pointwise [k0_pay2]
  pointwise [k0_pay1]
  rfl

/-- The first step of a tile that is not filled leaves nought. -/
theorem outC_at (r : Fin 512) (c : Fin 2048) : outC (F := Ideal) (ix2 r c) = (0 : EReal) := by
  unfold outC
  canon_tiles x h
  obtain rfl : r = x 0 := Fin.ext h0
  obtain rfl : c = x 1 := Fin.ext h1
  obtain ⟨r, c, rfl⟩ : ∃ (r : Fin 512) (c : Fin 2048), x = ix2 r c := ⟨x 0, x 1, funext fun a => match a with | 0 => rfl | 1 => rfl⟩
  pointwise [k0_pay3]

/-! ## The blocks a filled tile's steps read -/

variable (m : (ℓ : Loc nD τ sig) → Buf (Elt Ideal) ℓ)

/-- The tokens, -/
abbrev xsOf : (⟨2, ![36864, 2048]⟩ : Shape).Idx → EReal := m (((0 : Dev nD) : Thread nD τ).loc main_arg0)
/-- the gate weights, -/
abbrev wgOf : (⟨3, ![8, 2048, 7168]⟩ : Shape).Idx → EReal := m (((0 : Dev nD) : Thread nD τ).loc main_arg1)
/-- the up weights -/
abbrev wuOf : (⟨3, ![8, 2048, 7168]⟩ : Shape).Idx → EReal := m (((0 : Dev nD) : Thread nD τ).loc main_arg2)
/-- and the down weights the program is given. -/
abbrev wdOf : (⟨3, ![8, 7168, 2048]⟩ : Shape).Idx → EReal := m (((0 : Dev nD) : Thread nD τ).loc main_arg3)

/-- The tile of a step. -/
theorem tile_of (t : Fin grid0.N) : (grid0.coords t 0).val = t.val / 7 := by
  have ht : t.val < 504 := Nat.lt_of_lt_of_eq t.isLt N_0
  have e0 : (grid0.coords t 0).val = t.val / 7 % 72 := Pipeline.Grid.coords_val t 0 (by decide) rfl
  omega
/-- The chunk of a step. -/
theorem chunk_of (t : Fin grid0.N) : (grid0.coords t 1).val = t.val % 7 := by
  have e1 : (grid0.coords t 1).val = t.val / 1 % 7 := Pipeline.Grid.coords_val t 1 (by decide) rfl
  omega

variable (hO : Ok m) (hr : InRange (teOf m) (ntOf m)) (t : Fin grid0.N) (live : t.val / 7 < (ntOf m).toNat)

include hr live in
/-- A filled tile's steps read its own place of the table of experts. -/
theorem expert_live (j : Fin 72) (hj : j.val = t.val / 7) : expertOf m (grid0.coords t) = (teOf m (ix1 j)).toNat := by
  refine congrArg (fun k => (teOf m (ix1 k)).toNat) (Fin.ext ?_)
  show place (grid0.coords t 0).val (ntOf m) = j.val
  rw [tile_of]; unfold place; omega
include live in
/-- A filled tile's steps read the chunks in turn. -/
theorem chunk_live : chunkOf m (grid0.coords t) = t.val % 7 := by
  unfold chunkOf
  rw [tile_of, chunk_of, if_pos live]

/-- Window 0's block at a step, placed in its array. -/
theorem emb0 (y : S512x2048.Idx) (a : Fin 2) : ((((cfgM m hO).win 0).blk t).view.emb y a).val
    = cc0_transform_0 inb_S1_S1_0 numel1_S1 (tbl m) (grid0.coords t) a * S512x2048.size a + 1 * (y a).val := rfl
include hr in
/-- Window 0's block at a step by the place, the expert and the chunk it reads. -/
theorem at_0 (y : S512x2048.Idx) (a : Fin 2) : ((((cfgM m hO).win 0).blk t).view.emb y a).val
    = (![place (grid0.coords t 0).val (ntOf m), 0] : Fin 2 → ℕ) a * S512x2048.size a + 1 * (y a).val :=
  (emb0 m hO t y a).trans (by rw [map0 m hr])

/-- Window 1's block at a step, placed in its array. -/
theorem emb1 (y : S1x2048x1024.Idx) (a : Fin 3) : ((((cfgM m hO).win 1).blk t).view.emb y a).val
    = cc0_transform_1 k0_off1_inb numel1_S1 inb_S1_S1_0 (tbl m) (grid0.coords t) a * S1x2048x1024.size a + 1 * (y a).val := rfl
include hr in
/-- Window 1's block at a step by the place, the expert and the chunk it reads. -/
theorem at_1 (y : S1x2048x1024.Idx) (a : Fin 3) : ((((cfgM m hO).win 1).blk t).view.emb y a).val
    = (![expertOf m (grid0.coords t), 0, chunkOf m (grid0.coords t)] : Fin 3 → ℕ) a * S1x2048x1024.size a + 1 * (y a).val :=
  (emb1 m hO t y a).trans (by rw [map1 m hr])

/-- Window 2's block at a step, placed in its array. -/
theorem emb2 (y : S1x2048x1024.Idx) (a : Fin 3) : ((((cfgM m hO).win 2).blk t).view.emb y a).val
    = cc0_transform_2 k0_off1_inb numel1_S1 inb_S1_S1_0 (tbl m) (grid0.coords t) a * S1x2048x1024.size a + 1 * (y a).val := rfl
include hr in
/-- Window 2's block at a step by the place, the expert and the chunk it reads. -/
theorem at_2 (y : S1x2048x1024.Idx) (a : Fin 3) : ((((cfgM m hO).win 2).blk t).view.emb y a).val
    = (![expertOf m (grid0.coords t), 0, chunkOf m (grid0.coords t)] : Fin 3 → ℕ) a * S1x2048x1024.size a + 1 * (y a).val :=
  (emb2 m hO t y a).trans (by rw [map2 m hr])

/-- Window 3's block at a step, placed in its array. -/
theorem emb3 (y : S1x1024x2048.Idx) (a : Fin 3) : ((((cfgM m hO).win 3).blk t).view.emb y a).val
    = cc0_transform_3 k0_off1_inb numel1_S1 inb_S1_S1_0 (tbl m) (grid0.coords t) a * S1x1024x2048.size a + 1 * (y a).val := rfl
include hr in
/-- Window 3's block at a step by the place, the expert and the chunk it reads. -/
theorem at_3 (y : S1x1024x2048.Idx) (a : Fin 3) : ((((cfgM m hO).win 3).blk t).view.emb y a).val
    = (![expertOf m (grid0.coords t), chunkOf m (grid0.coords t), 0] : Fin 3 → ℕ) a * S1x1024x2048.size a + 1 * (y a).val :=
  (emb3 m hO t y a).trans (by rw [map3 m hr])

include hr live in
/-- A filled tile's block of tokens is its own 512 rows. -/
theorem block_x (r : Fin 512) (d : Fin 2048) (R : Fin 36864) (hR : R.val = t.val / 7 * 512 + r.val) :
    (iblk m hO 0 0 t : Vec Ideal S512x2048 .f32) (ix2 r d) = xsOf m (ix2 R d) := by
  refine (congrFun (V_main_arg0 m 0) _).trans ?_
  refine congrArg (xsOf m) (funext fun a => Fin.ext ?_)
  match a with
  | ⟨0, _⟩ =>
    refine (at_0 m hO hr t (ix2 r d) 0).trans ?_
    show place (grid0.coords t 0).val (ntOf m) * 512 + 1 * r.val = R.val
    rw [tile_of]; unfold place; omega
  | ⟨1, _⟩ =>
    refine (at_0 m hO hr t (ix2 r d) 1).trans ?_
    show 0 * 2048 + 1 * d.val = d.val
    omega

include hr live in
/-- Its block of gate weights is a chunk of its expert's columns. -/
theorem block_g (j : Fin 72) (hj : j.val = t.val / 7) (d : Fin 2048) (k : Fin 1024) (q : Fin 7168) (hq : q.val = t.val % 7 * 1024 + k.val) :
    (iblk m hO 0 1 t : Vec Ideal S1x2048x1024 .bf16) (ix3 (0 : Fin 1) d k) = wgOf m (ix3 (⟨(teOf m (ix1 j)).toNat, hr.expert j⟩ : Fin 8) d q) := by
  refine (congrFun (V_main_arg1 m 0) _).trans ?_
  refine congrArg (wgOf m) (funext fun a => Fin.ext ?_)
  have e1 := expert_live m hr t live j hj
  have e2 := chunk_live m t live
  match a with
  | ⟨0, _⟩ =>
    refine (at_1 m hO hr t (ix3 (0 : Fin 1) d k) 0).trans ?_
    show expertOf m (grid0.coords t) * 1 + 1 * 0 = (teOf m (ix1 j)).toNat
    omega
  | ⟨1, _⟩ =>
    refine (at_1 m hO hr t (ix3 (0 : Fin 1) d k) 1).trans ?_
    show 0 * 2048 + 1 * d.val = d.val
    omega
  | ⟨2, _⟩ =>
    refine (at_1 m hO hr t (ix3 (0 : Fin 1) d k) 2).trans ?_
    show chunkOf m (grid0.coords t) * 1024 + 1 * k.val = q.val
    omega

include hr live in
/-- Its block of up weights is the same chunk of its expert's columns. -/
theorem block_u (j : Fin 72) (hj : j.val = t.val / 7) (d : Fin 2048) (k : Fin 1024) (q : Fin 7168) (hq : q.val = t.val % 7 * 1024 + k.val) :
    (iblk m hO 0 2 t : Vec Ideal S1x2048x1024 .bf16) (ix3 (0 : Fin 1) d k) = wuOf m (ix3 (⟨(teOf m (ix1 j)).toNat, hr.expert j⟩ : Fin 8) d q) := by
  refine (congrFun (V_main_arg2 m 0) _).trans ?_
  refine congrArg (wuOf m) (funext fun a => Fin.ext ?_)
  have e1 := expert_live m hr t live j hj
  have e2 := chunk_live m t live
  match a with
  | ⟨0, _⟩ =>
    refine (at_2 m hO hr t (ix3 (0 : Fin 1) d k) 0).trans ?_
    show expertOf m (grid0.coords t) * 1 + 1 * 0 = (teOf m (ix1 j)).toNat
    omega
  | ⟨1, _⟩ =>
    refine (at_2 m hO hr t (ix3 (0 : Fin 1) d k) 1).trans ?_
    show 0 * 2048 + 1 * d.val = d.val
    omega
  | ⟨2, _⟩ =>
    refine (at_2 m hO hr t (ix3 (0 : Fin 1) d k) 2).trans ?_
    show chunkOf m (grid0.coords t) * 1024 + 1 * k.val = q.val
    omega

include hr live in
/-- Its block of down weights is the same chunk of its expert's rows. -/
theorem block_d (j : Fin 72) (hj : j.val = t.val / 7) (k : Fin 1024) (c : Fin 2048) (q : Fin 7168) (hq : q.val = t.val % 7 * 1024 + k.val) :
    (iblk m hO 0 3 t : Vec Ideal S1x1024x2048 .bf16) (ix3 (0 : Fin 1) k c) = wdOf m (ix3 (⟨(teOf m (ix1 j)).toNat, hr.expert j⟩ : Fin 8) q c) := by
  refine (congrFun (V_main_arg3 m 0) _).trans ?_
  refine congrArg (wdOf m) (funext fun a => Fin.ext ?_)
  have e1 := expert_live m hr t live j hj
  have e2 := chunk_live m t live
  match a with
  | ⟨0, _⟩ =>
    refine (at_3 m hO hr t (ix3 (0 : Fin 1) k c) 0).trans ?_
    show expertOf m (grid0.coords t) * 1 + 1 * 0 = (teOf m (ix1 j)).toNat
    omega
  | ⟨1, _⟩ =>
    refine (at_3 m hO hr t (ix3 (0 : Fin 1) k c) 1).trans ?_
    show chunkOf m (grid0.coords t) * 1024 + 1 * k.val = q.val
    omega
  | ⟨2, _⟩ =>
    refine (at_3 m hO hr t (ix3 (0 : Fin 1) k c) 2).trans ?_
    show 0 * 2048 + 1 * c.val = c.val
    omega

/-! ## The chunks add up -/

/-- The summand of hidden unit `q`, nought past the last one. -/
def summand (R : Fin 36864) (e : Fin 8) (c : Fin 2048) (q : ℕ) : EReal :=
  if h : q < 7168 then hidden (xsOf m) (wgOf m) (wuOf m) R e ⟨q, h⟩ * wdOf m (ix3 e (⟨q, h⟩ : Fin 7168) c) else 0

/-- All summands make the feed-forward. -/
theorem feed_eq (R : Fin 36864) (e : Fin 8) (c : Fin 2048) :
    feed (xsOf m) (wgOf m) (wuOf m) (wdOf m) R e c = ∑ q ∈ Finset.range 7168, summand m R e c q := by
  rw [Finset.sum_range]
  refine Finset.sum_congr rfl fun q _ => ?_
  unfold summand
  rw [dif_pos q.isLt]

include hr live in
/-- A step's share is its chunk of the summands. -/
theorem share_at (j : Fin 72) (hj : j.val = t.val / 7) (r : Fin 512) (c : Fin 2048) (R : Fin 36864) (hR : R.val = t.val / 7 * 512 + r.val) :
    share (iblk m hO 0 0 t) (iblk m hO 0 1 t) (iblk m hO 0 2 t) (iblk m hO 0 3 t) r c
      = ∑ k ∈ Finset.range 1024, summand m R ⟨(teOf m (ix1 j)).toNat, hr.expert j⟩ c (t.val % 7 * 1024 + k) := by
  rw [Finset.sum_range]
  refine Finset.sum_congr rfl fun k _ => ?_
  have hk := k.isLt
  have hq : t.val % 7 * 1024 + k.val < 7168 := by omega
  unfold summand
  rw [dif_pos hq, block_d m hO hr t live j hj k c ⟨_, hq⟩ rfl]
  refine congrArg (· * _) (congrArg₂ gated ?_ ?_)
  · refine Finset.sum_congr rfl fun d _ => ?_
    rw [block_x m hO hr t live r d R hR, block_g m hO hr t live j hj d k ⟨_, hq⟩ rfl]
  · refine Finset.sum_congr rfl fun d _ => ?_
    rw [block_x m hO hr t live r d R hR, block_u m hO hr t live j hj d k ⟨_, hq⟩ rfl]

include hr in
/-- What a filled tile's buffer holds after its first chunks: the sum of their summands. -/
theorem outs_live (j : Fin 72) (hj : j.val < (ntOf m).toNat) (r : Fin 512) (c : Fin 2048) (R : Fin 36864) (hR : R.val = j.val * 512 + r.val) :
    ∀ (f : ℕ), f < 7 → ∀ t : Fin grid0.N, t.val = 7 * j.val + f →
      (outsAt m hO 0 t.val t.isLt : Vec Ideal S512x2048 .f32) (ix2 r c)
        = ∑ q ∈ Finset.range ((f + 1) * 1024), summand m R ⟨(teOf m (ix1 j)).toNat, hr.expert j⟩ c q := by
  intro f
  induction f with
  | zero =>
    intro _ t ht
    have htj : j.val = t.val / 7 := by omega
    have hl : t.val / 7 < (ntOf m).toNat := by omega
    rw [outsAt_first m hO 0 t (by omega), if_pos ((live_iff m hr t).mpr hl)]
    refine (outA_at _ _ _ _ r c).trans ((share_at m hO hr t hl j htj r c R (by omega)).trans ?_)
    rw [show t.val % 7 * 1024 = 0 by omega]
    simp only [Nat.zero_add, Nat.one_mul]
  | succ f ih =>
    intro hf t ht
    have htj : j.val = t.val / 7 := by omega
    have hl : t.val / 7 < (ntOf m).toNat := by omega
    rw [outsAt_next m hO 0 t (by omega), if_pos ((live_iff m hr t).mpr hl)]
    refine (outB_at _ _ _ _ _ r c).trans ?_
    rw [share_at m hO hr t hl j htj r c R (by omega),
      ih (by omega) ⟨t.val - 1, Nat.lt_of_le_of_lt (Nat.sub_le _ _) t.isLt⟩ (by show t.val - 1 = _; omega),
      show t.val % 7 * 1024 = (f + 1) * 1024 by omega, show (f + 1 + 1) * 1024 = (f + 1) * 1024 + 1024 by omega, Finset.sum_range_add]

include hr in
/-- The buffer of a tile that is not filled holds nought. -/
theorem outs_idle (j : Fin 72) (hj : ¬ j.val < (ntOf m).toNat) (r : Fin 512) (c : Fin 2048) :
    ∀ (f : ℕ), f < 7 → ∀ t : Fin grid0.N, t.val = 7 * j.val + f →
      (outsAt m hO 0 t.val t.isLt : Vec Ideal S512x2048 .f32) (ix2 r c) = (0 : EReal) := by
  intro f
  induction f with
  | zero =>
    intro _ t ht
    have hl : ¬ t.val / 7 < (ntOf m).toNat := by omega
    rw [outsAt_first m hO 0 t (by omega), if_neg (fun h => hl ((live_iff m hr t).mp h))]
    exact outC_at r c
  | succ f ih =>
    intro hf t ht
    have hl : ¬ t.val / 7 < (ntOf m).toNat := by omega
    rw [outsAt_next m hO 0 t (by omega), if_neg (fun h => hl ((live_iff m hr t).mp h))]
    exact ih (by omega) ⟨t.val - 1, Nat.lt_of_le_of_lt (Nat.sub_le _ _) t.isLt⟩ (by show t.val - 1 = _; omega)

/-! ## The result -/

/-- Where a tile's last step writes row `r`, column `c` of its buffer. -/
theorem place_out (t : Fin grid0.N) (r : Fin 512) (c : Fin 2048) (R : Fin 36864) (hR : R.val = t.val / 7 * 512 + r.val) :
    (((cfgM m hO).win 4).blk t).view.emb (ix2 r c : S512x2048.Idx) = (ix2 R c : S36864x2048.Idx) := by
  refine funext fun a => Fin.ext ?_
  match a with
  | ⟨0, _⟩ =>
    show (BitVec.ofNat 32 (grid0.coords t 0).val).toNat * 512 + 1 * r.val = R.val
    have ht : t.val < 504 := Nat.lt_of_lt_of_eq t.isLt N_0
    rw [tile_of, BitVec.toNat_ofNat]; omega
  | ⟨1, _⟩ =>
    show 0 * 2048 + 1 * c.val = c.val
    omega

/-- An index of the buffer is a row and a column, -/
theorem pair512 (y : S512x2048.Idx) : ∃ (r : Fin 512) (c : Fin 2048), y = (ix2 r c : S512x2048.Idx) :=
  ⟨y 0, y 1, funext fun a => match a with | 0 => rfl | 1 => rfl⟩
/-- and so is an index of the result. -/
theorem pair36864 (i : S36864x2048.Idx) : ∃ (R : Fin 36864) (c : Fin 2048), i = (ix2 R c : S36864x2048.Idx) :=
  ⟨i 0, i 1, funext fun a => match a with | 0 => rfl | 1 => rfl⟩

include hr in
/-- The result after the run is the reference's. -/
theorem final : (dats m hO 0 0).arrAt 4 (cfgM m hO).N
    = Cert.MoeReferenceIdeal.Read.val_main_v18 (F := Ideal) (xsOf m) (wgOf m) (wuOf m) (wdOf m) (teOf m)
        (m (((0 : Dev nD) : Thread nD τ).loc main_arg5)) := by
  refine (dats m hO 0 0).arrAt_eq_of_emb 4 _ (fun t hf y => ?_) (fun i => ?_)
  · obtain ⟨r, c, rfl⟩ : ∃ (r : Fin 512) (c : Fin 2048), y = (ix2 r c : S512x2048.Idx) := pair512 y
    have ht : t.val < 504 := Nat.lt_of_lt_of_eq t.isLt N_0
    have hm : t.val % 7 = 6 := (flush0_4 (adm m hO) t).mp hf
    have hrl := r.isLt
    refine (congrFun (after0_4 m hO 0 t) (ix2 r c : S512x2048.Idx)).trans ?_
    refine Eq.trans ?_ (congrArg (Cert.MoeReferenceIdeal.Read.val_main_v18 (F := Ideal) (xsOf m) (wgOf m) (wuOf m) (wdOf m) (teOf m)
        (m (((0 : Dev nD) : Thread nD τ).loc main_arg5))) (place_out m hO t r c ⟨t.val / 7 * 512 + r.val, by omega⟩ rfl)).symm
    rw [reference_at (xsOf m) (wgOf m) (wuOf m) (wdOf m) (teOf m) _ hr ⟨t.val / 7, by omega⟩ r c _ rfl]
    by_cases h : t.val / 7 < (ntOf m).toNat
    · rw [if_pos h, feed_eq]
      exact outs_live m hO hr ⟨t.val / 7, by omega⟩ h r c _ rfl 6 (by omega) t (by show t.val = 7 * (t.val / 7) + 6; omega)
    · rw [if_neg h]
      exact outs_idle m hO hr ⟨t.val / 7, by omega⟩ h r c 6 (by omega) t (by show t.val = 7 * (t.val / 7) + 6; omega)
  · obtain ⟨R, c, rfl⟩ : ∃ (R : Fin 36864) (c : Fin 2048), i = (ix2 R c : S36864x2048.Idx) := pair36864 i
    have hR := R.isLt
    have hN : 7 * (R.val / 512) + 6 < (cfgM m hO).N := Nat.lt_of_lt_of_eq (show 7 * (R.val / 512) + 6 < 504 by omega) N_0.symm
    refine ⟨⟨7 * (R.val / 512) + 6, hN⟩, (flush0_4 (adm m hO) _).mpr (by show (7 * (R.val / 512) + 6) % 7 = 6; omega), ?_⟩
    have e := place_out m hO ⟨7 * (R.val / 512) + 6, hN⟩ ⟨R.val % 512, by omega⟩ c R
      (by show R.val = (7 * (R.val / 512) + 6) / 7 * 512 + R.val % 512; omega)
    exact e ▸ View.emb_mem_set _ _

end Cert.MoeKernelIdeal.Swiglu

end
-- ==== Proof.MoeClaims.lean ====
/- The claims about the experts' feed-forward. -/
module

public import proofs.«01_k».proof.Proof.MoeKernelValue
public import proofs.«01_k».proof.Proof.MoeTables
public import proofs.«01_k».proof.Defs
public import proofs.«01_k».proof.Proof.Gen.MoeReferenceIdeal.Run
public import proofs.«01_k».proof.Proof.Gen.Pre_tables_in_range
public import Idealize.ShloMosaic.Lib.Quiescent

@[expose] public section

set_option maxRecDepth 16384

noncomputable section

open Idealize.ShloMosaic Idealize.ShloMosaic.TcCoe Idealize.SL.Sem

namespace Cert.Swiglu

/-- A signed comparison that came out one, as an inequality of the numbers. -/
theorem le_of_sge {a b : BitVec 32} (h : IntOp.cmpi .sge a b = 1#1) : b.toInt ≤ a.toInt := by
  by_contra hn
  have e : IntOp.cmpi .sge a b = 0#1 := by
    simp only [IntOp.cmpi, BitVec.sle, hn, decide_false]; rfl
  rw [e] at h
  exact absurd h (by decide)
/-- The strict comparison likewise. -/
theorem lt_of_slt {a b : BitVec 32} (h : IntOp.cmpi .slt a b = 1#1) : a.toInt < b.toInt := by
  by_contra hn
  have e : IntOp.cmpi .slt a b = 0#1 := by
    simp only [IntOp.cmpi, BitVec.slt, hn, decide_false]; rfl
  rw [e] at h
  exact absurd h (by decide)

/-- The precondition read at an element: the tables are in range. -/
theorem in_range {F : FTy → Type} [FloatOps F] {xs : FVec F Cert.MoeKernelIdeal.S36864x2048 .f32}
    {wg wu : FVec F Cert.MoeKernelIdeal.S8x2048x7168 .bf16} {wd : FVec F Cert.MoeKernelIdeal.S8x7168x2048 .bf16}
    {te : IVec ⟨1, ![72]⟩ 32} {nt : IVec ⟨1, ![1]⟩ 32}
    (h : (Pre_tables_in_range.fn (F := F) xs wg wu wd te nt).1 = (fun _ => 1#1)
      ∧ (Pre_tables_in_range.fn (F := F) xs wg wu wd te nt).2.1 = (fun _ => 1#1)
      ∧ (Pre_tables_in_range.fn (F := F) xs wg wu wd te nt).2.2 = (fun _ => 1#1)) : InRange te (nt (ix1 0)) := by
  refine ⟨fun j => ?_, fun j => ?_, ?_⟩
  · exact le_of_sge (b := 0#32) (congrFun h.1 (ix1 j))
  · exact lt_of_slt (b := 8#32) (congrFun h.2.1 (ix1 j))
  · exact le_of_sge (b := 1#32) (congrFun h.2.2 (ix1 0))

/-- With the tables in range the kernel ends without a fault and leaves its arguments; -/
theorem frame_kernel : Cert.quiescent_MoeKernel := fun m ρ hpre =>
  Cert.MoeKernel.Swiglu.frame_run m ρ (Cert.MoeKernel.Swiglu.ok_of_range m (in_range (hpre 0)))

/-- so does the kernel over exact numbers; -/
theorem frame_kernel_ideal : Cert.quiescent_MoeKernelIdeal := fun m ρ hpre =>
  Cert.MoeKernelIdeal.Swiglu.frame_run m ρ (Cert.MoeKernelIdeal.Swiglu.ok_of_range m (in_range (hpre 0)))

/-- and so does the reference, whatever the tables. -/
theorem frame_reference : Cert.quiescent_MoeReferenceIdeal := fun m ρ _ =>
  (θ_run Cert.MoeReferenceIdeal.defs _ _).mono (fun r h => ⟨fun c => (h c).2,
      Idealize.ShloMosaic.sem_eq_zero_of_no_sems (by decide) r.2⟩)
    (Cert.MoeReferenceIdeal.Value.run (F := Ideal) m ρ)

open Cert.MoeKernelIdeal Cert.MoeKernelIdeal.Swiglu in
/-- With the tables in range, kernel and reference leave the same feed-forward of every token by its tile's expert. -/
theorem algebraic : Cert.algebraic_MoeKernelIdeal_MoeReferenceIdeal := by
  intro m g m' g' hpre hagree
  have hr : InRange (teOf m) (ntOf m) := in_range (hpre 0)
  have hO := ok_of_range m hr
  have hrun := run_main m g hO
  refine ⟨fun c => (dats m hO 0 c).arrAt 4 (cfgM m hO).N,
    (θ_run Cert.MoeKernelIdeal.defs _ _).mono (fun r h c => ⟨(h.1 c).1 4, h.2 c⟩)
      (θ_run_and hrun (frame_of m g hO (dats m hO) (A_eq m hO) hrun)), ?_⟩
  refine (θ_run Cert.MoeReferenceIdeal.defs _ _).mono (fun r h c => ?_) (Cert.MoeReferenceIdeal.Value.run (F := Ideal) m' g')
  obtain rfl : c = 0 := Subsingleton.elim _ _
  obtain ⟨h0, h1⟩ := h 0
  obtain ⟨e0, e1, e2, e3, e4, e5⟩ := hagree 0
  refine ⟨h0.trans ((Cert.MoeReferenceIdeal.Read.val_main_v18_eq _ _ _ _ _ _).trans ?_), h1⟩
  refine Eq.trans ?_ (final m hO hr).symm
  rw [e0, e1, e2, e3, e4, e5]

end Cert.Swiglu
end
-- ==== Proof.ProjKernelValue.lean ====
/- The input projection kernel's two result arrays, as the reference's functions of the arguments. -/
module

public import proofs.«01_k».proof.Proof.Gen.ProjKernelIdeal.Value
public import proofs.«01_k».proof.Proof.Gen.ProjReferenceIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Projection

open Cert.ProjKernelIdeal Cert.ProjKernelIdeal.Gen
open Cert.ProjReferenceIdeal.Read

variable (m : (ℓ : Loc nD τ sig) → Buf (Elt Ideal) ℓ)

/-- Every window's block index at a grid point: point `t` is row block `t / 8` and column block `t % 8`; the
    experts' weights are cast in 128 row blocks, one a point. -/
theorem idx : ∀ t : Fin cfg0.N, win0_0.index t = ![t.val / 8, 0] ∧ win0_1.index t = ![0, t.val % 8]
    ∧ win0_2.index t = ![t.val, 0] ∧ win0_3.index t = ![t.val / 8, t.val % 8] ∧ win0_4.index t = ![t.val, 0] :=
  (by decide +kernel : ∀ t : Fin grid0.N, _)

theorem point_lt (t : Fin cfg0.N) : t.val < 128 := lt_of_lt_of_eq t.isLt N_0

abbrev hOf (c : Dev nD) : FVec Ideal S16384x2048 .bf16 := m ((c : Thread nD τ).loc main_arg0)
abbrev wOf (c : Dev nD) : FVec Ideal S2x2048x12288 .f32 := m ((c : Thread nD τ).loc main_arg1)
abbrev gOf (c : Dev nD) : FVec Ideal S1x8x2048x7168 .f32 := m ((c : Thread nD τ).loc main_arg2)

/-- Rows of `h` against columns of the first layer's projection. -/
def proj (h : FVec Ideal S16384x2048 .bf16) (w : FVec Ideal S2x2048x12288 .f32) (r : Fin 16384) (j : Fin 12288) : EReal :=
  ∑ k : Fin 2048, (h (ix2 r k) : EReal) * w (ix3 0 k j)

/-- The reference's projection at an element. -/
theorem result0_at (h : FVec Ideal S16384x2048 .bf16) (w : FVec Ideal S2x2048x12288 .f32) (r : Fin 16384) (j : Fin 12288) :
    val_main_v3 (F := Ideal) h w (ix2 r j) = proj h w r j := by
  rw [val_main_v3_apply]
  refine Finset.sum_congr rfl fun k _ => ?_
  have el : lidx_main_v3 (ix2 r j) k = ix2 r k := funext fun a => match a with | ⟨0, _⟩ => rfl | ⟨1, _⟩ => rfl
  have er : ridx_main_v3 (ix2 r j) k = ix2 k j := funext fun a => match a with | ⟨0, _⟩ => rfl | ⟨1, _⟩ => rfl
  rw [el, er, val_main_v2_apply, val_main_v1_apply]
  have ew : idx_main_v1 (idx_main_v2 (ix2 k j)) = ix3 0 k j := funext fun a => Fin.ext (match a with
    | ⟨0, _⟩ => rfl
    | ⟨1, _⟩ => by show (k.val * 12288 + j.val) / 12288 % 2048 = k.val; omega
    | ⟨2, _⟩ => by show (k.val * 12288 + j.val) % 12288 = j.val; omega)
  rw [ew]
  rfl

/-- Point `t`'s block of `h` is 1024 of its rows. -/
theorem block_h (c : Dev nD) (t : Fin cfg0.N) (r : Fin 1024) (k : Fin 2048) :
    iblk m c 0 t (ix2 r k) = hOf m c (ix2 ⟨t.val / 8 * 1024 + r.val, by have := point_lt t; omega⟩ k) := by
  blk_ext [iblk, V, idx t]

/-- Point `t`'s block of the weights is 1536 columns of the first layer's. -/
theorem block_w (c : Dev nD) (t : Fin cfg0.N) (k : Fin 2048) (j : Fin 1536) :
    iblk m c 1 t (ix2 k j) = wOf m c (ix3 0 k ⟨t.val % 8 * 1536 + j.val, by omega⟩) := by
  blk_simp [iblk, idx t]; entry_read; pointwise; blk_ext [idx t]

/-- What the body leaves in the projection's block. -/
theorem out3_at (x : Vec Ideal S1024x2048 .bf16) (w : Vec Ideal S2048x1536 .bf16) (g : Vec Ideal S128x7168 .f32) (r : Fin 1024) (j : Fin 1536) :
    out0_3 x w g (ix2 r j) = ∑ k : Fin 2048, (x (ix2 r k) : EReal) * w (ix2 k j) := by
  unfold out0_3
  canon_tiles x h
  obtain rfl : r = x 0 := Fin.ext h0
  obtain rfl : j = x 1 := Fin.ext h1
  obtain ⟨r, j, rfl⟩ : ∃ (r : Fin 1024) (j : Fin 1536), x = ix2 r j := ⟨x 0, x 1, funext fun a => match a with | 0 => rfl | 1 => rfl⟩
  pointwise [k0_pay1]
  blk_ext []

/-- The projection after the run is the reference's. -/
theorem final3 (c : Dev nD) : (dats m 0 c).arrAt 3 cfg0.N = val_main_v3 (F := Ideal) (hOf m c) (wOf m c) := by
  refine (dats m 0 c).arrAt_eq_of_covers 3 _ (by decide +kernel) fun t _ y => ?_
  blk_simp
  rw [after0_3]
  idx_vars y
  refine (out3_at _ _ _ y0 y1).trans ?_
  simp only [block_h, block_w]
  have hp := point_lt t
  refine (result0_at (hOf m c) (wOf m c) ⟨t.val / 8 * 1024 + y0.val, by omega⟩ ⟨t.val % 8 * 1536 + y1.val, by omega⟩).symm.trans ?_
  blk_ext [idx t]

/-- The reference's cast of the experts' weights at an element: row `r` is expert `r / 2048`, row `r % 2048`. -/
theorem result1_at (g : FVec Ideal S1x8x2048x7168 .f32) (r : Fin 16384) (j : Fin 7168) :
    val_main_v6 (F := Ideal) g (ix2 r j) = g (ix4 0 ⟨r.val / 2048, by omega⟩ ⟨r.val % 2048, by omega⟩ j) := by
  rw [val_main_v6_apply, val_main_v5_apply, val_main_v4_apply]
  refine congrArg g (funext fun a => Fin.ext ?_)
  have h5 : idx_main_v5 (ix2 r j) = ix3 ⟨r.val / 2048, by omega⟩ ⟨r.val % 2048, by omega⟩ j := funext fun a => Fin.ext (match a with
    | ⟨0, _⟩ => by show (r.val * 7168 + j.val) / 14680064 = r.val / 2048; omega
    | ⟨1, _⟩ => by show (r.val * 7168 + j.val) / 7168 % 2048 = r.val % 2048; omega
    | ⟨2, _⟩ => by show (r.val * 7168 + j.val) % 7168 = j.val; omega)
  rw [h5]
  match a with
  | ⟨0, _⟩ => rfl
  | ⟨1, _⟩ => show ((r.val / 2048 * 2048 + r.val % 2048) * 7168 + j.val) / 14680064 % 8 = r.val / 2048; omega
  | ⟨2, _⟩ => show ((r.val / 2048 * 2048 + r.val % 2048) * 7168 + j.val) / 7168 % 2048 = r.val % 2048; omega
  | ⟨3, _⟩ => show ((r.val / 2048 * 2048 + r.val % 2048) * 7168 + j.val) % 7168 = j.val; omega

/-- Point `t`'s block of the experts' weights is 128 of their rows. -/
theorem block_g (c : Dev nD) (t : Fin cfg0.N) (r : Fin 128) (j : Fin 7168) :
    iblk m c 2 t (ix2 r j) = gOf m c (ix4 0 ⟨(t.val * 128 + r.val) / 2048, by have := point_lt t; omega⟩
      ⟨(t.val * 128 + r.val) % 2048, by omega⟩ j) := by
  have hp := point_lt t
  blk_simp [iblk, idx t]; entry_read; pointwise; blk_ext [idx t]

/-- The experts' weights after the run, cast, are the reference's. -/
theorem final4 (c : Dev nD) : (dats m 0 c).arrAt 4 cfg0.N = val_main_v6 (F := Ideal) (gOf m c) := by
  refine (dats m 0 c).arrAt_eq_of_covers 4 _ (by decide +kernel) fun t _ y => ?_
  blk_simp
  rw [after0_4]
  idx_vars y
  unfold out0_4
  refine (Cert.ProjKernelIdeal.Value.canon4_eq _ _).trans ?_
  have hp := point_lt t
  refine Eq.trans (b := iblk m c 2 t (ix2 y0 y1)) (by pointwise []; blk_ext []) ?_
  rw [block_g]
  refine (result1_at (gOf m c) ⟨t.val * 128 + y0.val, by omega⟩ y1).symm.trans ?_
  blk_ext [idx t]

end Cert.Projection
end
-- ==== Proof.ProjClaims.lean ====
/- The claims about the input projection. -/
module

public import proofs.«01_k».proof.Proof.ProjKernelValue
public import proofs.«01_k».proof.Defs
public import proofs.«01_k».proof.Proof.Gen.ProjReferenceIdeal.Run
public import Idealize.ShloMosaic.Lib.Quiescent

@[expose] public section

set_option maxRecDepth 16384

noncomputable section

open Idealize.ShloMosaic Idealize.ShloMosaic.TcCoe Idealize.SL.Sem

namespace Cert.Projection

/-- The projection's reference ends without a fault and leaves its arguments. -/
theorem frame_reference : Cert.quiescent_ProjReferenceIdeal := fun m ρ _ =>
  (θ_run Cert.ProjReferenceIdeal.defs _ _).mono (fun r h => ⟨fun c => (h c).2.2,
      Idealize.ShloMosaic.sem_eq_zero_of_no_sems (by decide) r.2⟩)
    (Cert.ProjReferenceIdeal.Value.run (F := Ideal) m ρ)

/-- Kernel and reference leave the same projection and the same cast of the experts' weights. -/
theorem algebraic : Cert.algebraic_ProjKernelIdeal_ProjReferenceIdeal := by
  intro m g m' g' hpre hagree
  refine ⟨fun c => _, fun c => _, Cert.ProjKernelIdeal.Value.run_blocks m g, ?_⟩
  refine (θ_run Cert.ProjReferenceIdeal.defs _ _).mono (fun r h c => ?_) (Cert.ProjReferenceIdeal.Value.run (F := Ideal) m' g')
  obtain ⟨h0, h1, h2⟩ := h c
  obtain ⟨e0, e1, e2⟩ := hagree c
  refine ⟨h0.trans ((Cert.ProjReferenceIdeal.Read.val_main_v3_eq _ _).trans ?_),
    h1.trans ((Cert.ProjReferenceIdeal.Read.val_main_v6_eq _).trans ?_), h2⟩
  · exact (congrArg₂ (Cert.ProjReferenceIdeal.Read.val_main_v3 (F := Ideal)) e0 e1).trans (final3 m c).symm
  · exact (congrArg (Cert.ProjReferenceIdeal.Read.val_main_v6 (F := Ideal)) e2).trans (final4 m c).symm

end Cert.Projection
end
-- ==== Proof.LateProjKernelValue.lean ====
/- The second layer's input projection kernel's two result arrays, as the reference's functions of the arguments. -/
module

public import proofs.«01_k».proof.Proof.Gen.LateProjKernelIdeal.Value
public import proofs.«01_k».proof.Proof.Gen.LateProjReferenceIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LateProjection

open Cert.LateProjKernelIdeal Cert.LateProjKernelIdeal.Gen
open Cert.LateProjReferenceIdeal.Read

variable (m : (ℓ : Loc nD τ sig) → Buf (Elt Ideal) ℓ)

/-- Every window's block index at a grid point: point `t` is row block `t / 8` and column block `t % 8`; the
    experts' weights are cast in 128 row blocks, one a point. -/
theorem idx : ∀ t : Fin cfg0.N, win0_0.index t = ![t.val / 8, 0] ∧ win0_1.index t = ![0, t.val % 8]
    ∧ win0_2.index t = ![t.val, 0] ∧ win0_3.index t = ![t.val / 8, t.val % 8] ∧ win0_4.index t = ![t.val, 0] :=
  (by decide +kernel : ∀ t : Fin grid0.N, _)

theorem point_lt (t : Fin cfg0.N) : t.val < 128 := lt_of_lt_of_eq t.isLt N_0

abbrev hOf (c : Dev nD) : FVec Ideal S16384x2048 .bf16 := m ((c : Thread nD τ).loc main_arg0)
abbrev wOf (c : Dev nD) : FVec Ideal S2x2048x12288 .f32 := m ((c : Thread nD τ).loc main_arg1)
abbrev gOf (c : Dev nD) : FVec Ideal S1x8x2048x7168 .f32 := m ((c : Thread nD τ).loc main_arg2)

/-- Rows of `h` against columns of the second layer's projection. -/
def proj (h : FVec Ideal S16384x2048 .bf16) (w : FVec Ideal S2x2048x12288 .f32) (r : Fin 16384) (j : Fin 12288) : EReal :=
  ∑ k : Fin 2048, (h (ix2 r k) : EReal) * w (ix3 1 k j)

/-- The reference's projection at an element. -/
theorem result0_at (h : FVec Ideal S16384x2048 .bf16) (w : FVec Ideal S2x2048x12288 .f32) (r : Fin 16384) (j : Fin 12288) :
    val_main_v3 (F := Ideal) h w (ix2 r j) = proj h w r j := by
  rw [val_main_v3_apply]
  refine Finset.sum_congr rfl fun k _ => ?_
  have el : lidx_main_v3 (ix2 r j) k = ix2 r k := funext fun a => match a with | ⟨0, _⟩ => rfl | ⟨1, _⟩ => rfl
  have er : ridx_main_v3 (ix2 r j) k = ix2 k j := funext fun a => match a with | ⟨0, _⟩ => rfl | ⟨1, _⟩ => rfl
  rw [el, er, val_main_v2_apply, val_main_v1_apply]
  have ew : idx_main_v1 (idx_main_v2 (ix2 k j)) = ix3 1 k j := funext fun a => Fin.ext (match a with
    | ⟨0, _⟩ => rfl
    | ⟨1, _⟩ => by show (k.val * 12288 + j.val) / 12288 % 2048 = k.val; omega
    | ⟨2, _⟩ => by show (k.val * 12288 + j.val) % 12288 = j.val; omega)
  rw [ew]
  rfl

/-- Point `t`'s block of `h` is 1024 of its rows. -/
theorem block_h (c : Dev nD) (t : Fin cfg0.N) (r : Fin 1024) (k : Fin 2048) :
    iblk m c 0 t (ix2 r k) = hOf m c (ix2 ⟨t.val / 8 * 1024 + r.val, by have := point_lt t; omega⟩ k) := by
  blk_ext [iblk, V, idx t]

/-- Point `t`'s block of the weights is 1536 columns of the second layer's. -/
theorem block_w (c : Dev nD) (t : Fin cfg0.N) (k : Fin 2048) (j : Fin 1536) :
    iblk m c 1 t (ix2 k j) = wOf m c (ix3 1 k ⟨t.val % 8 * 1536 + j.val, by omega⟩) := by
  blk_simp [iblk, idx t]; entry_read; pointwise; blk_ext [idx t]

/-- What the body leaves in the projection's block. -/
theorem out3_at (x : Vec Ideal S1024x2048 .bf16) (w : Vec Ideal S2048x1536 .bf16) (g : Vec Ideal S128x7168 .f32) (r : Fin 1024) (j : Fin 1536) :
    out0_3 x w g (ix2 r j) = ∑ k : Fin 2048, (x (ix2 r k) : EReal) * w (ix2 k j) := by
  unfold out0_3
  canon_tiles x h
  obtain rfl : r = x 0 := Fin.ext h0
  obtain rfl : j = x 1 := Fin.ext h1
  obtain ⟨r, j, rfl⟩ : ∃ (r : Fin 1024) (j : Fin 1536), x = ix2 r j := ⟨x 0, x 1, funext fun a => match a with | 0 => rfl | 1 => rfl⟩
  pointwise [k0_pay1]
  blk_ext []

/-- The projection after the run is the reference's. -/
theorem final3 (c : Dev nD) : (dats m 0 c).arrAt 3 cfg0.N = val_main_v3 (F := Ideal) (hOf m c) (wOf m c) := by
  refine (dats m 0 c).arrAt_eq_of_covers 3 _ (by decide +kernel) fun t _ y => ?_
  blk_simp
  rw [after0_3]
  idx_vars y
  refine (out3_at _ _ _ y0 y1).trans ?_
  simp only [block_h, block_w]
  have hp := point_lt t
  refine (result0_at (hOf m c) (wOf m c) ⟨t.val / 8 * 1024 + y0.val, by omega⟩ ⟨t.val % 8 * 1536 + y1.val, by omega⟩).symm.trans ?_
  blk_ext [idx t]

/-- The reference's cast of the experts' weights at an element: row `r` is expert `r / 2048`, row `r % 2048`. -/
theorem result1_at (g : FVec Ideal S1x8x2048x7168 .f32) (r : Fin 16384) (j : Fin 7168) :
    val_main_v6 (F := Ideal) g (ix2 r j) = g (ix4 0 ⟨r.val / 2048, by omega⟩ ⟨r.val % 2048, by omega⟩ j) := by
  rw [val_main_v6_apply, val_main_v5_apply, val_main_v4_apply]
  refine congrArg g (funext fun a => Fin.ext ?_)
  have h5 : idx_main_v5 (ix2 r j) = ix3 ⟨r.val / 2048, by omega⟩ ⟨r.val % 2048, by omega⟩ j := funext fun a => Fin.ext (match a with
    | ⟨0, _⟩ => by show (r.val * 7168 + j.val) / 14680064 = r.val / 2048; omega
    | ⟨1, _⟩ => by show (r.val * 7168 + j.val) / 7168 % 2048 = r.val % 2048; omega
    | ⟨2, _⟩ => by show (r.val * 7168 + j.val) % 7168 = j.val; omega)
  rw [h5]
  match a with
  | ⟨0, _⟩ => rfl
  | ⟨1, _⟩ => show ((r.val / 2048 * 2048 + r.val % 2048) * 7168 + j.val) / 14680064 % 8 = r.val / 2048; omega
  | ⟨2, _⟩ => show ((r.val / 2048 * 2048 + r.val % 2048) * 7168 + j.val) / 7168 % 2048 = r.val % 2048; omega
  | ⟨3, _⟩ => show ((r.val / 2048 * 2048 + r.val % 2048) * 7168 + j.val) % 7168 = j.val; omega

/-- Point `t`'s block of the experts' weights is 128 of their rows. -/
theorem block_g (c : Dev nD) (t : Fin cfg0.N) (r : Fin 128) (j : Fin 7168) :
    iblk m c 2 t (ix2 r j) = gOf m c (ix4 0 ⟨(t.val * 128 + r.val) / 2048, by have := point_lt t; omega⟩
      ⟨(t.val * 128 + r.val) % 2048, by omega⟩ j) := by
  have hp := point_lt t
  blk_simp [iblk, idx t]; entry_read; pointwise; blk_ext [idx t]

/-- The experts' weights after the run, cast, are the reference's. -/
theorem final4 (c : Dev nD) : (dats m 0 c).arrAt 4 cfg0.N = val_main_v6 (F := Ideal) (gOf m c) := by
  refine (dats m 0 c).arrAt_eq_of_covers 4 _ (by decide +kernel) fun t _ y => ?_
  blk_simp
  rw [after0_4]
  idx_vars y
  unfold out0_4
  refine (Cert.LateProjKernelIdeal.Value.canon4_eq _ _).trans ?_
  have hp := point_lt t
  refine Eq.trans (b := iblk m c 2 t (ix2 y0 y1)) (by pointwise []; blk_ext []) ?_
  rw [block_g]
  refine (result1_at (gOf m c) ⟨t.val * 128 + y0.val, by omega⟩ y1).symm.trans ?_
  blk_ext [idx t]

end Cert.LateProjection
end
-- ==== Proof.LateProjClaims.lean ====
/- The claims about the second layer's input projection. -/
module

public import proofs.«01_k».proof.Proof.LateProjKernelValue
public import proofs.«01_k».proof.Defs
public import proofs.«01_k».proof.Proof.Gen.LateProjReferenceIdeal.Run
public import Idealize.ShloMosaic.Lib.Quiescent

@[expose] public section

set_option maxRecDepth 16384

noncomputable section

open Idealize.ShloMosaic Idealize.ShloMosaic.TcCoe Idealize.SL.Sem

namespace Cert.LateProjection

/-- The projection's reference ends without a fault and leaves its arguments. -/
theorem frame_reference : Cert.quiescent_LateProjReferenceIdeal := fun m ρ _ =>
  (θ_run Cert.LateProjReferenceIdeal.defs _ _).mono (fun r h => ⟨fun c => (h c).2.2,
      Idealize.ShloMosaic.sem_eq_zero_of_no_sems (by decide) r.2⟩)
    (Cert.LateProjReferenceIdeal.Value.run (F := Ideal) m ρ)

/-- Kernel and reference leave the same projection and the same cast of the experts' weights. -/
theorem algebraic : Cert.algebraic_LateProjKernelIdeal_LateProjReferenceIdeal := by
  intro m g m' g' hpre hagree
  refine ⟨fun c => _, fun c => _, Cert.LateProjKernelIdeal.Value.run_blocks m g, ?_⟩
  refine (θ_run Cert.LateProjReferenceIdeal.defs _ _).mono (fun r h c => ?_) (Cert.LateProjReferenceIdeal.Value.run (F := Ideal) m' g')
  obtain ⟨h0, h1, h2⟩ := h c
  obtain ⟨e0, e1, e2⟩ := hagree c
  refine ⟨h0.trans ((Cert.LateProjReferenceIdeal.Read.val_main_v3_eq _ _).trans ?_),
    h1.trans ((Cert.LateProjReferenceIdeal.Read.val_main_v6_eq _).trans ?_), h2⟩
  · exact (congrArg₂ (Cert.LateProjReferenceIdeal.Read.val_main_v3 (F := Ideal)) e0 e1).trans (final3 m c).symm
  · exact (congrArg (Cert.LateProjReferenceIdeal.Read.val_main_v6 (F := Ideal)) e2).trans (final4 m c).symm

end Cert.LateProjection
end
-- ==== Proof.MergeKernelValue.lean ====
/- The merge kernel's result array, as the reference's function of the arguments. -/
module

public import proofs.«01_k».proof.Proof.Gen.MergeKernelIdeal.Value
public import proofs.«01_k».proof.Proof.Gen.MergeReferenceIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

open Cert.MergeKernelIdeal Cert.MergeKernelIdeal.Gen
open Cert.MergeReferenceIdeal.Read

variable (m : (ℓ : Loc nD τ sig) → Buf (Elt Ideal) ℓ)

/-- Every window's block index at a grid point: point `t` is row block `t / 2` and column block `t % 2`; the first
    sixteen row blocks are the prompt's, the others the samples'. -/
theorem idx : ∀ t : Fin cfg0.N, win0_0.index t = ![min (t.val / 2) 15, 0] ∧ win0_1.index t = ![t.val / 2 - 16, 0]
    ∧ win0_2.index t = ![min (t.val / 2) 15, 0] ∧ win0_3.index t = ![t.val / 2 - 16, 0]
    ∧ win0_4.index t = ![0, t.val % 2] ∧ win0_5.index t = ![0, t.val % 2]
    ∧ win0_6.index t = ![t.val / 2, 8 + t.val % 2] ∧ win0_7.index t = ![t.val / 2, 10 + t.val % 2]
    ∧ win0_8.index t = ![t.val / 2, t.val % 2] :=
  (by decide +kernel : ∀ t : Fin grid0.N, _)

theorem point_lt (t : Fin cfg0.N) : t.val < 64 := lt_of_lt_of_eq t.isLt N_0

abbrev yapOf (c : Dev nD) : FVec Ideal S8192x1024 .bf16 := m ((c : Thread nD τ).loc main_arg0)
abbrev yasOf (c : Dev nD) : FVec Ideal S8192x1024 .bf16 := m ((c : Thread nD τ).loc main_arg1)
abbrev ybpOf (c : Dev nD) : FVec Ideal S8192x1024 .bf16 := m ((c : Thread nD τ).loc main_arg2)
abbrev ybsOf (c : Dev nD) : FVec Ideal S8192x1024 .bf16 := m ((c : Thread nD τ).loc main_arg3)
abbrev whOf (c : Dev nD) : FVec Ideal S2x1024x2048 .f32 := m ((c : Thread nD τ).loc main_arg4)
abbrev wnOf (c : Dev nD) : FVec Ideal S2x1024x2048 .f32 := m ((c : Thread nD τ).loc main_arg5)
abbrev zOf (c : Dev nD) : FVec Ideal S16384x12288 .f32 := m ((c : Thread nD τ).loc main_arg6)

/-- Row `r` of the prompt's rows followed by the samples'. -/
def rowOf (p s : FVec Ideal S8192x1024 .bf16) (r : Fin 16384) (k : Fin 1024) : EReal :=
  if h : r.val < 8192 then p (ix2 ⟨r.val, h⟩ k) else s (ix2 ⟨r.val - 8192, by omega⟩ k)

/-- One branch's rows against columns of the first layer's weights. -/
def branch (p s : FVec Ideal S8192x1024 .bf16) (w : FVec Ideal S2x1024x2048 .f32) (r : Fin 16384) (j : Fin 2048) : EReal :=
  ∑ k : Fin 1024, rowOf p s r k * w (ix3 0 k j)

/-- Point `t`'s block of the prompt's rows of the first branch: the last one once the samples' rows have begun. -/
theorem block_yap (c : Dev nD) (t : Fin cfg0.N) (r : Fin 512) (k : Fin 1024) :
    iblk m c 0 t (ix2 r k) = yapOf m c (ix2 ⟨min (t.val / 2) 15 * 512 + r.val, by omega⟩ k) := by
  blk_ext [iblk, V, idx t]

theorem block_yas (c : Dev nD) (t : Fin cfg0.N) (r : Fin 512) (k : Fin 1024) :
    iblk m c 1 t (ix2 r k) = yasOf m c (ix2 ⟨(t.val / 2 - 16) * 512 + r.val, by have := point_lt t; omega⟩ k) := by
  blk_ext [iblk, V, idx t]

theorem block_ybp (c : Dev nD) (t : Fin cfg0.N) (r : Fin 512) (k : Fin 1024) :
    iblk m c 2 t (ix2 r k) = ybpOf m c (ix2 ⟨min (t.val / 2) 15 * 512 + r.val, by omega⟩ k) := by
  blk_ext [iblk, V, idx t]

theorem block_ybs (c : Dev nD) (t : Fin cfg0.N) (r : Fin 512) (k : Fin 1024) :
    iblk m c 3 t (ix2 r k) = ybsOf m c (ix2 ⟨(t.val / 2 - 16) * 512 + r.val, by have := point_lt t; omega⟩ k) := by
  blk_ext [iblk, V, idx t]

/-- Point `t`'s block of the weights is 1024 columns of the first layer's. -/
theorem block_wh (c : Dev nD) (t : Fin cfg0.N) (k : Fin 1024) (j : Fin 1024) :
    iblk m c 4 t (ix2 k j) = whOf m c (ix3 0 k ⟨t.val % 2 * 1024 + j.val, by omega⟩) := by
  blk_simp [iblk, idx t]; entry_read; pointwise; blk_ext [idx t]

theorem block_wn (c : Dev nD) (t : Fin cfg0.N) (k : Fin 1024) (j : Fin 1024) :
    iblk m c 5 t (ix2 k j) = wnOf m c (ix3 0 k ⟨t.val % 2 * 1024 + j.val, by omega⟩) := by
  blk_simp [iblk, idx t]; entry_read; pointwise; blk_ext [idx t]

/-- Point `t`'s blocks of the gates. -/
theorem block_ga (c : Dev nD) (t : Fin cfg0.N) (r : Fin 512) (j : Fin 1024) :
    iblk m c 6 t (ix2 r j) = zOf m c (ix2 ⟨t.val / 2 * 512 + r.val, by have := point_lt t; omega⟩
      ⟨8192 + (t.val % 2 * 1024 + j.val), by omega⟩) := by
  blk_ext [iblk, V, idx t]

theorem block_gb (c : Dev nD) (t : Fin cfg0.N) (r : Fin 512) (j : Fin 1024) :
    iblk m c 7 t (ix2 r j) = zOf m c (ix2 ⟨t.val / 2 * 512 + r.val, by have := point_lt t; omega⟩
      ⟨10240 + (t.val % 2 * 1024 + j.val), by omega⟩) := by
  blk_ext [iblk, V, idx t]

/-- A gated sum of the two branches at one element. -/
def gatedSum (ga a gb b : EReal) : EReal := Ideal.logistic ga * a + Ideal.logistic gb * b

/-- What the body leaves in the result's block: the prompt's rows at the first sixteen row blocks, else the samples'. -/
theorem out8_at (t : Fin cfg0.N) (p s p' s' : Vec Ideal S512x1024 .bf16) (w w' : Vec Ideal S1024x1024 .bf16)
    (ga gb : Vec Ideal S512x1024 .f32) (r : Fin 512) (j : Fin 1024) :
    out0_8 (grid0.coords t) p s p' s' w w' ga gb (ix2 r j)
      = gatedSum (ga (ix2 r j)) (∑ k : Fin 1024, ((if t.val / 2 < 16 then p else s) (ix2 r k) : EReal) * w (ix2 k j))
          (gb (ix2 r j)) (∑ k : Fin 1024, ((if t.val / 2 < 16 then p' else s') (ix2 r k) : EReal) * w' (ix2 k j)) := by
  have hsel : ∀ t : Fin cfg0.N, Scalar.cmpi .slt (BitVec.ofNat 32 (grid0.coords t 0).val) 16#32 = if t.val / 2 < 16 then 1#1 else 0#1 :=
    (by decide +kernel : ∀ t : Fin grid0.N, _)
  have hs := hsel t
  have s1 : ∀ a b : Vec Ideal S512x1024 .bf16, Scalar.select 1#1 a b = a := fun _ _ => rfl
  have s0 : ∀ a b : Vec Ideal S512x1024 .bf16, Scalar.select 0#1 a b = b := fun _ _ => rfl
  unfold out0_8
  canon_tiles x h
  obtain rfl : r = x 0 := Fin.ext h0
  obtain rfl : j = x 1 := Fin.ext h1
  obtain ⟨r, j, rfl⟩ : ∃ (r : Fin 512) (j : Fin 1024), x = ix2 r j := ⟨x 0, x 1, funext fun a => match a with | 0 => rfl | 1 => rfl⟩
  unfold k0_pay1
  simp only [hs]
  by_cases hc : t.val / 2 < 16
  · simp only [hc, if_true, s1]
    pointwise []
    exact congrArg₂ (fun a b => Ideal.logistic (ga (ix2 r j)) * a + Ideal.logistic (gb (ix2 r j)) * b)
      (Finset.sum_congr rfl fun k _ => by blk_ext []) (Finset.sum_congr rfl fun k _ => by blk_ext [])
  · simp only [hc, if_false, s0]
    pointwise []
    exact congrArg₂ (fun a b => Ideal.logistic (ga (ix2 r j)) * a + Ideal.logistic (gb (ix2 r j)) * b)
      (Finset.sum_congr rfl fun k _ => by blk_ext []) (Finset.sum_congr rfl fun k _ => by blk_ext [])

theorem lit_one : Ideal.ofBits .f32 0x3F800000#32 = 1 := by
  simp [Ideal.ofBits, Ideal.ieee]
  rw [← EReal.coe_mul]
  norm_num

/-- The reference's joined rows at an element. -/
theorem joined_at (p s : FVec Ideal S8192x1024 .bf16) (r : Fin 16384) (k : Fin 1024) :
    val_main_v0 (F := Ideal) p s (ix2 r k) = rowOf p s r k := by
  unfold rowOf
  by_cases h : r.val < 8192
  · rw [dif_pos h]
    exact concatenate_pair_apply_left 0 p s _ (ix2 r k) rfl (ix2 ⟨r.val, h⟩ k) (fun b => match b with | ⟨0, _⟩ => rfl | ⟨1, _⟩ => rfl)
  · rw [dif_neg h]
    exact concatenate_pair_apply_right 0 p s _ (ix2 r k) rfl rfl (ix2 ⟨r.val - 8192, by omega⟩ k)
      (fun b hb => match b with | ⟨0, _⟩ => absurd rfl hb | ⟨1, _⟩ => rfl)
      (by show r.val - 8192 + 8192 = r.val; omega)

/-- The reference's product of the first branch. -/
theorem branch_a (p s : FVec Ideal S8192x1024 .bf16) (w : FVec Ideal S2x1024x2048 .f32) (r : Fin 16384) (j : Fin 2048) :
    val_main_v15 (F := Ideal) p s w (ix2 r j) = branch p s w r j := by
  rw [val_main_v15_apply]
  refine Finset.sum_congr rfl fun k _ => ?_
  have el : lidx_main_v15 (ix2 r j) k = ix2 r k := funext fun a => match a with | ⟨0, _⟩ => rfl | ⟨1, _⟩ => rfl
  have er : ridx_main_v15 (ix2 r j) k = ix2 k j := funext fun a => match a with | ⟨0, _⟩ => rfl | ⟨1, _⟩ => rfl
  rw [el, er, val_main_v14_apply, val_main_v13_apply, val_main_v1_apply]
  have ew : idx_main_v13 (idx_main_v14 (ix2 k j)) = ix3 0 k j := funext fun a => Fin.ext (match a with
    | ⟨0, _⟩ => rfl
    | ⟨1, _⟩ => by show (k.val * 2048 + j.val) / 2048 % 1024 = k.val; omega
    | ⟨2, _⟩ => by show (k.val * 2048 + j.val) % 2048 = j.val; omega)
  rw [ew]
  exact congrArg (fun x : EReal => x * w (ix3 0 k j)) (joined_at p s r k)

/-- The reference's product of the second branch. -/
theorem branch_b (p s : FVec Ideal S8192x1024 .bf16) (w : FVec Ideal S2x1024x2048 .f32) (r : Fin 16384) (j : Fin 2048) :
    val_main_v25 (F := Ideal) p s w (ix2 r j) = branch p s w r j := by
  rw [val_main_v25_apply]
  refine Finset.sum_congr rfl fun k _ => ?_
  have el : lidx_main_v25 (ix2 r j) k = ix2 r k := funext fun a => match a with | ⟨0, _⟩ => rfl | ⟨1, _⟩ => rfl
  have er : ridx_main_v25 (ix2 r j) k = ix2 k j := funext fun a => match a with | ⟨0, _⟩ => rfl | ⟨1, _⟩ => rfl
  rw [el, er, val_main_v24_apply, val_main_v23_apply, val_main_v3_apply]
  have ew : idx_main_v23 (idx_main_v24 (ix2 k j)) = ix3 0 k j := funext fun a => Fin.ext (match a with
    | ⟨0, _⟩ => rfl
    | ⟨1, _⟩ => by show (k.val * 2048 + j.val) / 2048 % 1024 = k.val; omega
    | ⟨2, _⟩ => by show (k.val * 2048 + j.val) % 2048 = j.val; omega)
  rw [ew]
  exact congrArg (fun x : EReal => x * w (ix3 0 k j)) (joined_at p s r k)

/-- The reference's first gate at an element. -/
theorem gate_a (z : FVec Ideal S16384x12288 .f32) (r : Fin 16384) (j : Fin 2048) :
    val_main_v12 (F := Ideal) z (ix2 r j) = Ideal.logistic (z (ix2 r ⟨8192 + j.val, by omega⟩)) := by
  have ez : idx_main_v4 (idx_main_v5 (ix2 r j)) = ix2 r ⟨8192 + j.val, by omega⟩ := funext fun a => Fin.ext (match a with
    | ⟨0, _⟩ => rfl
    | ⟨1, _⟩ => rfl)
  rw [val_main_v12_apply, val_main_v11_apply, val_main_cst_0_apply, val_main_v10_apply, val_main_v9_apply, val_main_cst_apply,
    val_main_v8_apply, val_main_v7_apply, val_main_v5_apply, val_main_v4_apply, ez]
  show Ideal.div (Ideal.ofBits .f32 0x3F800000#32) (Ideal.ofBits .f32 0x3F800000#32 + Ideal.exp (-(z _))) = _
  rw [lit_one]
  rfl

/-- The reference's second gate at an element. -/
theorem gate_b (z : FVec Ideal S16384x12288 .f32) (r : Fin 16384) (j : Fin 2048) :
    val_main_v22 (F := Ideal) z (ix2 r j) = Ideal.logistic (z (ix2 r ⟨10240 + j.val, by omega⟩)) := by
  have ez : idx_main_v4 (idx_main_v6 (ix2 r j)) = ix2 r ⟨10240 + j.val, by omega⟩ := funext fun a => Fin.ext (match a with
    | ⟨0, _⟩ => rfl
    | ⟨1, _⟩ => by show 8192 + (2048 + j.val) = 10240 + j.val; omega)
  rw [val_main_v22_apply, val_main_v21_apply, val_main_cst_2_apply, val_main_v20_apply, val_main_v19_apply, val_main_cst_1_apply,
    val_main_v18_apply, val_main_v17_apply, val_main_v6_apply, val_main_v4_apply, ez]
  show Ideal.div (Ideal.ofBits .f32 0x3F800000#32) (Ideal.ofBits .f32 0x3F800000#32 + Ideal.exp (-(z _))) = _
  rw [lit_one]
  rfl

/-- The reference's result at an element. -/
theorem result_at (p s p' s' : FVec Ideal S8192x1024 .bf16) (w w' : FVec Ideal S2x1024x2048 .f32)
    (z : FVec Ideal S16384x12288 .f32) (r : Fin 16384) (j : Fin 2048) :
    val_main_v28 (F := Ideal) p s p' s' w w' z (ix2 r j)
      = gatedSum (z (ix2 r ⟨8192 + j.val, by omega⟩)) (branch p s w r j) (z (ix2 r ⟨10240 + j.val, by omega⟩)) (branch p' s' w' r j) := by
  rw [val_main_v28_apply, val_main_v27_apply, val_main_v16_apply, val_main_v26_apply, gate_a, gate_b, branch_a, branch_b]
  rfl

/-- A row of the chosen block is the row of the joined rows. -/
theorem chosen (p s : FVec Ideal S8192x1024 .bf16) (x y : FVec Ideal S512x1024 .bf16) (n : Nat) (hn : n < 32) (r : Fin 512) (k : Fin 1024)
    (hx : x (ix2 r k) = p (ix2 ⟨min n 15 * 512 + r.val, by omega⟩ k))
    (hy : y (ix2 r k) = s (ix2 ⟨(n - 16) * 512 + r.val, by omega⟩ k)) :
    (if n < 16 then x else y) (ix2 r k) = rowOf p s ⟨n * 512 + r.val, by omega⟩ k := by
  unfold rowOf
  by_cases h : n < 16
  · rw [if_pos h, dif_pos (show n * 512 + r.val < 8192 by omega), hx]
    exact congrArg (fun i => p (ix2 i k)) (Fin.ext (by show min n 15 * 512 + r.val = n * 512 + r.val; rw [Nat.min_eq_left (by omega)]))
  · rw [if_neg h, dif_neg (show ¬ n * 512 + r.val < 8192 by omega), hy]
    exact congrArg (fun i => s (ix2 i k)) (Fin.ext (by show (n - 16) * 512 + r.val = n * 512 + r.val - 8192; omega))

/-- The merged rows after the run are the reference's. -/
theorem final (c : Dev nD) : (dats m 0 c).arrAt 8 cfg0.N
    = val_main_v28 (F := Ideal) (yapOf m c) (yasOf m c) (ybpOf m c) (ybsOf m c) (whOf m c) (wnOf m c) (zOf m c) := by
  refine (dats m 0 c).arrAt_eq_of_covers 8 _ (by decide +kernel) fun t _ y => ?_
  blk_simp
  rw [after0_8]
  idx_vars y
  have hp := point_lt t
  refine (out8_at t _ _ _ _ _ _ _ _ y0 y1).trans ?_
  simp only [block_wh, block_wn, block_ga, block_gb,
    fun k => chosen (yapOf m c) (yasOf m c) (iblk m c 0 t) (iblk m c 1 t) (t.val / 2) (by omega) y0 k (block_yap m c t y0 k) (block_yas m c t y0 k),
    fun k => chosen (ybpOf m c) (ybsOf m c) (iblk m c 2 t) (iblk m c 3 t) (t.val / 2) (by omega) y0 k (block_ybp m c t y0 k) (block_ybs m c t y0 k)]
  refine (result_at (yapOf m c) (yasOf m c) (ybpOf m c) (ybsOf m c) (whOf m c) (wnOf m c) (zOf m c)
    ⟨t.val / 2 * 512 + y0.val, by omega⟩ ⟨t.val % 2 * 1024 + y1.val, by omega⟩).symm.trans ?_
  blk_ext [idx t]

end Cert.Merge
end
-- ==== Proof.MergeClaims.lean ====
/- The claims about the merge of the two branches. -/
module

public import proofs.«01_k».proof.Proof.MergeKernelValue
public import proofs.«01_k».proof.Defs
public import proofs.«01_k».proof.Proof.Gen.MergeReferenceIdeal.Run
public import Idealize.ShloMosaic.Lib.Quiescent

@[expose] public section

set_option maxRecDepth 16384

noncomputable section

open Idealize.ShloMosaic Idealize.ShloMosaic.TcCoe Idealize.SL.Sem

namespace Cert.Merge

/-- The merge's reference ends without a fault and leaves its arguments. -/
theorem frame_reference : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

/-- Kernel and reference leave the same merged rows. -/
theorem algebraic : Cert.algebraic_MergeKernelIdeal_MergeReferenceIdeal := by
  intro m g m' g' hpre hagree
  refine ⟨fun c => _, Cert.MergeKernelIdeal.Value.run_blocks m g, ?_⟩
  refine (θ_run Cert.MergeReferenceIdeal.defs _ _).mono (fun r h c => ?_) (Cert.MergeReferenceIdeal.Value.run (F := Ideal) m' g')
  obtain ⟨h0, h1⟩ := h c
  obtain ⟨e0, e1, e2, e3, e4, e5, e6⟩ := hagree c
  refine ⟨h0.trans ((Cert.MergeReferenceIdeal.Read.val_main_v28_eq _ _ _ _ _ _ _).trans ?_), h1⟩
  refine Eq.trans ?_ (final m c).symm
  exact (congr (congr (congr (congr (congr (congr (congrArg (Cert.MergeReferenceIdeal.Read.val_main_v28 (F := Ideal)) e0) e1) e2) e3) e4) e5) e6)

end Cert.Merge
end
-- ==== Proof.LateMergeKernelValue.lean ====
/- The second layer's merge kernel's result array, as the reference's function of the arguments. -/
module

public import proofs.«01_k».proof.Proof.Gen.LateMergeKernelIdeal.Value
public import proofs.«01_k».proof.Proof.Gen.LateMergeReferenceIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LateMerge

open Cert.LateMergeKernelIdeal Cert.LateMergeKernelIdeal.Gen
open Cert.LateMergeReferenceIdeal.Read

variable (m : (ℓ : Loc nD τ sig) → Buf (Elt Ideal) ℓ)

/-- Every window's block index at a grid point: point `t` is row block `t / 2` and column block `t % 2`; the first
    sixteen row blocks are the prompt's, the others the samples'. -/
theorem idx : ∀ t : Fin cfg0.N, win0_0.index t = ![min (t.val / 2) 15, 0] ∧ win0_1.index t = ![t.val / 2 - 16, 0]
    ∧ win0_2.index t = ![min (t.val / 2) 15, 0] ∧ win0_3.index t = ![t.val / 2 - 16, 0]
    ∧ win0_4.index t = ![0, t.val % 2] ∧ win0_5.index t = ![0, t.val % 2]
    ∧ win0_6.index t = ![t.val / 2, 8 + t.val % 2] ∧ win0_7.index t = ![t.val / 2, 10 + t.val % 2]
    ∧ win0_8.index t = ![t.val / 2, t.val % 2] :=
  (by decide +kernel : ∀ t : Fin grid0.N, _)

theorem point_lt (t : Fin cfg0.N) : t.val < 64 := lt_of_lt_of_eq t.isLt N_0

abbrev yapOf (c : Dev nD) : FVec Ideal S8192x1024 .bf16 := m ((c : Thread nD τ).loc main_arg0)
abbrev yasOf (c : Dev nD) : FVec Ideal S8192x1024 .bf16 := m ((c : Thread nD τ).loc main_arg1)
abbrev ybpOf (c : Dev nD) : FVec Ideal S8192x1024 .bf16 := m ((c : Thread nD τ).loc main_arg2)
abbrev ybsOf (c : Dev nD) : FVec Ideal S8192x1024 .bf16 := m ((c : Thread nD τ).loc main_arg3)
abbrev whOf (c : Dev nD) : FVec Ideal S2x1024x2048 .f32 := m ((c : Thread nD τ).loc main_arg4)
abbrev wnOf (c : Dev nD) : FVec Ideal S2x1024x2048 .f32 := m ((c : Thread nD τ).loc main_arg5)
abbrev zOf (c : Dev nD) : FVec Ideal S16384x12288 .f32 := m ((c : Thread nD τ).loc main_arg6)

/-- Row `r` of the prompt's rows followed by the samples'. -/
def rowOf (p s : FVec Ideal S8192x1024 .bf16) (r : Fin 16384) (k : Fin 1024) : EReal :=
  if h : r.val < 8192 then p (ix2 ⟨r.val, h⟩ k) else s (ix2 ⟨r.val - 8192, by omega⟩ k)

/-- One branch's rows against columns of the second layer's weights. -/
def branch (p s : FVec Ideal S8192x1024 .bf16) (w : FVec Ideal S2x1024x2048 .f32) (r : Fin 16384) (j : Fin 2048) : EReal :=
  ∑ k : Fin 1024, rowOf p s r k * w (ix3 1 k j)

/-- Point `t`'s block of the prompt's rows of the first branch: the last one once the samples' rows have begun. -/
theorem block_yap (c : Dev nD) (t : Fin cfg0.N) (r : Fin 512) (k : Fin 1024) :
    iblk m c 0 t (ix2 r k) = yapOf m c (ix2 ⟨min (t.val / 2) 15 * 512 + r.val, by omega⟩ k) := by
  blk_ext [iblk, V, idx t]

theorem block_yas (c : Dev nD) (t : Fin cfg0.N) (r : Fin 512) (k : Fin 1024) :
    iblk m c 1 t (ix2 r k) = yasOf m c (ix2 ⟨(t.val / 2 - 16) * 512 + r.val, by have := point_lt t; omega⟩ k) := by
  blk_ext [iblk, V, idx t]

theorem block_ybp (c : Dev nD) (t : Fin cfg0.N) (r : Fin 512) (k : Fin 1024) :
    iblk m c 2 t (ix2 r k) = ybpOf m c (ix2 ⟨min (t.val / 2) 15 * 512 + r.val, by omega⟩ k) := by
  blk_ext [iblk, V, idx t]

theorem block_ybs (c : Dev nD) (t : Fin cfg0.N) (r : Fin 512) (k : Fin 1024) :
    iblk m c 3 t (ix2 r k) = ybsOf m c (ix2 ⟨(t.val / 2 - 16) * 512 + r.val, by have := point_lt t; omega⟩ k) := by
  blk_ext [iblk, V, idx t]

/-- Point `t`'s block of the weights is 1024 columns of the second layer's. -/
theorem block_wh (c : Dev nD) (t : Fin cfg0.N) (k : Fin 1024) (j : Fin 1024) :
    iblk m c 4 t (ix2 k j) = whOf m c (ix3 1 k ⟨t.val % 2 * 1024 + j.val, by omega⟩) := by
  blk_simp [iblk, idx t]; entry_read; pointwise; blk_ext [idx t]

theorem block_wn (c : Dev nD) (t : Fin cfg0.N) (k : Fin 1024) (j : Fin 1024) :
    iblk m c 5 t (ix2 k j) = wnOf m c (ix3 1 k ⟨t.val % 2 * 1024 + j.val, by omega⟩) := by
  blk_simp [iblk, idx t]; entry_read; pointwise; blk_ext [idx t]

/-- Point `t`'s blocks of the gates. -/
theorem block_ga (c : Dev nD) (t : Fin cfg0.N) (r : Fin 512) (j : Fin 1024) :
    iblk m c 6 t (ix2 r j) = zOf m c (ix2 ⟨t.val / 2 * 512 + r.val, by have := point_lt t; omega⟩
      ⟨8192 + (t.val % 2 * 1024 + j.val), by omega⟩) := by
  blk_ext [iblk, V, idx t]

theorem block_gb (c : Dev nD) (t : Fin cfg0.N) (r : Fin 512) (j : Fin 1024) :
    iblk m c 7 t (ix2 r j) = zOf m c (ix2 ⟨t.val / 2 * 512 + r.val, by have := point_lt t; omega⟩
      ⟨10240 + (t.val % 2 * 1024 + j.val), by omega⟩) := by
  blk_ext [iblk, V, idx t]

/-- A gated sum of the two branches at one element. -/
def gatedSum (ga a gb b : EReal) : EReal := Ideal.logistic ga * a + Ideal.logistic gb * b

/-- What the body leaves in the result's block: the prompt's rows at the first sixteen row blocks, else the samples'. -/
theorem out8_at (t : Fin cfg0.N) (p s p' s' : Vec Ideal S512x1024 .bf16) (w w' : Vec Ideal S1024x1024 .bf16)
    (ga gb : Vec Ideal S512x1024 .f32) (r : Fin 512) (j : Fin 1024) :
    out0_8 (grid0.coords t) p s p' s' w w' ga gb (ix2 r j)
      = gatedSum (ga (ix2 r j)) (∑ k : Fin 1024, ((if t.val / 2 < 16 then p else s) (ix2 r k) : EReal) * w (ix2 k j))
          (gb (ix2 r j)) (∑ k : Fin 1024, ((if t.val / 2 < 16 then p' else s') (ix2 r k) : EReal) * w' (ix2 k j)) := by
  have hsel : ∀ t : Fin cfg0.N, Scalar.cmpi .slt (BitVec.ofNat 32 (grid0.coords t 0).val) 16#32 = if t.val / 2 < 16 then 1#1 else 0#1 :=
    (by decide +kernel : ∀ t : Fin grid0.N, _)
  have hs := hsel t
  have s1 : ∀ a b : Vec Ideal S512x1024 .bf16, Scalar.select 1#1 a b = a := fun _ _ => rfl
  have s0 : ∀ a b : Vec Ideal S512x1024 .bf16, Scalar.select 0#1 a b = b := fun _ _ => rfl
  unfold out0_8
  canon_tiles x h
  obtain rfl : r = x 0 := Fin.ext h0
  obtain rfl : j = x 1 := Fin.ext h1
  obtain ⟨r, j, rfl⟩ : ∃ (r : Fin 512) (j : Fin 1024), x = ix2 r j := ⟨x 0, x 1, funext fun a => match a with | 0 => rfl | 1 => rfl⟩
  unfold k0_pay1
  simp only [hs]
  by_cases hc : t.val / 2 < 16
  · simp only [hc, if_true, s1]
    pointwise []
    exact congrArg₂ (fun a b => Ideal.logistic (ga (ix2 r j)) * a + Ideal.logistic (gb (ix2 r j)) * b)
      (Finset.sum_congr rfl fun k _ => by blk_ext []) (Finset.sum_congr rfl fun k _ => by blk_ext [])
  · simp only [hc, if_false, s0]
    pointwise []
    exact congrArg₂ (fun a b => Ideal.logistic (ga (ix2 r j)) * a + Ideal.logistic (gb (ix2 r j)) * b)
      (Finset.sum_congr rfl fun k _ => by blk_ext []) (Finset.sum_congr rfl fun k _ => by blk_ext [])

theorem lit_one : Ideal.ofBits .f32 0x3F800000#32 = 1 := by
  simp [Ideal.ofBits, Ideal.ieee]
  rw [← EReal.coe_mul]
  norm_num

/-- The reference's joined rows at an element. -/
theorem joined_at (p s : FVec Ideal S8192x1024 .bf16) (r : Fin 16384) (k : Fin 1024) :
    val_main_v0 (F := Ideal) p s (ix2 r k) = rowOf p s r k := by
  unfold rowOf
  by_cases h : r.val < 8192
  · rw [dif_pos h]
    exact concatenate_pair_apply_left 0 p s _ (ix2 r k) rfl (ix2 ⟨r.val, h⟩ k) (fun b => match b with | ⟨0, _⟩ => rfl | ⟨1, _⟩ => rfl)
  · rw [dif_neg h]
    exact concatenate_pair_apply_right 0 p s _ (ix2 r k) rfl rfl (ix2 ⟨r.val - 8192, by omega⟩ k)
      (fun b hb => match b with | ⟨0, _⟩ => absurd rfl hb | ⟨1, _⟩ => rfl)
      (by show r.val - 8192 + 8192 = r.val; omega)

/-- The reference's product of the first branch. -/
theorem branch_a (p s : FVec Ideal S8192x1024 .bf16) (w : FVec Ideal S2x1024x2048 .f32) (r : Fin 16384) (j : Fin 2048) :
    val_main_v15 (F := Ideal) p s w (ix2 r j) = branch p s w r j := by
  rw [val_main_v15_apply]
  refine Finset.sum_congr rfl fun k _ => ?_
  have el : lidx_main_v15 (ix2 r j) k = ix2 r k := funext fun a => match a with | ⟨0, _⟩ => rfl | ⟨1, _⟩ => rfl
  have er : ridx_main_v15 (ix2 r j) k = ix2 k j := funext fun a => match a with | ⟨0, _⟩ => rfl | ⟨1, _⟩ => rfl
  rw [el, er, val_main_v14_apply, val_main_v13_apply, val_main_v1_apply]
  have ew : idx_main_v13 (idx_main_v14 (ix2 k j)) = ix3 1 k j := funext fun a => Fin.ext (match a with
    | ⟨0, _⟩ => rfl
    | ⟨1, _⟩ => by show (k.val * 2048 + j.val) / 2048 % 1024 = k.val; omega
    | ⟨2, _⟩ => by show (k.val * 2048 + j.val) % 2048 = j.val; omega)
  rw [ew]
  exact congrArg (fun x : EReal => x * w (ix3 1 k j)) (joined_at p s r k)

/-- The reference's product of the second branch. -/
theorem branch_b (p s : FVec Ideal S8192x1024 .bf16) (w : FVec Ideal S2x1024x2048 .f32) (r : Fin 16384) (j : Fin 2048) :
    val_main_v25 (F := Ideal) p s w (ix2 r j) = branch p s w r j := by
  rw [val_main_v25_apply]
  refine Finset.sum_congr rfl fun k _ => ?_
  have el : lidx_main_v25 (ix2 r j) k = ix2 r k := funext fun a => match a with | ⟨0, _⟩ => rfl | ⟨1, _⟩ => rfl
  have er : ridx_main_v25 (ix2 r j) k = ix2 k j := funext fun a => match a with | ⟨0, _⟩ => rfl | ⟨1, _⟩ => rfl
  rw [el, er, val_main_v24_apply, val_main_v23_apply, val_main_v3_apply]
  have ew : idx_main_v23 (idx_main_v24 (ix2 k j)) = ix3 1 k j := funext fun a => Fin.ext (match a with
    | ⟨0, _⟩ => rfl
    | ⟨1, _⟩ => by show (k.val * 2048 + j.val) / 2048 % 1024 = k.val; omega
    | ⟨2, _⟩ => by show (k.val * 2048 + j.val) % 2048 = j.val; omega)
  rw [ew]
  exact congrArg (fun x : EReal => x * w (ix3 1 k j)) (joined_at p s r k)

/-- The reference's first gate at an element. -/
theorem gate_a (z : FVec Ideal S16384x12288 .f32) (r : Fin 16384) (j : Fin 2048) :
    val_main_v12 (F := Ideal) z (ix2 r j) = Ideal.logistic (z (ix2 r ⟨8192 + j.val, by omega⟩)) := by
  have ez : idx_main_v4 (idx_main_v5 (ix2 r j)) = ix2 r ⟨8192 + j.val, by omega⟩ := funext fun a => Fin.ext (match a with
    | ⟨0, _⟩ => rfl
    | ⟨1, _⟩ => rfl)
  rw [val_main_v12_apply, val_main_v11_apply, val_main_cst_0_apply, val_main_v10_apply, val_main_v9_apply, val_main_cst_apply,
    val_main_v8_apply, val_main_v7_apply, val_main_v5_apply, val_main_v4_apply, ez]
  show Ideal.div (Ideal.ofBits .f32 0x3F800000#32) (Ideal.ofBits .f32 0x3F800000#32 + Ideal.exp (-(z _))) = _
  rw [lit_one]
  rfl

/-- The reference's second gate at an element. -/
theorem gate_b (z : FVec Ideal S16384x12288 .f32) (r : Fin 16384) (j : Fin 2048) :
    val_main_v22 (F := Ideal) z (ix2 r j) = Ideal.logistic (z (ix2 r ⟨10240 + j.val, by omega⟩)) := by
  have ez : idx_main_v4 (idx_main_v6 (ix2 r j)) = ix2 r ⟨10240 + j.val, by omega⟩ := funext fun a => Fin.ext (match a with
    | ⟨0, _⟩ => rfl
    | ⟨1, _⟩ => by show 8192 + (2048 + j.val) = 10240 + j.val; omega)
  rw [val_main_v22_apply, val_main_v21_apply, val_main_cst_2_apply, val_main_v20_apply, val_main_v19_apply, val_main_cst_1_apply,
    val_main_v18_apply, val_main_v17_apply, val_main_v6_apply, val_main_v4_apply, ez]
  show Ideal.div (Ideal.ofBits .f32 0x3F800000#32) (Ideal.ofBits .f32 0x3F800000#32 + Ideal.exp (-(z _))) = _
  rw [lit_one]
  rfl

/-- The reference's result at an element. -/
theorem result_at (p s p' s' : FVec Ideal S8192x1024 .bf16) (w w' : FVec Ideal S2x1024x2048 .f32)
    (z : FVec Ideal S16384x12288 .f32) (r : Fin 16384) (j : Fin 2048) :
    val_main_v28 (F := Ideal) p s p' s' w w' z (ix2 r j)
      = gatedSum (z (ix2 r ⟨8192 + j.val, by omega⟩)) (branch p s w r j) (z (ix2 r ⟨10240 + j.val, by omega⟩)) (branch p' s' w' r j) := by
  rw [val_main_v28_apply, val_main_v27_apply, val_main_v16_apply, val_main_v26_apply, gate_a, gate_b, branch_a, branch_b]
  rfl

/-- A row of the chosen block is the row of the joined rows. -/
theorem chosen (p s : FVec Ideal S8192x1024 .bf16) (x y : FVec Ideal S512x1024 .bf16) (n : Nat) (hn : n < 32) (r : Fin 512) (k : Fin 1024)
    (hx : x (ix2 r k) = p (ix2 ⟨min n 15 * 512 + r.val, by omega⟩ k))
    (hy : y (ix2 r k) = s (ix2 ⟨(n - 16) * 512 + r.val, by omega⟩ k)) :
    (if n < 16 then x else y) (ix2 r k) = rowOf p s ⟨n * 512 + r.val, by omega⟩ k := by
  unfold rowOf
  by_cases h : n < 16
  · rw [if_pos h, dif_pos (show n * 512 + r.val < 8192 by omega), hx]
    exact congrArg (fun i => p (ix2 i k)) (Fin.ext (by show min n 15 * 512 + r.val = n * 512 + r.val; rw [Nat.min_eq_left (by omega)]))
  · rw [if_neg h, dif_neg (show ¬ n * 512 + r.val < 8192 by omega), hy]
    exact congrArg (fun i => s (ix2 i k)) (Fin.ext (by show (n - 16) * 512 + r.val = n * 512 + r.val - 8192; omega))

/-- The merged rows after the run are the reference's. -/
theorem final (c : Dev nD) : (dats m 0 c).arrAt 8 cfg0.N
    = val_main_v28 (F := Ideal) (yapOf m c) (yasOf m c) (ybpOf m c) (ybsOf m c) (whOf m c) (wnOf m c) (zOf m c) := by
  refine (dats m 0 c).arrAt_eq_of_covers 8 _ (by decide +kernel) fun t _ y => ?_
  blk_simp
  rw [after0_8]
  idx_vars y
  have hp := point_lt t
  refine (out8_at t _ _ _ _ _ _ _ _ y0 y1).trans ?_
  simp only [block_wh, block_wn, block_ga, block_gb,
    fun k => chosen (yapOf m c) (yasOf m c) (iblk m c 0 t) (iblk m c 1 t) (t.val / 2) (by omega) y0 k (block_yap m c t y0 k) (block_yas m c t y0 k),
    fun k => chosen (ybpOf m c) (ybsOf m c) (iblk m c 2 t) (iblk m c 3 t) (t.val / 2) (by omega) y0 k (block_ybp m c t y0 k) (block_ybs m c t y0 k)]
  refine (result_at (yapOf m c) (yasOf m c) (ybpOf m c) (ybsOf m c) (whOf m c) (wnOf m c) (zOf m c)
    ⟨t.val / 2 * 512 + y0.val, by omega⟩ ⟨t.val % 2 * 1024 + y1.val, by omega⟩).symm.trans ?_
  blk_ext [idx t]

end Cert.LateMerge
end
-- ==== Proof.LateMergeClaims.lean ====
/- The claims about the second layer's merge of the two branches. -/
module

public import proofs.«01_k».proof.Proof.LateMergeKernelValue
public import proofs.«01_k».proof.Defs
public import proofs.«01_k».proof.Proof.Gen.LateMergeReferenceIdeal.Run
public import Idealize.ShloMosaic.Lib.Quiescent

@[expose] public section

set_option maxRecDepth 16384

noncomputable section

open Idealize.ShloMosaic Idealize.ShloMosaic.TcCoe Idealize.SL.Sem

namespace Cert.LateMerge

/-- The merge's reference ends without a fault and leaves its arguments. -/
theorem frame_reference : Cert.quiescent_LateMergeReferenceIdeal := fun m ρ _ =>
  (θ_run Cert.LateMergeReferenceIdeal.defs _ _).mono (fun r h => ⟨fun c => (h c).2,
      Idealize.ShloMosaic.sem_eq_zero_of_no_sems (by decide) r.2⟩)
    (Cert.LateMergeReferenceIdeal.Value.run (F := Ideal) m ρ)

/-- Kernel and reference leave the same merged rows. -/
theorem algebraic : Cert.algebraic_LateMergeKernelIdeal_LateMergeReferenceIdeal := by
  intro m g m' g' hpre hagree
  refine ⟨fun c => _, Cert.LateMergeKernelIdeal.Value.run_blocks m g, ?_⟩
  refine (θ_run Cert.LateMergeReferenceIdeal.defs _ _).mono (fun r h c => ?_) (Cert.LateMergeReferenceIdeal.Value.run (F := Ideal) m' g')
  obtain ⟨h0, h1⟩ := h c
  obtain ⟨e0, e1, e2, e3, e4, e5, e6⟩ := hagree c
  refine ⟨h0.trans ((Cert.LateMergeReferenceIdeal.Read.val_main_v28_eq _ _ _ _ _ _ _).trans ?_), h1⟩
  refine Eq.trans ?_ (final m c).symm
  exact (congr (congr (congr (congr (congr (congr (congrArg (Cert.LateMergeReferenceIdeal.Read.val_main_v28 (F := Ideal)) e0) e1) e2) e3) e4) e5) e6)

end Cert.LateMerge
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.CtxKernel
public import proofs.«01_k».proof.Proof.Gen.CtxKernel.Skeleton
public import proofs.«01_k».proof.Proof.Gen.CtxKernel.Launch
public import proofs.«01_k».proof.Proof.Gen.CtxKernel.Points
public import proofs.«01_k».proof.Proof.Gen.CtxKernel.Frame
public import proofs.«01_k».proof.Proof.Gen.CtxKernelIdeal
public import proofs.«01_k».proof.Proof.Gen.CtxKernelIdeal.Skeleton
public import proofs.«01_k».proof.Proof.Gen.CtxKernelIdeal.Launch
public import proofs.«01_k».proof.Proof.Gen.CtxKernelIdeal.Points
public import proofs.«01_k».proof.Proof.Gen.CtxKernelIdeal.Frame
public import proofs.«01_k».proof.Proof.Gen.CtxReferenceIdeal
public import proofs.«01_k».proof.Proof.Gen.Pre_finite_keys
public import proofs.«01_k».proof.Proof.Gen.Pre_finite_gains
public import proofs.«01_k».proof.Proof.Gen.KernelIdeal.Value
public import proofs.«01_k».proof.Proof.Gen.CtxKernelIdeal.Value
public import proofs.«01_k».proof.Proof.Gen.CtxReferenceIdeal.Run
public import proofs.«01_k».proof.Proof.Gen.CtxReferenceIdeal.Read
public import proofs.«01_k».proof.Proof.Gen.ReferenceIdeal.Run
public import proofs.«01_k».proof.Proof.Gen.ReferenceIdeal.Read
public import proofs.«01_k».proof.Proof.Gen.MoeKernel
public import proofs.«01_k».proof.Proof.Gen.MoeKernel.Skeleton
public import proofs.«01_k».proof.Proof.Gen.MoeKernel.Launch
public import proofs.«01_k».proof.Proof.Gen.MoeKernelIdeal
public import proofs.«01_k».proof.Proof.Gen.MoeKernelIdeal.Skeleton
public import proofs.«01_k».proof.Proof.Gen.MoeKernelIdeal.Launch
public import proofs.«01_k».proof.Proof.Gen.ProjKernel
public import proofs.«01_k».proof.Proof.Gen.LateProjKernel
public import proofs.«01_k».proof.Proof.Gen.MergeKernel
public import proofs.«01_k».proof.Proof.Gen.LateMergeKernel
public import proofs.«01_k».proof.Proof.Gen.ProjKernel.Skeleton
public import proofs.«01_k».proof.Proof.Gen.LateProjKernel.Skeleton
public import proofs.«01_k».proof.Proof.Gen.MergeKernel.Skeleton
public import proofs.«01_k».proof.Proof.Gen.LateMergeKernel.Skeleton
public import proofs.«01_k».proof.Proof.Gen.ProjKernel.Launch
public import proofs.«01_k».proof.Proof.Gen.LateProjKernel.Launch
public import proofs.«01_k».proof.Proof.Gen.MergeKernel.Launch
public import proofs.«01_k».proof.Proof.Gen.LateMergeKernel.Launch
public import proofs.«01_k».proof.Proof.Gen.ProjKernel.Points
public import proofs.«01_k».proof.Proof.Gen.LateProjKernel.Points
public import proofs.«01_k».proof.Proof.Gen.MergeKernel.Points
public import proofs.«01_k».proof.Proof.Gen.LateMergeKernel.Points
public import proofs.«01_k».proof.Proof.Gen.ProjKernel.Frame
public import proofs.«01_k».proof.Proof.Gen.LateProjKernel.Frame
public import proofs.«01_k».proof.Proof.Gen.MergeKernel.Frame
public import proofs.«01_k».proof.Proof.Gen.LateMergeKernel.Frame
public import proofs.«01_k».proof.Proof.Gen.ProjKernelIdeal
public import proofs.«01_k».proof.Proof.Gen.LateProjKernelIdeal
public import proofs.«01_k».proof.Proof.Gen.MergeKernelIdeal
public import proofs.«01_k».proof.Proof.Gen.LateMergeKernelIdeal
public import proofs.«01_k».proof.Proof.Gen.ProjKernelIdeal.Skeleton
public import proofs.«01_k».proof.Proof.Gen.LateProjKernelIdeal.Skeleton
public import proofs.«01_k».proof.Proof.Gen.MergeKernelIdeal.Skeleton
public import proofs.«01_k».proof.Proof.Gen.LateMergeKernelIdeal.Skeleton
public import proofs.«01_k».proof.Proof.Gen.ProjKernelIdeal.Launch
public import proofs.«01_k».proof.Proof.Gen.LateProjKernelIdeal.Launch
public import proofs.«01_k».proof.Proof.Gen.MergeKernelIdeal.Launch
public import proofs.«01_k».proof.Proof.Gen.LateMergeKernelIdeal.Launch
public import proofs.«01_k».proof.Proof.Gen.ProjKernelIdeal.Points
public import proofs.«01_k».proof.Proof.Gen.LateProjKernelIdeal.Points
public import proofs.«01_k».proof.Proof.Gen.MergeKernelIdeal.Points
public import proofs.«01_k».proof.Proof.Gen.LateMergeKernelIdeal.Points
public import proofs.«01_k».proof.Proof.Gen.ProjKernelIdeal.Frame
public import proofs.«01_k».proof.Proof.Gen.LateProjKernelIdeal.Frame
public import proofs.«01_k».proof.Proof.Gen.MergeKernelIdeal.Frame
public import proofs.«01_k».proof.Proof.Gen.LateMergeKernelIdeal.Frame
public import proofs.«01_k».proof.Proof.Gen.MoeReferenceIdeal
public import proofs.«01_k».proof.Proof.Gen.MoeReferenceIdeal.Run
public import proofs.«01_k».proof.Proof.Gen.MoeReferenceIdeal.Read
public import proofs.«01_k».proof.Proof.Gen.ProjReferenceIdeal
public import proofs.«01_k».proof.Proof.Gen.LateProjReferenceIdeal
public import proofs.«01_k».proof.Proof.Gen.MergeReferenceIdeal
public import proofs.«01_k».proof.Proof.Gen.LateMergeReferenceIdeal
public import proofs.«01_k».proof.Proof.Gen.ProjReferenceIdeal.Run
public import proofs.«01_k».proof.Proof.Gen.LateProjReferenceIdeal.Run
public import proofs.«01_k».proof.Proof.Gen.MergeReferenceIdeal.Run
public import proofs.«01_k».proof.Proof.Gen.LateMergeReferenceIdeal.Run
public import proofs.«01_k».proof.Proof.Gen.ProjReferenceIdeal.Read
public import proofs.«01_k».proof.Proof.Gen.LateProjReferenceIdeal.Read
public import proofs.«01_k».proof.Proof.Gen.MergeReferenceIdeal.Read
public import proofs.«01_k».proof.Proof.Gen.LateMergeReferenceIdeal.Read
public import proofs.«01_k».proof.Proof.Gen.ProjKernelIdeal.Value
public import proofs.«01_k».proof.Proof.Gen.LateProjKernelIdeal.Value
public import proofs.«01_k».proof.Proof.Gen.MergeKernelIdeal.Value
public import proofs.«01_k».proof.Proof.Gen.LateMergeKernelIdeal.Value
public import proofs.«01_k».proof.Proof.Gen.Pre_tables_in_range
public import proofs.«01_k».proof.Proof.NaClaims
public import proofs.«01_k».proof.Proof.CtxClaims
public import proofs.«01_k».proof.Proof.MoeClaims
public import proofs.«01_k».proof.Proof.ProjClaims
public import proofs.«01_k».proof.Proof.LateProjClaims
public import proofs.«01_k».proof.Proof.MergeClaims
public import proofs.«01_k».proof.Proof.LateMergeClaims
public import Idealize.ShloMosaic.Adequacy
public import Idealize.ShloMosaic.Init

@[expose] public section

noncomputable section

namespace Cert.Proof

open Idealize.ShloMosaic Idealize.SL.Sem Cert.Kernel

/-- Every program ends and leaves its arguments, and the attention kernels, the experts' feed-forward, the projections and the merges compute their references' results. -/
theorem claim : Cert.Claim :=
  ⟨Cert.Kernel.Gen.facts, Cert.KernelIdeal.Gen.facts, Cert.ReferenceIdeal.Gen.facts,
    Cert.CtxKernel.Gen.facts, Cert.CtxKernelIdeal.Gen.facts, Cert.CtxReferenceIdeal.Gen.facts,
    Cert.MoeKernel.Gen.facts, Cert.MoeKernelIdeal.Gen.facts, Cert.MoeReferenceIdeal.Gen.facts,
    Cert.ProjKernel.Gen.facts, Cert.ProjKernelIdeal.Gen.facts, Cert.ProjReferenceIdeal.Gen.facts,
    Cert.MergeKernel.Gen.facts, Cert.MergeKernelIdeal.Gen.facts, Cert.MergeReferenceIdeal.Gen.facts,
    Cert.LateProjKernel.Gen.facts, Cert.LateProjKernelIdeal.Gen.facts, Cert.LateProjReferenceIdeal.Gen.facts,
    Cert.LateMergeKernel.Gen.facts, Cert.LateMergeKernelIdeal.Gen.facts, Cert.LateMergeReferenceIdeal.Gen.facts,
    Cert.Pre_finite_keys.Gen.facts, Cert.Pre_finite_gains.Gen.facts, Cert.Pre_tables_in_range.Gen.facts,
    fun m ρ _ => Cert.Kernel.Gen.frame m ρ,
    fun m ρ _ => Cert.KernelIdeal.Gen.frame m ρ,
    fun m ρ _ => Cert.KernelIdeal.Gen.frame m ρ,
    fun m ρ _ => Cert.NaAttention.frame_reference m ρ trivial,
    fun m ρ _ => Cert.NaAttention.frame_reference m ρ trivial,
    fun m ρ _ => Cert.CtxKernel.Gen.frame m ρ,
    fun m ρ _ => Cert.CtxKernelIdeal.Gen.frame m ρ,
    fun m ρ _ => Cert.CtxKernelIdeal.Gen.frame m ρ,
    fun m ρ _ => Cert.CtxAttention.frame_reference m ρ trivial,
    fun m ρ _ => Cert.CtxAttention.frame_reference m ρ trivial,
    Cert.Swiglu.frame_kernel,
    Cert.Swiglu.frame_kernel_ideal,
    fun m ρ _ => Cert.Swiglu.frame_reference m ρ trivial,
    fun m ρ _ => Cert.Swiglu.frame_reference m ρ trivial,
    fun m ρ _ => Cert.ProjKernel.Gen.frame m ρ,
    fun m ρ _ => Cert.ProjKernelIdeal.Gen.frame m ρ,
    fun m ρ _ => Cert.Projection.frame_reference m ρ trivial,
    fun m ρ _ => Cert.MergeKernel.Gen.frame m ρ,
    fun m ρ _ => Cert.MergeKernelIdeal.Gen.frame m ρ,
    fun m ρ _ => Cert.Merge.frame_reference m ρ trivial,
    fun m ρ _ => Cert.LateProjKernel.Gen.frame m ρ,
    fun m ρ _ => Cert.LateProjKernelIdeal.Gen.frame m ρ,
    fun m ρ _ => Cert.LateProjection.frame_reference m ρ trivial,
    fun m ρ _ => Cert.LateMergeKernel.Gen.frame m ρ,
    fun m ρ _ => Cert.LateMergeKernelIdeal.Gen.frame m ρ,
    fun m ρ _ => Cert.LateMerge.frame_reference m ρ trivial,
    trivial, Cert.NaAttention.algebraic, trivial, Cert.CtxAttention.algebraic, trivial, Cert.Swiglu.algebraic,
    trivial, Cert.Projection.algebraic, trivial, Cert.Merge.algebraic,
    trivial, Cert.LateProjection.algebraic, trivial, Cert.LateMerge.algebraic⟩

end Cert.Proof

end
